-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S1024x1024 : Shape := ⟨2, ![1024, 1024]⟩
abbrev S2x256 : Shape := ⟨2, ![2, 256]⟩
abbrev S2x4x64x64x128 : Shape := ⟨5, ![2, 4, 64, 64, 128]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S2x256 : S_.BroadcastsInDim S2x256 (![] : Fin 0 → Fin S2x256.rank)
  reducesTo_S2x256_S_d0_1 : S2x256.ReducesTo [0, 1] S_
  bcast_S_S2x4x64x64x128 : S_.BroadcastsInDim S2x4x64x64x128 (![] : Fin 0 → Fin S2x4x64x64x128.rank)
  reducesTo_S2x4x64x64x128_S_d0_1_2_3_4 : S2x4x64x64x128.ReducesTo [0, 1, 2, 3, 4] S_

variable [Facts]

def fn {F : FTy → Type} [FloatOps F] (main_arg0 : FVec F S1024x1024 .f32) (main_arg1 : FVec F S2x256 .f32) (main_arg2 : FVec F S2x256 .f32) (main_arg3 : FVec F S2x4x64x64x128 .f32) : IVec S_ 1 × IVec S_ 1 × IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S2x256 .f32 := Host.absf main_arg1
  let main_cst_0 : FVec F S_ .f32 := constant S_ .f32 0x7F800000#32
  let main_v5 : FVec F S2x256 .f32 := broadcastInDim S2x256 ![] bcast_S_S2x256 main_cst_0
  let main_v6 : IVec S2x256 1 := cmpf .olt main_v4 main_v5
  let main_c_1 : IVec S_ 1 := constantI S_ 1 1#1
  let main_v7 : IVec S_ 1 := (fun x v => Host.reduce IntOp.andi x v reducesTo_S2x256_S_d0_1 h_S_) main_v6 main_c_1
  let main_v8 : FVec F S2x4x64x64x128 .f32 := Host.absf main_arg3
  let main_cst_2 : FVec F S_ .f32 := constant S_ .f32 0x7F800000#32
  let main_v9 : FVec F S2x4x64x64x128 .f32 := broadcastInDim S2x4x64x64x128 ![] bcast_S_S2x4x64x64x128 main_cst_2
  let main_v10 : IVec S2x4x64x64x128 1 := cmpf .olt main_v8 main_v9
  let main_c_3 : IVec S_ 1 := constantI S_ 1 1#1
  let main_v11 : IVec S_ 1 := (fun x v => Host.reduce IntOp.andi x v reducesTo_S2x4x64x64x128_S_d0_1_2_3_4 h_S_) main_v10 main_c_3
  (main_v3, main_v7, main_v11)
-- ==== Kernel.lean ====
abbrev S1024x1024 : Shape := ⟨2, ![1024, 1024]⟩
abbrev S2x256 : Shape := ⟨2, ![2, 256]⟩
abbrev S2x4x64x64x128 : Shape := ⟨5, ![2, 4, 64, 64, 128]⟩
abbrev S2x1x256 : Shape := ⟨3, ![2, 1, 256]⟩
abbrev S1024x256 : Shape := ⟨2, ![1024, 256]⟩
abbrev S1024x128 : Shape := ⟨2, ![1024, 128]⟩
abbrev S2x128 : Shape := ⟨2, ![2, 128]⟩
abbrev S1x1x128 : Shape := ⟨3, ![1, 1, 128]⟩
abbrev S1x2x64x64x128 : Shape := ⟨5, ![1, 2, 64, 64, 128]⟩
abbrev S128x128 : Shape := ⟨2, ![128, 128]⟩
abbrev S128 : Shape := ⟨1, ![128]⟩
abbrev S1x128 : Shape := ⟨2, ![1, 128]⟩
abbrev S64x128 : Shape := ⟨2, ![64, 128]⟩
abbrev S1x1x1x64x128 : Shape := ⟨5, ![1, 1, 1, 64, 128]⟩

abbrev nBuf : Space → Nat
  | .hbm => 7
  | .vmem => 23
  | .smem => 0
  | _ => 0

abbrev bufTy : (tb : Table) → Fin (tcTables nBuf tb) → BufTy
  | .hbm, ⟨0, _⟩ => ⟨S1024x1024, .f32⟩
  | .hbm, ⟨1, _⟩ => ⟨S2x256, .f32⟩
  | .hbm, ⟨2, _⟩ => ⟨S2x256, .f32⟩
  | .hbm, ⟨3, _⟩ => ⟨S2x4x64x64x128, .f32⟩
  | .hbm, ⟨4, _⟩ => ⟨S2x1x256, .f32⟩
  | .hbm, ⟨5, _⟩ => ⟨S1024x256, .bf16⟩
  | .hbm, ⟨6, _⟩ => ⟨S2x4x64x64x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S2x128, .f32⟩
  | .local _ .vmem, ⟨9, _⟩ => ⟨S2x128, .f32⟩
  | .local _ .vmem, ⟨10, _⟩ => ⟨S1x1x128, .f32⟩
  | .local _ .vmem, ⟨11, _⟩ => ⟨S1x1x128, .f32⟩
  | .local _ .vmem, ⟨12, _⟩ => ⟨S1x2x64x64x128, .f32⟩
  | .local _ .vmem, ⟨13, _⟩ => ⟨S1x2x64x64x128, .f32⟩
  | .local _ .vmem, ⟨14, _⟩ => ⟨S1024x128, .bf16⟩
  | .local _ .vmem, ⟨15, _⟩ => ⟨S1024x128, .bf16⟩
  | .local _ .vmem, ⟨16, _⟩ => ⟨S1x2x64x64x128, .f32⟩
  | .local _ .vmem, ⟨17, _⟩ => ⟨S1x2x64x64x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c64_i32 : BitVec 32 := 64#32
  let v49 : BitVec 32 := Scalar.addi c0_i32 c64_i32
  let c1_i32 : BitVec 32 := 1#32
  ⟨c0_i32, v49, c1_i32⟩
def k0_off1 (k0_t1 : Fin k0_t1_loop.trips) : Fin 2 → Nat :=
  let c0_i32_400 : BitVec 32 := 0#32
  let c0_i32 : BitVec 32 := 0#32
  let c1_i32 : BitVec 32 := 1#32
  let arg15 : BitVec 32 := Scf.iv c0_i32 c1_i32 k0_t1
  let v660 : BitVec 32 := Scalar.addi c0_i32_400 arg15
  let v661 : Index := Scalar.indexCast v660
  let c0_401 : Index := 0#32
  ![v661.toNat, 0]
def k0_off2 (k0_t1 : Fin k0_t1_loop.trips) : Fin 5 → Nat :=
  let c0_402 : Index := 0#32
  let c0_403 : Index := 0#32
  let c0_i32 : BitVec 32 := 0#32
  let c1_i32 : BitVec 32 := 1#32
  let arg15 : BitVec 32 := Scf.iv c0_i32 c1_i32 k0_t1
  let v663 : Index := Scalar.indexCast arg15
  let c0_404 : Index := 0#32
  let c0_405 : Index := 0#32
  ![0, 0, v663.toNat, 0, 0]
@[reducible] def k0_t2_loop : Scf.Loop 32 :=
  let c0_i32_32 : BitVec 32 := 0#32
  let c64_i32_33 : BitVec 32 := 64#32
  let v66 : BitVec 32 := Scalar.addi c0_i32_32 c64_i32_33
  let c1_i32_34 : BitVec 32 := 1#32
  ⟨c0_i32_32, v66, c1_i32_34⟩
def k0_off3 (k0_t2 : Fin k0_t2_loop.trips) : Fin 2 → Nat :=
  let c64_i32_400 : BitVec 32 := 64#32
  let c0_i32_32 : BitVec 32 := 0#32
  let c1_i32_34 : BitVec 32 := 1#32
  let arg15 : BitVec 32 := Scf.iv c0_i32_32 c1_i32_34 k0_t2
  let v660 : BitVec 32 := Scalar.addi c64_i32_400 arg15
  let v661 : Index := Scalar.indexCast v660
  let c0_401 : Index := 0#32
  ![v661.toNat, 0]
def k0_off4 (k0_t2 : Fin k0_t2_loop.trips) : Fin 5 → Nat :=
  let c0_402 : Index := 0#32
  let c1 : Index := 1#32
  let c0_i32_32 : BitVec 32 := 0#32
  let c1_i32_34 : BitVec 32 := 1#32
  let arg15 : BitVec 32 := Scf.iv c0_i32_32 c1_i32_34 k0_t2
  let v663 : Index := Scalar.indexCast arg15
  let c0_403 : Index := 0#32
  let c0_404 : Index := 0#32
  ![0, 1, v663.toNat, 0, 0]
@[reducible] def k0_t3_loop : Scf.Loop 32 :=
  let c0_i32_70 : BitVec 32 := 0#32
  let c64_i32_71 : BitVec 32 := 64#32
  let v130 : BitVec 32 := Scalar.addi c0_i32_70 c64_i32_71
  let c1_i32_72 : BitVec 32 := 1#32
  ⟨c0_i32_70, v130, c1_i32_72⟩
def k0_off5 (k0_t3 : Fin k0_t3_loop.trips) : Fin 2 → Nat :=
  let c0_i32_400 : BitVec 32 := 0#32
  let c0_i32_70 : BitVec 32 := 0#32
  let c1_i32_72 : BitVec 32 := 1#32
  let arg15 : BitVec 32 := Scf.iv c0_i32_70 c1_i32_72 k0_t3
  let v660 : BitVec 32 := Scalar.addi c0_i32_400 arg15
  let v661 : Index := Scalar.indexCast v660
  let c0_401 : Index := 0#32
  ![v661.toNat, 0]
def k0_off6 (k0_t3 : Fin k0_t3_loop.trips) : Fin 5 → Nat :=
  let c0_402 : Index := 0#32
  let c0_403 : Index := 0#32
  let c0_i32_70 : BitVec 32 := 0#32
  let c1_i32_72 : BitVec 32 := 1#32
  let arg15 : BitVec 32 := Scf.iv c0_i32_70 c1_i32_72 k0_t3
  let v663 : Index := Scalar.indexCast arg15
  let c0_404 : Index := 0#32
  let c0_405 : Index := 0#32
  ![0, 0, v663.toNat, 0, 0]
@[reducible] def k0_t4_loop : Scf.Loop 32 :=
  let c0_i32_82 : BitVec 32 := 0#32
  let c64_i32_83 : BitVec 32 := 64#32
  let v147 : BitVec 32 := Scalar.addi c0_i32_82 c64_i32_83
  let c1_i32_84 : BitVec 32 := 1#32
  ⟨c0_i32_82, v147, c1_i32_84⟩
def k0_off7 (k0_t4 : Fin k0_t4_loop.trips) : Fin 2 → Nat :=
  let c64_i32_400 : BitVec 32 := 64#32
  let c0_i32_82 : BitVec 32 := 0#32
  let c1_i32_84 : BitVec 32 := 1#32
  let arg15 : BitVec 32 := Scf.iv c0_i32_82 c1_i32_84 k0_t4
  let v660 : BitVec 32 := Scalar.addi c64_i32_400 arg15
  let v661 : Index := Scalar.indexCast v660
  let c0_401 : Index := 0#32
  ![v661.toNat, 0]
def k0_off8 (k0_t4 : Fin k0_t4_loop.trips) : Fin 5 → Nat :=
  let c0_402 : Index := 0#32
  let c1 : Index := 1#32
  let c0_i32_82 : BitVec 32 := 0#32
  let c1_i32_84 : BitVec 32 := 1#32
  let arg15 : BitVec 32 := Scf.iv c0_i32_82 c1_i32_84 k0_t4
  let v663 : Index := Scalar.indexCast arg15
  let c0_403 : Index := 0#32
  let c0_404 : Index := 0#32
  ![0, 1, v663.toNat, 0, 0]
@[reducible] def k0_t5_loop : Scf.Loop 32 :=
  let c0_i32_120 : BitVec 32 := 0#32
  let c64_i32_121 : BitVec 32 := 64#32
  let v211 : BitVec 32 := Scalar.addi c0_i32_120 c64_i32_121
  let c1_i32_122 : BitVec 32 := 1#32
  ⟨c0_i32_120, v211, c1_i32_122⟩
def k0_off9 (k0_t5 : Fin k0_t5_loop.trips) : Fin 2 → Nat :=
  let c0_i32_400 : BitVec 32 := 0#32
  let c0_i32_120 : BitVec 32 := 0#32
  let c1_i32_122 : BitVec 32 := 1#32
  let arg15 : BitVec 32 := Scf.iv c0_i32_120 c1_i32_122 k0_t5
  let v660 : BitVec 32 := Scalar.addi c0_i32_400 arg15
  let v661 : Index := Scalar.indexCast v660
  let c0_401 : Index := 0#32
  ![v661.toNat, 0]
def k0_off10 (k0_t5 : Fin k0_t5_loop.trips) : Fin 5 → Nat :=
  let c0_402 : Index := 0#32
  let c0_403 : Index := 0#32
  let c0_i32_120 : BitVec 32 := 0#32
  let c1_i32_122 : BitVec 32 := 1#32
  let arg15 : BitVec 32 := Scf.iv c0_i32_120 c1_i32_122 k0_t5
  let v663 : Index := Scalar.indexCast arg15
  let c0_404 : Index := 0#32
  let c0_405 : Index := 0#32
  ![0, 0, v663.toNat, 0, 0]
@[reducible] def k0_t6_loop : Scf.Loop 32 :=
  let c0_i32_132 : BitVec 32 := 0#32
  let c64_i32_133 : BitVec 32 := 64#32
  let v228 : BitVec 32 := Scalar.addi c0_i32_132 c64_i32_133
  let c1_i32_134 : BitVec 32 := 1#32
  ⟨c0_i32_132, v228, c1_i32_134⟩
def k0_off11 (k0_t6 : Fin k0_t6_loop.trips) : Fin 2 → Nat :=
  let c64_i32_400 : BitVec 32 := 64#32
  let c0_i32_132 : BitVec 32 := 0#32
  let c1_i32_134 : BitVec 32 := 1#32
  let arg15 : BitVec 32 := Scf.iv c0_i32_132 c1_i32_134 k0_t6
  let v660 : BitVec 32 := Scalar.addi c64_i32_400 arg15
  let v661 : Index := Scalar.indexCast v660
  let c0_401 : Index := 0#32
  ![v661.toNat, 0]
def k0_off12 (k0_t6 : Fin k0_t6_loop.trips) : Fin 5 → Nat :=
  let c0_402 : Index := 0#32
  let c1 : Index := 1#32
  let c0_i32_132 : BitVec 32 := 0#32
  let c1_i32_134 : BitVec 32 := 1#32
  let arg15 : BitVec 32 := Scf.iv c0_i32_132 c1_i32_134 k0_t6
  let v663 : Index := Scalar.indexCast arg15
  let c0_403 : Index := 0#32
  let c0_404 : Index := 0#32
  ![0, 1, v663.toNat, 0, 0]
@[reducible] def k0_t7_loop : Scf.Loop 32 :=
  let c0_i32_170 : BitVec 32 := 0#32
  let c64_i32_171 : BitVec 32 := 64#32
  let v292 : BitVec 32 := Scalar.addi c0_i32_170 c64_i32_171
  let c1_i32_172 : BitVec 32 := 1#32
  ⟨c0_i32_170, v292, c1_i32_172⟩
def k0_off13 (k0_t7 : Fin k0_t7_loop.trips) : Fin 2 → Nat :=
  let c0_i32_400 : BitVec 32 := 0#32
  let c0_i32_170 : BitVec 32 := 0#32
  let c1_i32_172 : BitVec 32 := 1#32
  let arg15 : BitVec 32 := Scf.iv c0_i32_170 c1_i32_172 k0_t7
  let v660 : BitVec 32 := Scalar.addi c0_i32_400 arg15
  let v661 : Index := Scalar.indexCast v660
  let c0_401 : Index := 0#32
  ![v661.toNat, 0]
def k0_off14 (k0_t7 : Fin k0_t7_loop.trips) : Fin 5 → Nat :=
  let c0_402 : Index := 0#32
  let c0_403 : Index := 0#32
  let c0_i32_170 : BitVec 32 := 0#32
  let c1_i32_172 : BitVec 32 := 1#32
  let arg15 : BitVec 32 := Scf.iv c0_i32_170 c1_i32_172 k0_t7
  let v663 : Index := Scalar.indexCast arg15
  let c0_404 : Index := 0#32
  let c0_405 : Index := 0#32
  ![0, 0, v663.toNat, 0, 0]
@[reducible] def k0_t8_loop : Scf.Loop 32 :=
  let c0_i32_182 : BitVec 32 := 0#32
  let c64_i32_183 : BitVec 32 := 64#32
  let v309 : BitVec 32 := Scalar.addi c0_i32_182 c64_i32_183
  let c1_i32_184 : BitVec 32 := 1#32
  ⟨c0_i32_182, v309, c1_i32_184⟩
def k0_off15 (k0_t8 : Fin k0_t8_loop.trips) : Fin 2 → Nat :=
  let c64_i32_400 : BitVec 32 := 64#32
  let c0_i32_182 : BitVec 32 := 0#32
  let c1_i32_184 : BitVec 32 := 1#32
  let arg15 : BitVec 32 := Scf.iv c0_i32_182 c1_i32_184 k0_t8
  let v660 : BitVec 32 := Scalar.addi c64_i32_400 arg15
  let v661 : Index := Scalar.indexCast v660
  let c0_401 : Index := 0#32
  ![v661.toNat, 0]
def k0_off16 (k0_t8 : Fin k0_t8_loop.trips) : Fin 5 → Nat :=
  let c0_402 : Index := 0#32
  let c1 : Index := 1#32
  let c0_i32_182 : BitVec 32 := 0#32
  let c1_i32_184 : BitVec 32 := 1#32
  let arg15 : BitVec 32 := Scf.iv c0_i32_182 c1_i32_184 k0_t8
  let v663 : Index := Scalar.indexCast arg15
  let c0_403 : Index := 0#32
  let c0_404 : Index := 0#32
  ![0, 1, v663.toNat, 0, 0]
@[reducible] def k0_t9_loop : Scf.Loop 32 :=
  let c0_i32_220 : BitVec 32 := 0#32
  let c64_i32_221 : BitVec 32 := 64#32
  let v373 : BitVec 32 := Scalar.addi c0_i32_220 c64_i32_221
  let c1_i32_222 : BitVec 32 := 1#32
  ⟨c0_i32_220, v373, c1_i32_222⟩
def k0_off17 (k0_t9 : Fin k0_t9_loop.trips) : Fin 2 → Nat :=
  let c0_i32_400 : BitVec 32 := 0#32
  let c0_i32_220 : BitVec 32 := 0#32
  let c1_i32_222 : BitVec 32 := 1#32
  let arg15 : BitVec 32 := Scf.iv c0_i32_220 c1_i32_222 k0_t9
  let v660 : BitVec 32 := Scalar.addi c0_i32_400 arg15
  let v661 : Index := Scalar.indexCast v660
  let c0_401 : Index := 0#32
  ![v661.toNat, 0]
def k0_off18 (k0_t9 : Fin k0_t9_loop.trips) : Fin 5 → Nat :=
  let c0_402 : Index := 0#32
  let c0_403 : Index := 0#32
  let c0_i32_220 : BitVec 32 := 0#32
  let c1_i32_222 : BitVec 32 := 1#32
  let arg15 : BitVec 32 := Scf.iv c0_i32_220 c1_i32_222 k0_t9
  let v663 : Index := Scalar.indexCast arg15
  let c0_404 : Index := 0#32
  let c0_405 : Index := 0#32
  ![0, 0, v663.toNat, 0, 0]
@[reducible] def k0_t10_loop : Scf.Loop 32 :=
  let c0_i32_232 : BitVec 32 := 0#32
  let c64_i32_233 : BitVec 32 := 64#32
  let v390 : BitVec 32 := Scalar.addi c0_i32_232 c64_i32_233
  let c1_i32_234 : BitVec 32 := 1#32
  ⟨c0_i32_232, v390, c1_i32_234⟩
def k0_off19 (k0_t10 : Fin k0_t10_loop.trips) : Fin 2 → Nat :=
  let c64_i32_400 : BitVec 32 := 64#32
  let c0_i32_232 : BitVec 32 := 0#32
  let c1_i32_234 : BitVec 32 := 1#32
  let arg15 : BitVec 32 := Scf.iv c0_i32_232 c1_i32_234 k0_t10
  let v660 : BitVec 32 := Scalar.addi c64_i32_400 arg15
  let v661 : Index := Scalar.indexCast v660
  let c0_401 : Index := 0#32
  ![v661.toNat, 0]
def k0_off20 (k0_t10 : Fin k0_t10_loop.trips) : Fin 5 → Nat :=
  let c0_402 : Index := 0#32
  let c1 : Index := 1#32
  let c0_i32_232 : BitVec 32 := 0#32
  let c1_i32_234 : BitVec 32 := 1#32
  let arg15 : BitVec 32 := Scf.iv c0_i32_232 c1_i32_234 k0_t10
  let v663 : Index := Scalar.indexCast arg15
  let c0_403 : Index := 0#32
  let c0_404 : Index := 0#32
  ![0, 1, v663.toNat, 0, 0]
@[reducible] def k0_t11_loop : Scf.Loop 32 :=
  let c0_i32_270 : BitVec 32 := 0#32
  let c64_i32_271 : BitVec 32 := 64#32
  let v454 : BitVec 32 := Scalar.addi c0_i32_270 c64_i32_271
  let c1_i32_272 : BitVec 32 := 1#32
  ⟨c0_i32_270, v454, c1_i32_272⟩
def k0_off21 (k0_t11 : Fin k0_t11_loop.trips) : Fin 2 → Nat :=
  let c0_i32_400 : BitVec 32 := 0#32
  let c0_i32_270 : BitVec 32 := 0#32
  let c1_i32_272 : BitVec 32 := 1#32
  let arg15 : BitVec 32 := Scf.iv c0_i32_270 c1_i32_272 k0_t11
  let v660 : BitVec 32 := Scalar.addi c0_i32_400 arg15
  let v661 : Index := Scalar.indexCast v660
  let c0_401 : Index := 0#32
  ![v661.toNat, 0]
def k0_off22 (k0_t11 : Fin k0_t11_loop.trips) : Fin 5 → Nat :=
  let c0_402 : Index := 0#32
  let c0_403 : Index := 0#32
  let c0_i32_270 : BitVec 32 := 0#32
  let c1_i32_272 : BitVec 32 := 1#32
  let arg15 : BitVec 32 := Scf.iv c0_i32_270 c1_i32_272 k0_t11
  let v663 : Index := Scalar.indexCast arg15
  let c0_404 : Index := 0#32
  let c0_405 : Index := 0#32
  ![0, 0, v663.toNat, 0, 0]
@[reducible] def k0_t12_loop : Scf.Loop 32 :=
  let c0_i32_282 : BitVec 32 := 0#32
  let c64_i32_283 : BitVec 32 := 64#32
  let v471 : BitVec 32 := Scalar.addi c0_i32_282 c64_i32_283
  let c1_i32_284 : BitVec 32 := 1#32
  ⟨c0_i32_282, v471, c1_i32_284⟩
def k0_off23 (k0_t12 : Fin k0_t12_loop.trips) : Fin 2 → Nat :=
  let c64_i32_400 : BitVec 32 := 64#32
  let c0_i32_282 : BitVec 32 := 0#32
  let c1_i32_284 : BitVec 32 := 1#32
  let arg15 : BitVec 32 := Scf.iv c0_i32_282 c1_i32_284 k0_t12
  let v660 : BitVec 32 := Scalar.addi c64_i32_400 arg15
  let v661 : Index := Scalar.indexCast v660
  let c0_401 : Index := 0#32
  ![v661.toNat, 0]
def k0_off24 (k0_t12 : Fin k0_t12_loop.trips) : Fin 5 → Nat :=
  let c0_402 : Index := 0#32
  let c1 : Index := 1#32
  let c0_i32_282 : BitVec 32 := 0#32
  let c1_i32_284 : BitVec 32 := 1#32
  let arg15 : BitVec 32 := Scf.iv c0_i32_282 c1_i32_284 k0_t12
  let v663 : Index := Scalar.indexCast arg15
  let c0_403 : Index := 0#32
  let c0_404 : Index := 0#32
  ![0, 1, v663.toNat, 0, 0]
@[reducible] def k0_t13_loop : Scf.Loop 32 :=
  let c0_i32_320 : BitVec 32 := 0#32
  let c64_i32_321 : BitVec 32 := 64#32
  let v535 : BitVec 32 := Scalar.addi c0_i32_320 c64_i32_321
  let c1_i32_322 : BitVec 32 := 1#32
  ⟨c0_i32_320, v535, c1_i32_322⟩
def k0_off25 (k0_t13 : Fin k0_t13_loop.trips) : Fin 2 → Nat :=
  let c0_i32_400 : BitVec 32 := 0#32
  let c0_i32_320 : BitVec 32 := 0#32
  let c1_i32_322 : BitVec 32 := 1#32
  let arg15 : BitVec 32 := Scf.iv c0_i32_320 c1_i32_322 k0_t13
  let v660 : BitVec 32 := Scalar.addi c0_i32_400 arg15
  let v661 : Index := Scalar.indexCast v660
  let c0_401 : Index := 0#32
  ![v661.toNat, 0]
def k0_off26 (k0_t13 : Fin k0_t13_loop.trips) : Fin 5 → Nat :=
  let c0_402 : Index := 0#32
  let c0_403 : Index := 0#32
  let c0_i32_320 : BitVec 32 := 0#32
  let c1_i32_322 : BitVec 32 := 1#32
  let arg15 : BitVec 32 := Scf.iv c0_i32_320 c1_i32_322 k0_t13
  let v663 : Index := Scalar.indexCast arg15
  let c0_404 : Index := 0#32
  let c0_405 : Index := 0#32
  ![0, 0, v663.toNat, 0, 0]
@[reducible] def k0_t14_loop : Scf.Loop 32 :=
  let c0_i32_332 : BitVec 32 := 0#32
  let c64_i32_333 : BitVec 32 := 64#32
  let v552 : BitVec 32 := Scalar.addi c0_i32_332 c64_i32_333
  let c1_i32_334 : BitVec 32 := 1#32
  ⟨c0_i32_332, v552, c1_i32_334⟩
def k0_off27 (k0_t14 : Fin k0_t14_loop.trips) : Fin 2 → Nat :=
  let c64_i32_400 : BitVec 32 := 64#32
  let c0_i32_332 : BitVec 32 := 0#32
  let c1_i32_334 : BitVec 32 := 1#32
  let arg15 : BitVec 32 := Scf.iv c0_i32_332 c1_i32_334 k0_t14
  let v660 : BitVec 32 := Scalar.addi c64_i32_400 arg15
  let v661 : Index := Scalar.indexCast v660
  let c0_401 : Index := 0#32
  ![v661.toNat, 0]
def k0_off28 (k0_t14 : Fin k0_t14_loop.trips) : Fin 5 → Nat :=
  let c0_402 : Index := 0#32
  let c1 : Index := 1#32
  let c0_i32_332 : BitVec 32 := 0#32
  let c1_i32_334 : BitVec 32 := 1#32
  let arg15 : BitVec 32 := Scf.iv c0_i32_332 c1_i32_334 k0_t14
  let v663 : Index := Scalar.indexCast arg15
  let c0_403 : Index := 0#32
  let c0_404 : Index := 0#32
  ![0, 1, v663.toNat, 0, 0]
@[reducible] def k0_t15_loop : Scf.Loop 32 :=
  let c0_i32_370 : BitVec 32 := 0#32
  let c64_i32_371 : BitVec 32 := 64#32
  let v616 : BitVec 32 := Scalar.addi c0_i32_370 c64_i32_371
  let c1_i32_372 : BitVec 32 := 1#32
  ⟨c0_i32_370, v616, c1_i32_372⟩
def k0_off29 (k0_t15 : Fin k0_t15_loop.trips) : Fin 2 → Nat :=
  let c0_i32_400 : BitVec 32 := 0#32
  let c0_i32_370 : BitVec 32 := 0#32
  let c1_i32_372 : BitVec 32 := 1#32
  let arg15 : BitVec 32 := Scf.iv c0_i32_370 c1_i32_372 k0_t15
  let v660 : BitVec 32 := Scalar.addi c0_i32_400 arg15
  let v661 : Index := Scalar.indexCast v660
  let c0_401 : Index := 0#32
  ![v661.toNat, 0]
def k0_off30 (k0_t15 : Fin k0_t15_loop.trips) : Fin 5 → Nat :=
  let c0_402 : Index := 0#32
  let c0_403 : Index := 0#32
  let c0_i32_370 : BitVec 32 := 0#32
  let c1_i32_372 : BitVec 32 := 1#32
  let arg15 : BitVec 32 := Scf.iv c0_i32_370 c1_i32_372 k0_t15
  let v663 : Index := Scalar.indexCast arg15
  let c0_404 : Index := 0#32
  let c0_405 : Index := 0#32
  ![0, 0, v663.toNat, 0, 0]
@[reducible] def k0_t16_loop : Scf.Loop 32 :=
  let c0_i32_382 : BitVec 32 := 0#32
  let c64_i32_383 : BitVec 32 := 64#32
  let v633 : BitVec 32 := Scalar.addi c0_i32_382 c64_i32_383
  let c1_i32_384 : BitVec 32 := 1#32
  ⟨c0_i32_382, v633, c1_i32_384⟩
def k0_off31 (k0_t16 : Fin k0_t16_loop.trips) : Fin 2 → Nat :=
  let c64_i32_400 : BitVec 32 := 64#32
  let c0_i32_382 : BitVec 32 := 0#32
  let c1_i32_384 : BitVec 32 := 1#32
  let arg15 : BitVec 32 := Scf.iv c0_i32_382 c1_i32_384 k0_t16
  let v660 : BitVec 32 := Scalar.addi c64_i32_400 arg15
  let v661 : Index := Scalar.indexCast v660
  let c0_401 : Index := 0#32
  ![v661.toNat, 0]
def k0_off32 (k0_t16 : Fin k0_t16_loop.trips) : Fin 5 → Nat :=
  let c0_402 : Index := 0#32
  let c1 : Index := 1#32
  let c0_i32_382 : BitVec 32 := 0#32
  let c1_i32_384 : BitVec 32 := 1#32
  let arg15 : BitVec 32 := Scf.iv c0_i32_382 c1_i32_384 k0_t16
  let v663 : Index := Scalar.indexCast arg15
  let c0_403 : Index := 0#32
  let c0_404 : Index := 0#32
  ![0, 1, v663.toNat, 0, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x64x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x64x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1024x1024 : Shape := ⟨2, ![1024, 1024]⟩
abbrev S2x256 : Shape := ⟨2, ![2, 256]⟩
abbrev S2x4x64x64x128 : Shape := ⟨5, ![2, 4, 64, 64, 128]⟩
abbrev S_ : Shape := ⟨0, ![]⟩
abbrev S256 : Shape := ⟨1, ![256]⟩
abbrev S1x256 : Shape := ⟨2, ![1, 256]⟩
abbrev S8x128x1024 : Shape := ⟨3, ![8, 128, 1024]⟩
abbrev S128x8x1024 : Shape := ⟨3, ![128, 8, 1024]⟩
abbrev S128x8x256 : Shape := ⟨3, ![128, 8, 256]⟩
abbrev S1x4x64x64x128 : Shape := ⟨5, ![1, 4, 64, 64, 128]⟩
abbrev S4x64x64x128 : Shape := ⟨4, ![4, 64, 64, 128]⟩
abbrev S128x4x64x64 : Shape := ⟨4, ![128, 4, 64, 64]⟩
abbrev S1x1x256 : Shape := ⟨3, ![1, 1, 256]⟩
abbrev S128x8x4x64 : Shape := ⟨4, ![128, 8, 4, 64]⟩
abbrev S128x8x8x4x64 : Shape := ⟨5, ![128, 8, 8, 4, 64]⟩
abbrev S128x8x1x4x64 : Shape := ⟨5, ![128, 8, 1, 4, 64]⟩
abbrev S128x1x8x4x64 : Shape := ⟨5, ![128, 1, 8, 4, 64]⟩
abbrev S128x8x8x4 : Shape := ⟨4, ![128, 8, 8, 4]⟩
abbrev S128x4x64x8 : Shape := ⟨4, ![128, 4, 64, 8]⟩
abbrev S128x1x4x64 : Shape := ⟨4, ![128, 1, 4, 64]⟩
abbrev S128x4x64 : Shape := ⟨3, ![128, 4, 64]⟩
abbrev S128x4x64x1 : Shape := ⟨4, ![128, 4, 64, 1]⟩
abbrev S128x8x4 : Shape := ⟨3, ![128, 8, 4]⟩
abbrev S128x8x4x1 : Shape := ⟨4, ![128, 8, 4, 1]⟩
abbrev S8x128x256 : Shape := ⟨3, ![8, 128, 256]⟩
abbrev S1024x256 : Shape := ⟨2, ![1024, 256]⟩

abbrev nBuf : Space → Nat
  | .hbm => 157
  | .vmem => 0
  | .smem => 0
  | _ => 0

abbrev hbmTy0_0 (i : Nat) : BufTy := match i % 128 with
  | 0 => ⟨S1024x1024, .f32⟩
  | 1 => ⟨S2x256, .f32⟩
  | 2 => ⟨S2x256, .f32⟩
  | 3 => ⟨S2x4x64x64x128, .f32⟩
  | 4 => ⟨S_, .f32⟩
  | 5 => ⟨S256, .f32⟩
  | 6 => ⟨S_, .f32⟩
  | 7 => ⟨S256, .f32⟩
  | 8 => ⟨S256, .f32⟩
  | 9 => ⟨S1x256, .f32⟩
  | 10 => ⟨S2x256, .f32⟩
  | 11 => ⟨S2x256, .f32⟩
  | 12 => ⟨S2x256, .f32⟩
  | 13 => ⟨S_, .f32⟩
  | 14 => ⟨S256, .f32⟩
  | 15 => ⟨S1x256, .f32⟩
  | 16 => ⟨S2x256, .f32⟩
  | 17 => ⟨S2x256, .f32⟩
  | 18 => ⟨S_, .f32⟩
  | 19 => ⟨S_, .f32⟩
  | 20 => ⟨S2x256, .f32⟩
  | 21 => ⟨S1x256, .f32⟩
  | 22 => ⟨S256, .f32⟩
  | 23 => ⟨S1x256, .f32⟩
  | 24 => ⟨S2x256, .f32⟩
  | 25 => ⟨S2x256, .f32⟩
  | 26 => ⟨S1x256, .f32⟩
  | 27 => ⟨S256, .f32⟩
  | 28 => ⟨S8x128x1024, .f32⟩
  | 29 => ⟨S128x8x1024, .f32⟩
  | 30 => ⟨S128x8x256, .f32⟩
  | 31 => ⟨S128x8x256, .f32⟩
  | 32 => ⟨S128x8x256, .f32⟩
  | 33 => ⟨S128x8x256, .f32⟩
  | 34 => ⟨S1x4x64x64x128, .f32⟩
  | 35 => ⟨S4x64x64x128, .f32⟩
  | 36 => ⟨S128x4x64x64, .f32⟩
  | 37 => ⟨S_, .f32⟩
  | 38 => ⟨S256, .f32⟩
  | 39 => ⟨S256, .f32⟩
  | 40 => ⟨S128x8x256, .f32⟩
  | 41 => ⟨S128x8x256, .f32⟩
  | 42 => ⟨S128x8x256, .f32⟩
  | 43 => ⟨S_, .f32⟩
  | 44 => ⟨S128x8x256, .f32⟩
  | 45 => ⟨S128x8x256, .f32⟩
  | 46 => ⟨S_, .f32⟩
  | 47 => ⟨S128x8x256, .f32⟩
  | 48 => ⟨S128x8x256, .f32⟩
  | 49 => ⟨S1x1x256, .f32⟩
  | 50 => ⟨S128x8x256, .f32⟩
  | 51 => ⟨S128x8x256, .f32⟩
  | 52 => ⟨S_, .f32⟩
  | 53 => ⟨S256, .f32⟩
  | 54 => ⟨S256, .f32⟩
  | 55 => ⟨S128x8x256, .f32⟩
  | 56 => ⟨S128x8x256, .f32⟩
  | 57 => ⟨S_, .f32⟩
  | 58 => ⟨S128x8x256, .f32⟩
  | 59 => ⟨S128x8x256, .f32⟩
  | 60 => ⟨S_, .f32⟩
  | 61 => ⟨S128x8x256, .f32⟩
  | 62 => ⟨S128x8x256, .f32⟩
  | 63 => ⟨S1x1x256, .f32⟩
  | 64 => ⟨S128x8x256, .f32⟩
  | 65 => ⟨S128x8x256, .f32⟩
  | 66 => ⟨S1x1x256, .f32⟩
  | 67 => ⟨S128x8x256, .f32⟩
  | 68 => ⟨S128x8x256, .f32⟩
  | 69 => ⟨S128x8x256, .f32⟩
  | 70 => ⟨S_, .f32⟩
  | 71 => ⟨S128x8x256, .f32⟩
  | 72 => ⟨S128x8x256, .f32⟩
  | 73 => ⟨S128x8x4x64, .f32⟩
  | 74 => ⟨S128x8x4x64, .f32⟩
  | 75 => ⟨S128x8x4x64, .f32⟩
  | 76 => ⟨S128x8x4x64, .f32⟩
  | 77 => ⟨S128x8x8x4x64, .i32⟩
  | 78 => ⟨S128x8x8x4x64, .i32⟩
  | 79 => ⟨S128x8x8x4x64, .i1⟩
  | 80 => ⟨S_, .f32⟩
  | 81 => ⟨S_, .f32⟩
  | 82 => ⟨S128x8x4x64, .f32⟩
  | 83 => ⟨S128x8x1x4x64, .f32⟩
  | 84 => ⟨S128x1x8x4x64, .f32⟩
  | 85 => ⟨S128x8x8x4x64, .f32⟩
  | 86 => ⟨S128x8x8x4x64, .f32⟩
  | 87 => ⟨S128x8x8x4x64, .f32⟩
  | 88 => ⟨S_, .f32⟩
  | 89 => ⟨S_, .f32⟩
  | 90 => ⟨S128x8x8x4x64, .f32⟩
  | 91 => ⟨S128x8x8x4x64, .f32⟩
  | 92 => ⟨S128x8x8x4x64, .f32⟩
  | 93 => ⟨S128x8x1x4x64, .f32⟩
  | 94 => ⟨S128x1x8x4x64, .f32⟩
  | 95 => ⟨S128x8x8x4x64, .f32⟩
  | 96 => ⟨S128x8x8x4x64, .f32⟩
  | 97 => ⟨S128x8x8x4x64, .f32⟩
  | 98 => ⟨S128x8x8x4x64, .f32⟩
  | 99 => ⟨S_, .f32⟩
  | 100 => ⟨S128x8x8x4, .f32⟩
  | 101 => ⟨S128x4x64x8, .f32⟩
  | 102 => ⟨S128x8x4x64, .f32⟩
  | 103 => ⟨S128x8x4x64, .f32⟩
  | 104 => ⟨S128x8x4x64, .f32⟩
  | 105 => ⟨S128x4x64x8, .f32⟩
  | 106 => ⟨S128x8x4x64, .f32⟩
  | 107 => ⟨S128x8x4x64, .f32⟩
  | 108 => ⟨S128x1x4x64, .f32⟩
  | 109 => ⟨S128x4x64, .f32⟩
  | 110 => ⟨S128x4x64, .f32⟩
  | 111 => ⟨S128x4x64x1, .f32⟩
  | 112 => ⟨S128x4x64x64, .f32⟩
  | 113 => ⟨S128x4x64x64, .f32⟩
  | 114 => ⟨S128x1x4x64, .f32⟩
  | 115 => ⟨S128x8x4x64, .f32⟩
  | 116 => ⟨S128x8x4x64, .f32⟩
  | 117 => ⟨S128x8x4x64, .f32⟩
  | 118 => ⟨S128x8x4x64, .f32⟩
  | 119 => ⟨S128x4x64x64, .f32⟩
  | 120 => ⟨S128x4x64x64, .f32⟩
  | 121 => ⟨S128x8x4x64, .f32⟩
  | 122 => ⟨S_, .f32⟩
  | 123 => ⟨S128x8x4, .f32⟩
  | 124 => ⟨S128x8x4x1, .f32⟩
  | 125 => ⟨S_, .f32⟩
  | 126 => ⟨S128x8x4x1, .f32⟩
  | 127 => ⟨S128x8x4x1, .f32⟩
  | _ => ⟨S1024x1024, .f32⟩

abbrev hbmTy0_1 (i : Nat) : BufTy := match i % 128 with
  | 0 => ⟨S_, .f32⟩
  | 1 => ⟨S128x8x4x1, .f32⟩
  | 2 => ⟨S128x8x4x1, .f32⟩
  | 3 => ⟨S128x8x4x1, .f32⟩
  | 4 => ⟨S128x8x4x64, .f32⟩
  | 5 => ⟨S128x8x4x64, .f32⟩
  | 6 => ⟨S128x8x256, .f32⟩
  | 7 => ⟨S1x256, .f32⟩
  | 8 => ⟨S256, .f32⟩
  | 9 => ⟨S1x1x256, .f32⟩
  | 10 => ⟨S128x8x256, .f32⟩
  | 11 => ⟨S128x8x256, .f32⟩
  | 12 => ⟨S128x8x256, .f32⟩
  | 13 => ⟨S128x8x256, .f32⟩
  | 14 => ⟨S_, .f32⟩
  | 15 => ⟨S128x8x256, .f32⟩
  | 16 => ⟨S128x8x256, .f32⟩
  | 17 => ⟨S_, .f32⟩
  | 18 => ⟨S128x8x256, .f32⟩
  | 19 => ⟨S128x8x256, .f32⟩
  | 20 => ⟨S128x8x256, .f32⟩
  | 21 => ⟨S128x8x256, .f32⟩
  | 22 => ⟨S128x8x256, .bf16⟩
  | 23 => ⟨S8x128x256, .bf16⟩
  | 24 => ⟨S1024x256, .bf16⟩
  | 25 => ⟨S1x4x64x64x128, .f32⟩
  | 26 => ⟨S4x64x64x128, .f32⟩
  | 27 => ⟨S1x4x64x64x128, .f32⟩
  | 28 => ⟨S2x4x64x64x128, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_call1_call0_cst : Ref sig .tc := ⟨.hbm, 80, rfl⟩
abbrev main_call1_call0_v0 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_9 : Ref sig .tc := ⟨.hbm, 88, rfl⟩
abbrev main_call2_v0 : Ref sig .tc := ⟨.hbm, 89, rfl⟩
abbrev main_call2_v1 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_10 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_11 : Ref sig .tc := ⟨.hbm, 122, rfl⟩
abbrev main_v100 : Ref sig .tc := ⟨.hbm, 123, rfl⟩
abbrev main_v101 : Ref sig .tc := ⟨.hbm, 124, rfl⟩
abbrev main_cst_12 : Ref sig .tc := ⟨.hbm, 125, rfl⟩
abbrev main_v102 : Ref sig .tc := ⟨.hbm, 126, rfl⟩
abbrev main_v103 : Ref sig .tc := ⟨.hbm, 127, rfl⟩
abbrev main_cst_13 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_call3_v0 : Ref sig .tc := ⟨.hbm, 140, rfl⟩
abbrev main_call3_v1 : Ref sig .tc := ⟨.hbm, 141, rfl⟩
abbrev main_call3_cst : Ref sig .tc := ⟨.hbm, 142, rfl⟩
abbrev main_call3_v2 : Ref sig .tc := ⟨.hbm, 143, rfl⟩
abbrev main_call3_v3 : Ref sig .tc := ⟨.hbm, 144, rfl⟩
abbrev main_call3_cst_0 : Ref sig .tc := ⟨.hbm, 145, rfl⟩
abbrev main_call3_v4 : Ref sig .tc := ⟨.hbm, 146, rfl⟩
abbrev main_call3_v5 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩

abbrev nD : Nat := 1
abbrev τ : Topo := Topo.v7x

variable {F : FTy → Type} [FloatOps F]
-- ==== Kernel2.lean ====
abbrev S16384x1024 : Shape := ⟨2, ![16384, 1024]⟩
abbrev S16384x384 : Shape := ⟨2, ![16384, 384]⟩
abbrev S16384x256 : Shape := ⟨2, ![16384, 256]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S8x2x5632 : Shape := ⟨3, ![8, 2, 5632]⟩
abbrev S2x1x1024 : Shape := ⟨3, ![2, 1, 1024]⟩
abbrev S2x1x5632 : Shape := ⟨3, ![2, 1, 5632]⟩
abbrev S512x1024 : Shape := ⟨2, ![512, 1024]⟩
abbrev S512x384 : Shape := ⟨2, ![512, 384]⟩
abbrev S512x256 : Shape := ⟨2, ![512, 256]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S1x2x2816 : Shape := ⟨3, ![1, 2, 2816]⟩
abbrev S1x2x5632 : Shape := ⟨3, ![1, 2, 5632]⟩
abbrev S8x1024 : Shape := ⟨2, ![8, 1024]⟩
abbrev S512x2816 : Shape := ⟨2, ![512, 2816]⟩
abbrev S4x520x256 : Shape := ⟨3, ![4, 520, 256]⟩
abbrev S2x2816 : Shape := ⟨2, ![2, 2816]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1x2x256 : Shape := ⟨3, ![1, 2, 256]⟩
abbrev S2x256 : Shape := ⟨2, ![2, 256]⟩
abbrev S1x520x256 : Shape := ⟨3, ![1, 520, 256]⟩
abbrev S520x256 : Shape := ⟨2, ![520, 256]⟩
abbrev S1x1x256 : Shape := ⟨3, ![1, 1, 256]⟩
abbrev S1x256 : Shape := ⟨2, ![1, 256]⟩
abbrev S2816x1024 : Shape := ⟨2, ![2816, 1024]⟩

abbrev nBuf : Space → Nat
  | .hbm => 21
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x384, .bf16⟩
  | .hbm, ⟨3, _⟩ => ⟨S16384x256, .bf16⟩
  | .hbm, ⟨4, _⟩ => ⟨S2x1024x1024, .f32⟩
  | .hbm, ⟨5, _⟩ => ⟨S2x1024, .f32⟩
  | .hbm, ⟨6, _⟩ => ⟨S2x1024x5632, .f32⟩
  | .hbm, ⟨7, _⟩ => ⟨S2x3x5632, .f32⟩
  | .hbm, ⟨8, _⟩ => ⟨S2x5632, .f32⟩
  | .hbm, ⟨9, _⟩ => ⟨S2x2816x1024, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S8x2x5632, .f32⟩
  | .hbm, ⟨14, _⟩ => ⟨S2x1024x1024, .bf16⟩
  | .hbm, ⟨15, _⟩ => ⟨S2x1024x5632, .bf16⟩
  | .hbm, ⟨16, _⟩ => ⟨S2x2816x1024, .bf16⟩
  | .hbm, ⟨17, _⟩ => ⟨S2x1x1024, .f32⟩
  | .hbm, ⟨18, _⟩ => ⟨S2x1x5632, .f32⟩
  | .hbm, ⟨19, _⟩ => ⟨S16384x1024, .f32⟩
  | .hbm, ⟨20, _⟩ => ⟨S8x2x5632, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x256, .bf16⟩
  | .local _ .vmem, ⟨7, _⟩ => ⟨S512x256, .bf16⟩
  | .local _ .vmem, ⟨8, _⟩ => ⟨S1x1024x1024, .bf16⟩
  | .local _ .vmem, ⟨9, _⟩ => ⟨S1x1x1024, .f32⟩
  | .local _ .vmem, ⟨10, _⟩ => ⟨S1x1024x2816, .bf16⟩
  | .local _ .vmem, ⟨11, _⟩ => ⟨S1x1024x2816, .bf16⟩
  | .local _ .vmem, ⟨12, _⟩ => ⟨S1x3x2816, .f32⟩
  | .local _ .vmem, ⟨13, _⟩ => ⟨S1x3x2816, .f32⟩
  | .local _ .vmem, ⟨14, _⟩ => ⟨S1x1x2816, .f32⟩
  | .local _ .vmem, ⟨15, _⟩ => ⟨S1x1x2816, .f32⟩
  | .local _ .vmem, ⟨16, _⟩ => ⟨S1x2816x1024, .bf16⟩
  | .local _ .vmem, ⟨17, _⟩ => ⟨S1x2x2816, .f32⟩
  | .local _ .vmem, ⟨18, _⟩ => ⟨S1x2x2816, .f32⟩
  | .local _ .vmem, ⟨19, _⟩ => ⟨S1x2x2816, .f32⟩
  | .local _ .vmem, ⟨20, _⟩ => ⟨S1x2x2816, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S1x2x5632, .f32⟩
  | .local _ .vmem, ⟨25, _⟩ => ⟨S1x2x5632, .f32⟩
  | .local _ .vmem, ⟨26, _⟩ => ⟨S512x1024, .f32⟩
  | .local _ .vmem, ⟨27, _⟩ => ⟨S512x1024, .bf16⟩
  | .local _ .vmem, ⟨28, _⟩ => ⟨S8x1024, .f32⟩
  | .local _ .vmem, ⟨29, _⟩ => ⟨S512x2816, .bf16⟩
  | .local _ .vmem, ⟨30, _⟩ => ⟨S4x520x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c1_i32_0 : BitVec 32 := 1#32
  let c0_i32 : BitVec 32 := 0#32
  let c0_i32_1 : BitVec 32 := 0#32
  ![c1_i32_0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c1_i32_0 : BitVec 32 := 1#32
  let c0_i32 : BitVec 32 := 0#32
  let c0_i32_1 : BitVec 32 := 0#32
  ![c1_i32_0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c1_i32_0 : BitVec 32 := 1#32
  let c0_i32 : BitVec 32 := 0#32
  let c0_i32_1 : BitVec 32 := 0#32
  ![c1_i32_0.toNat, c0_i32.toNat, v0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg2.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c1_i32 : BitVec 32 := 1#32
  let v1 : BitVec 32 := Scalar.addi c1_i32 arg2
  let c0_i32_0 : BitVec 32 := 0#32
  let c0_i32_1 : BitVec 32 := 0#32
  ![v0.toNat, c0_i32_0.toNat, v1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, true]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, true]

abbrev stage0_8 : Fin 1 → Memref sig .tc .vmem S1x3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, true]

abbrev stage0_9 : Fin 1 → Memref sig .tc .vmem S1x3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, true]

abbrev stage0_10 : Fin 1 → Memref sig .tc .vmem S1x1x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, true]

abbrev stage0_11 : Fin 1 → Memref sig .tc .vmem S1x1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, true]

abbrev stage0_12 : Fin 1 → Memref sig .tc .vmem S1x2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, true]

abbrev stage0_13 : Fin 2 → Memref sig .tc .vmem S1x2x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, true]

abbrev stage0_14 : Fin 2 → Memref sig .tc .vmem S1x2x2816 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 2 → Memref sig .tc .vmem S1x2x5632 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false, false]
-- ==== Reference2Ideal.lean ====
abbrev S16384x1024 : Shape := ⟨2, ![16384, 1024]⟩
abbrev S16384x384 : Shape := ⟨2, ![16384, 384]⟩
abbrev S16384x256 : Shape := ⟨2, ![16384, 256]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S16384x5632 : Shape := ⟨2, ![16384, 5632]⟩
abbrev S8x2048x5632 : Shape := ⟨3, ![8, 2048, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S8x2x5632 : Shape := ⟨3, ![8, 2, 5632]⟩
abbrev S8x2050x5632 : Shape := ⟨3, ![8, 2050, 5632]⟩
abbrev S1x1x5632 : Shape := ⟨3, ![1, 1, 5632]⟩
abbrev S8x2048x2816 : Shape := ⟨3, ![8, 2048, 2816]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 105
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x384, .bf16⟩
  | .hbm, ⟨3, _⟩ => ⟨S16384x256, .bf16⟩
  | .hbm, ⟨4, _⟩ => ⟨S2x1024x1024, .f32⟩
  | .hbm, ⟨5, _⟩ => ⟨S2x1024, .f32⟩
  | .hbm, ⟨6, _⟩ => ⟨S2x1024x5632, .f32⟩
  | .hbm, ⟨7, _⟩ => ⟨S2x3x5632, .f32⟩
  | .hbm, ⟨8, _⟩ => ⟨S2x5632, .f32⟩
  | .hbm, ⟨9, _⟩ => ⟨S2x2816x1024, .f32⟩
  | .hbm, ⟨10, _⟩ => ⟨S1024, .f32⟩
  | .hbm, ⟨11, _⟩ => ⟨S16384x384, .f32⟩
  | .hbm, ⟨12, _⟩ => ⟨S16384x384, .f32⟩
  | .hbm, ⟨13, _⟩ => ⟨S16384x256, .f32⟩
  | .hbm, ⟨14, _⟩ => ⟨S16384x1024, .f32⟩
  | .hbm, ⟨15, _⟩ => ⟨S1x1024x1024, .f32⟩
  | .hbm, ⟨16, _⟩ => ⟨S1024x1024, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024x5632, .f32⟩
  | .hbm, ⟨38, _⟩ => ⟨S1024x5632, .f32⟩
  | .hbm, ⟨39, _⟩ => ⟨S16384x5632, .f32⟩
  | .hbm, ⟨40, _⟩ => ⟨S8x2048x5632, .f32⟩
  | .hbm, ⟨41, _⟩ => ⟨S1x3x5632, .f32⟩
  | .hbm, ⟨42, _⟩ => ⟨S3x5632, .f32⟩
  | .hbm, ⟨43, _⟩ => ⟨S1x5632, .f32⟩
  | .hbm, ⟨44, _⟩ => ⟨S5632, .f32⟩
  | .hbm, ⟨45, _⟩ => ⟨S_, .f32⟩
  | .hbm, ⟨46, _⟩ => ⟨S8x2x5632, .f32⟩
  | .hbm, ⟨47, _⟩ => ⟨S8x2050x5632, .f32⟩
  | .hbm, ⟨48, _⟩ => ⟨S8x2048x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S8x2048x5632, .f32⟩
  | .hbm, ⟨53, _⟩ => ⟨S8x2048x5632, .f32⟩
  | .hbm, ⟨54, _⟩ => ⟨S1x1x5632, .f32⟩
  | .hbm, ⟨55, _⟩ => ⟨S8x2048x5632, .f32⟩
  | .hbm, ⟨56, _⟩ => ⟨S8x2048x5632, .f32⟩
  | .hbm, ⟨57, _⟩ => ⟨S8x2048x5632, .f32⟩
  | .hbm, ⟨58, _⟩ => ⟨S1x5632, .f32⟩
  | .hbm, ⟨59, _⟩ => ⟨S5632, .f32⟩
  | .hbm, ⟨60, _⟩ => ⟨S1x1x5632, .f32⟩
  | .hbm, ⟨61, _⟩ => ⟨S8x2048x5632, .f32⟩
  | .hbm, ⟨62, _⟩ => ⟨S8x2048x5632, .f32⟩
  | .hbm, ⟨63, _⟩ => ⟨S8x2048x5632, .f32⟩
  | .hbm, ⟨64, _⟩ => ⟨S8x2048x5632, .f32⟩
  | .hbm, ⟨65, _⟩ => ⟨S1x5632, .f32⟩
  | .hbm, ⟨66, _⟩ => ⟨S5632, .f32⟩
  | .hbm, ⟨67, _⟩ => ⟨S1x1x5632, .f32⟩
  | .hbm, ⟨68, _⟩ => ⟨S8x2048x5632, .f32⟩
  | .hbm, ⟨69, _⟩ => ⟨S8x2048x5632, .f32⟩
  | .hbm, ⟨70, _⟩ => ⟨S8x2048x5632, .f32⟩
  | .hbm, ⟨71, _⟩ => ⟨S8x2x5632, .f32⟩
  | .hbm, ⟨72, _⟩ => ⟨S8x2048x2816, .f32⟩
  | .hbm, ⟨73, _⟩ => ⟨S8x2048x2816, .f32⟩
  | .hbm, ⟨74, _⟩ => ⟨S8x2048x2816, .f32⟩
  | .hbm, ⟨75, _⟩ => ⟨S8x2048x2816, .f32⟩
  | .hbm, ⟨76, _⟩ => ⟨S_, .f32⟩
  | .hbm, ⟨77, _⟩ => ⟨S8x2048x2816, .f32⟩
  | .hbm, ⟨78, _⟩ => ⟨S8x2048x2816, .f32⟩
  | .hbm, ⟨79, _⟩ => ⟨S_, .f32⟩
  | .hbm, ⟨80, _⟩ => ⟨S8x2048x2816, .f32⟩
  | .hbm, ⟨81, _⟩ => ⟨S8x2048x2816, .f32⟩
  | .hbm, ⟨82, _⟩ => ⟨S8x2048x2816, .f32⟩
  | .hbm, ⟨83, _⟩ => ⟨S8x2048x2816, .f32⟩
  | .hbm, ⟨84, _⟩ => ⟨S16384x2816, .f32⟩
  | .hbm, ⟨85, _⟩ => ⟨S1x2816x1024, .f32⟩
  | .hbm, ⟨86, _⟩ => ⟨S2816x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S_, .f32⟩
  | .hbm, ⟨91, _⟩ => ⟨S16384, .f32⟩
  | .hbm, ⟨92, _⟩ => ⟨S16384x1, .f32⟩
  | .hbm, ⟨93, _⟩ => ⟨S_, .f32⟩
  | .hbm, ⟨94, _⟩ => ⟨S16384x1, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S16384x1, .f32⟩
  | .hbm, ⟨100, _⟩ => ⟨S16384x1024, .f32⟩
  | .hbm, ⟨101, _⟩ => ⟨S16384x1024, .f32⟩
  | .hbm, ⟨102, _⟩ => ⟨S1x1024, .f32⟩
  | .hbm, ⟨103, _⟩ => ⟨S16384x1024, .f32⟩
  | .hbm, ⟨104, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_3 : Ref sig .tc := ⟨.hbm, 90, rfl⟩
abbrev main_v67 : Ref sig .tc := ⟨.hbm, 91, rfl⟩
abbrev main_v68 : Ref sig .tc := ⟨.hbm, 92, rfl⟩
abbrev main_cst_4 : Ref sig .tc := ⟨.hbm, 93, rfl⟩
abbrev main_v69 : Ref sig .tc := ⟨.hbm, 94, rfl⟩
abbrev main_v70 : Ref sig .tc := ⟨.hbm, 95, rfl⟩
abbrev main_cst_5 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]
-- ==== Kernel3.lean ====
abbrev S16384x1024 : Shape := ⟨2, ![16384, 1024]⟩
abbrev S16384x384 : Shape := ⟨2, ![16384, 384]⟩
abbrev S16384x256 : Shape := ⟨2, ![16384, 256]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S8x2x5632 : Shape := ⟨3, ![8, 2, 5632]⟩
abbrev S2x1x1024 : Shape := ⟨3, ![2, 1, 1024]⟩
abbrev S2x1x5632 : Shape := ⟨3, ![2, 1, 5632]⟩
abbrev S512x1024 : Shape := ⟨2, ![512, 1024]⟩
abbrev S512x384 : Shape := ⟨2, ![512, 384]⟩
abbrev S512x256 : Shape := ⟨2, ![512, 256]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S1x2x2816 : Shape := ⟨3, ![1, 2, 2816]⟩
abbrev S1x2x5632 : Shape := ⟨3, ![1, 2, 5632]⟩
abbrev S8x1024 : Shape := ⟨2, ![8, 1024]⟩
abbrev S512x2816 : Shape := ⟨2, ![512, 2816]⟩
abbrev S4x520x256 : Shape := ⟨3, ![4, 520, 256]⟩
abbrev S2x2816 : Shape := ⟨2, ![2, 2816]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1x2x256 : Shape := ⟨3, ![1, 2, 256]⟩
abbrev S2x256 : Shape := ⟨2, ![2, 256]⟩
abbrev S1x520x256 : Shape := ⟨3, ![1, 520, 256]⟩
abbrev S520x256 : Shape := ⟨2, ![520, 256]⟩
abbrev S1x1x256 : Shape := ⟨3, ![1, 1, 256]⟩
abbrev S1x256 : Shape := ⟨2, ![1, 256]⟩
abbrev S2816x1024 : Shape := ⟨2, ![2816, 1024]⟩

abbrev nBuf : Space → Nat
  | .hbm => 21
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x384, .bf16⟩
  | .hbm, ⟨3, _⟩ => ⟨S16384x256, .bf16⟩
  | .hbm, ⟨4, _⟩ => ⟨S2x1024x1024, .f32⟩
  | .hbm, ⟨5, _⟩ => ⟨S2x1024, .f32⟩
  | .hbm, ⟨6, _⟩ => ⟨S2x1024x5632, .f32⟩
  | .hbm, ⟨7, _⟩ => ⟨S2x3x5632, .f32⟩
  | .hbm, ⟨8, _⟩ => ⟨S2x5632, .f32⟩
  | .hbm, ⟨9, _⟩ => ⟨S2x2816x1024, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S8x2x5632, .f32⟩
  | .hbm, ⟨14, _⟩ => ⟨S2x1024x1024, .bf16⟩
  | .hbm, ⟨15, _⟩ => ⟨S2x1024x5632, .bf16⟩
  | .hbm, ⟨16, _⟩ => ⟨S2x2816x1024, .bf16⟩
  | .hbm, ⟨17, _⟩ => ⟨S2x1x1024, .f32⟩
  | .hbm, ⟨18, _⟩ => ⟨S2x1x5632, .f32⟩
  | .hbm, ⟨19, _⟩ => ⟨S16384x1024, .f32⟩
  | .hbm, ⟨20, _⟩ => ⟨S8x2x5632, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x256, .bf16⟩
  | .local _ .vmem, ⟨7, _⟩ => ⟨S512x256, .bf16⟩
  | .local _ .vmem, ⟨8, _⟩ => ⟨S1x1024x1024, .bf16⟩
  | .local _ .vmem, ⟨9, _⟩ => ⟨S1x1x1024, .f32⟩
  | .local _ .vmem, ⟨10, _⟩ => ⟨S1x1024x2816, .bf16⟩
  | .local _ .vmem, ⟨11, _⟩ => ⟨S1x1024x2816, .bf16⟩
  | .local _ .vmem, ⟨12, _⟩ => ⟨S1x3x2816, .f32⟩
  | .local _ .vmem, ⟨13, _⟩ => ⟨S1x3x2816, .f32⟩
  | .local _ .vmem, ⟨14, _⟩ => ⟨S1x1x2816, .f32⟩
  | .local _ .vmem, ⟨15, _⟩ => ⟨S1x1x2816, .f32⟩
  | .local _ .vmem, ⟨16, _⟩ => ⟨S1x2816x1024, .bf16⟩
  | .local _ .vmem, ⟨17, _⟩ => ⟨S1x2x2816, .f32⟩
  | .local _ .vmem, ⟨18, _⟩ => ⟨S1x2x2816, .f32⟩
  | .local _ .vmem, ⟨19, _⟩ => ⟨S1x2x2816, .f32⟩
  | .local _ .vmem, ⟨20, _⟩ => ⟨S1x2x2816, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S1x2x5632, .f32⟩
  | .local _ .vmem, ⟨25, _⟩ => ⟨S1x2x5632, .f32⟩
  | .local _ .vmem, ⟨26, _⟩ => ⟨S512x1024, .f32⟩
  | .local _ .vmem, ⟨27, _⟩ => ⟨S512x1024, .bf16⟩
  | .local _ .vmem, ⟨28, _⟩ => ⟨S8x1024, .f32⟩
  | .local _ .vmem, ⟨29, _⟩ => ⟨S512x2816, .bf16⟩
  | .local _ .vmem, ⟨30, _⟩ => ⟨S4x520x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let c0_i32_0 : BitVec 32 := 0#32
  let c0_i32_1 : BitVec 32 := 0#32
  ![c0_i32.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let c0_i32_0 : BitVec 32 := 0#32
  let c0_i32_1 : BitVec 32 := 0#32
  ![c0_i32.toNat, c0_i32_0.toNat, v0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg2.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c1_i32 : BitVec 32 := 1#32
  let v1 : BitVec 32 := Scalar.addi c1_i32 arg2
  let c0_i32_0 : BitVec 32 := 0#32
  let c0_i32_1 : BitVec 32 := 0#32
  ![v0.toNat, c0_i32_0.toNat, v1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, true]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, true]

abbrev stage0_8 : Fin 1 → Memref sig .tc .vmem S1x3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, true]

abbrev stage0_9 : Fin 1 → Memref sig .tc .vmem S1x3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, true]

abbrev stage0_10 : Fin 1 → Memref sig .tc .vmem S1x1x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, true]

abbrev stage0_11 : Fin 1 → Memref sig .tc .vmem S1x1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, true]

abbrev stage0_12 : Fin 1 → Memref sig .tc .vmem S1x2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, true]

abbrev stage0_13 : Fin 2 → Memref sig .tc .vmem S1x2x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, true]

abbrev stage0_14 : Fin 2 → Memref sig .tc .vmem S1x2x2816 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 2 → Memref sig .tc .vmem S1x2x5632 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false, false]
-- ==== Reference3Ideal.lean ====
abbrev S16384x1024 : Shape := ⟨2, ![16384, 1024]⟩
abbrev S16384x384 : Shape := ⟨2, ![16384, 384]⟩
abbrev S16384x256 : Shape := ⟨2, ![16384, 256]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S16384x5632 : Shape := ⟨2, ![16384, 5632]⟩
abbrev S8x2048x5632 : Shape := ⟨3, ![8, 2048, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S8x2x5632 : Shape := ⟨3, ![8, 2, 5632]⟩
abbrev S8x2050x5632 : Shape := ⟨3, ![8, 2050, 5632]⟩
abbrev S1x1x5632 : Shape := ⟨3, ![1, 1, 5632]⟩
abbrev S8x2048x2816 : Shape := ⟨3, ![8, 2048, 2816]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x384, .bf16⟩
  | .hbm, ⟨3, _⟩ => ⟨S16384x256, .bf16⟩
  | .hbm, ⟨4, _⟩ => ⟨S2x1024x1024, .f32⟩
  | .hbm, ⟨5, _⟩ => ⟨S2x1024, .f32⟩
  | .hbm, ⟨6, _⟩ => ⟨S2x1024x5632, .f32⟩
  | .hbm, ⟨7, _⟩ => ⟨S2x3x5632, .f32⟩
  | .hbm, ⟨8, _⟩ => ⟨S2x5632, .f32⟩
  | .hbm, ⟨9, _⟩ => ⟨S2x2816x1024, .f32⟩
  | .hbm, ⟨10, _⟩ => ⟨S1024, .f32⟩
  | .hbm, ⟨11, _⟩ => ⟨S16384x384, .f32⟩
  | .hbm, ⟨12, _⟩ => ⟨S16384x384, .f32⟩
  | .hbm, ⟨13, _⟩ => ⟨S16384x256, .f32⟩
  | .hbm, ⟨14, _⟩ => ⟨S16384x1024, .f32⟩
  | .hbm, ⟨15, _⟩ => ⟨S1x1024x1024, .f32⟩
  | .hbm, ⟨16, _⟩ => ⟨S1024x1024, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024x5632, .f32⟩
  | .hbm, ⟨38, _⟩ => ⟨S1024x5632, .f32⟩
  | .hbm, ⟨39, _⟩ => ⟨S16384x5632, .f32⟩
  | .hbm, ⟨40, _⟩ => ⟨S8x2048x5632, .f32⟩
  | .hbm, ⟨41, _⟩ => ⟨S1x3x5632, .f32⟩
  | .hbm, ⟨42, _⟩ => ⟨S3x5632, .f32⟩
  | .hbm, ⟨43, _⟩ => ⟨S1x5632, .f32⟩
  | .hbm, ⟨44, _⟩ => ⟨S5632, .f32⟩
  | .hbm, ⟨45, _⟩ => ⟨S_, .f32⟩
  | .hbm, ⟨46, _⟩ => ⟨S8x2x5632, .f32⟩
  | .hbm, ⟨47, _⟩ => ⟨S8x2050x5632, .f32⟩
  | .hbm, ⟨48, _⟩ => ⟨S8x2048x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S8x2048x5632, .f32⟩
  | .hbm, ⟨53, _⟩ => ⟨S8x2048x5632, .f32⟩
  | .hbm, ⟨54, _⟩ => ⟨S1x1x5632, .f32⟩
  | .hbm, ⟨55, _⟩ => ⟨S8x2048x5632, .f32⟩
  | .hbm, ⟨56, _⟩ => ⟨S8x2048x5632, .f32⟩
  | .hbm, ⟨57, _⟩ => ⟨S8x2048x5632, .f32⟩
  | .hbm, ⟨58, _⟩ => ⟨S1x5632, .f32⟩
  | .hbm, ⟨59, _⟩ => ⟨S5632, .f32⟩
  | .hbm, ⟨60, _⟩ => ⟨S1x1x5632, .f32⟩
  | .hbm, ⟨61, _⟩ => ⟨S8x2048x5632, .f32⟩
  | .hbm, ⟨62, _⟩ => ⟨S8x2048x5632, .f32⟩
  | .hbm, ⟨63, _⟩ => ⟨S8x2048x5632, .f32⟩
  | .hbm, ⟨64, _⟩ => ⟨S8x2048x5632, .f32⟩
  | .hbm, ⟨65, _⟩ => ⟨S1x5632, .f32⟩
  | .hbm, ⟨66, _⟩ => ⟨S5632, .f32⟩
  | .hbm, ⟨67, _⟩ => ⟨S1x1x5632, .f32⟩
  | .hbm, ⟨68, _⟩ => ⟨S8x2048x5632, .f32⟩
  | .hbm, ⟨69, _⟩ => ⟨S8x2048x5632, .f32⟩
  | .hbm, ⟨70, _⟩ => ⟨S8x2048x5632, .f32⟩
  | .hbm, ⟨71, _⟩ => ⟨S8x2x5632, .f32⟩
  | .hbm, ⟨72, _⟩ => ⟨S8x2048x2816, .f32⟩
  | .hbm, ⟨73, _⟩ => ⟨S8x2048x2816, .f32⟩
  | .hbm, ⟨74, _⟩ => ⟨S8x2048x2816, .f32⟩
  | .hbm, ⟨75, _⟩ => ⟨S8x2048x2816, .f32⟩
  | .hbm, ⟨76, _⟩ => ⟨S_, .f32⟩
  | .hbm, ⟨77, _⟩ => ⟨S8x2048x2816, .f32⟩
  | .hbm, ⟨78, _⟩ => ⟨S8x2048x2816, .f32⟩
  | .hbm, ⟨79, _⟩ => ⟨S_, .f32⟩
  | .hbm, ⟨80, _⟩ => ⟨S8x2048x2816, .f32⟩
  | .hbm, ⟨81, _⟩ => ⟨S8x2048x2816, .f32⟩
  | .hbm, ⟨82, _⟩ => ⟨S8x2048x2816, .f32⟩
  | .hbm, ⟨83, _⟩ => ⟨S8x2048x2816, .f32⟩
  | .hbm, ⟨84, _⟩ => ⟨S16384x2816, .f32⟩
  | .hbm, ⟨85, _⟩ => ⟨S1x2816x1024, .f32⟩
  | .hbm, ⟨86, _⟩ => ⟨S2816x1024, .f32⟩
  | .hbm, ⟨87, _⟩ => ⟨S16384x1024, .f32⟩
  | .hbm, ⟨88, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Proof.Plain.Run.lean ====
/-
  The recurrence's printed body runs, at any float values.
-/
module

public import proofs.«01_k».proof.Proof.Gen.Kernel.Frame.Runs

@[expose] public section

set_option maxRecDepth 16384

noncomputable section

namespace Cert.Plain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2548000 in
/-- One run of the printed body: its seven inputs are handed back as they were, the two results' blocks and the
    scratch buffers at contents that nothing here names. -/
theorem body_runs (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S2x128 .f32) (harg5 : arg5.IsWhole) (arg6 : Memref sig .tc .vmem S1x1x128 .f32) (harg6 : arg6.IsWhole) (arg7 : Memref sig .tc .vmem S1x2x64x64x128 .f32) (harg7 : arg7.IsWhole) (arg8 : Memref sig .tc .vmem S1024x128 .bf16) (harg8 : arg8.IsWhole) (arg9 : Memref sig .tc .vmem S1x2x64x64x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole)
    (x0 : Vec F S1024x128 .f32) (x1 : Vec F S1024x128 .f32) (x2 : Vec F S1024x128 .f32) (x3 : Vec F S1024x128 .f32) (x4 : Vec F S2x128 .f32) (x5 : Vec F S1x1x128 .f32) (x6 : Vec F S1x2x64x64x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_hgrn_sample i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_hgrn_sample_eq_skeleton]; unfold cc0_hgrn_sample_skel
    simp only [k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Plain

end
-- ==== Proof.Plain.Frame.lean ====
/-
  The recurrence's printed launch, at any float values: it ends, with its arguments as they were.
-/
module

public import proofs.«01_k».proof.Proof.Plain.Run
public import Idealize.ShloMosaic.Lib.Claim

@[expose] public section

set_option maxRecDepth 16384

noncomputable section

namespace Cert.Plain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8): nothing reads what the kernel leaves in them, so nothing
    of it is named (Lib/Pipeline/Dat.lean `Dat.toRForget`). -/
def forgets0 : Fin 9 → Bool := fun w => w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((body_runs c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- From the launch's final state to the four arguments: they are as they were. -/
theorem arguments_kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 3 rfl).trans ((hA c 3).trans (V_main_arg0 m c)),
      (Pipeline.RDat.FramePost.arr_in h c 4 rfl).trans ((hA c 4).trans (V_main_arg1 m c)),
      ((h c).2 main_arg2 (Pipeline.mem_restRefs_of main_arg2 (by decide) (by decide))).trans (V_main_arg2 m c),
      (Pipeline.RDat.FramePost.arr_in h c 6 rfl).trans ((hA c 6).trans (V_main_arg3 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  arguments_kept m ρ (fun c => (dats m 0 c).toRForget forgets0) (A_eq m) (run_main m ρ)

/-- The printed program's frame: it ends with its four arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Plain

end
-- ==== Proof.Hgrn.Loop.lean ====
/-
  One counted loop of the recurrence: 64 trips over the key channels of one head, each updating one row of the state in
  place and adding the query times the new row to the read-out.
-/
module

public import proofs.«01_k».proof.Proof.Gen.KernelIdeal.Loops
public import Idealize.ShloMosaic.Lib.WritesUnit
public import Idealize.ShloMosaic.Lib.Pointwise
public import Idealize.ShloMosaic.Lib.ValueIdx
public import Idealize.ShloMosaic.PureOps.Ideal.Laws

@[expose] public section

set_option maxRecDepth 16384

noncomputable section

namespace Cert.Hgrn

open Idealize.ShloMosaic Idealize.ShloMosaic.TcCoe
open Cert.KernelIdeal Cert.KernelIdeal.Gen

theorem pay8_apply (v : Fin 64) (b : Fin 128) : (k0_pay8 (F := Ideal)) (ix2 v b) = 0 := by
  unfold k0_pay8
  exact Ideal.ofBits_zero_f32

theorem pay9_apply (vt : Vec Ideal S64x128 .f32) (ft : Vec Ideal S1x128 .f32) (s : Vec Ideal S1x1x1x64x128 .f32)
    (kt : Vec Ideal S1x128 .f32) (v : Fin 64) (b : Fin 128) :
    k0_pay9 vt ft s kt (ix2 v b) = ft (ix2 0 b) * s (ix5 0 0 0 v b) + kt (ix2 0 b) * vt (ix2 v b) := by
  unfold k0_pay9
  pointwise

theorem pay10_apply (vt : Vec Ideal S64x128 .f32) (ft : Vec Ideal S1x128 .f32) (s : Vec Ideal S1x1x1x64x128 .f32)
    (kt : Vec Ideal S1x128 .f32) (v : Fin 64) (b : Fin 128) :
    k0_pay10 vt ft s kt (ix5 0 0 0 v b) = ft (ix2 0 b) * s (ix5 0 0 0 v b) + kt (ix2 0 b) * vt (ix2 v b) := by
  rw [← pay9_apply]
  unfold k0_pay10
  exact shapeCast_apply _ _ _ _ (by
    rw [Shape.rowMajor_val_two, Shape.rowMajor_val_five]
    show v.val * 128 + b.val = (((0 * 1 + 0) * 1 + 0) * 64 + v.val) * 128 + b.val
    omega)

theorem pay11_apply (vt acc : Vec Ideal S64x128 .f32) (ft : Vec Ideal S1x128 .f32) (s : Vec Ideal S1x1x1x64x128 .f32)
    (kt qt : Vec Ideal S1x128 .f32) (v : Fin 64) (b : Fin 128) :
    k0_pay11 vt acc ft s kt qt (ix2 v b)
      = acc (ix2 v b) + qt (ix2 0 b) * (ft (ix2 0 b) * s (ix5 0 0 0 v b) + kt (ix2 0 b) * vt (ix2 v b)) := by
  rw [← pay9_apply]
  unfold k0_pay11
  pointwise

/-- Row `k` of head `hl` of the state block, written at the place the trip stores. -/
theorem read_row {κ : Kind} {sp : Space} (V : View sig κ sp S1x2x64x64x128 .f32) (f : V.ty.Contents (Elt Ideal)) (hl : Fin 2) (n : ℕ)
    (hn : n < 64) {off : Fin 5 → ℕ} (hoff : off = ![0, hl.val, n, 0, 0])
    (inb : ∀ a, off a + S1x1x1x64x128.size a ≤ S1x2x64x64x128.size a)
    (w : Vec Ideal S1x1x1x64x128 .f32) (L : List (View.Piece (Elt Ideal) S1x2x64x64x128 .f32))
    (h' : Fin 2) (k v : Fin 64) (b : Fin 128) :
    V.read (Elt Ideal) (V.writes (Elt Ideal) f ((⟨Rect.unit (s := S1x2x64x64x128) off S1x1x1x64x128.size inb, w⟩ : View.Piece (Elt Ideal) S1x2x64x64x128 .f32) :: L)) (ix5 0 h' k v b)
      = if h' = hl ∧ k.val = n then w (ix5 0 0 0 v b) else V.read (Elt Ideal) (V.writes (Elt Ideal) f L) (ix5 0 h' k v b) := by
  split
  · rename_i h
    refine View.read_writes_cons_unit_of_mem V f inb w L _ (ix5 0 0 0 v b) hoff fun a => ?_
    match a with
    | ⟨0, _⟩ => rfl
    | ⟨1, _⟩ => show h'.val = hl.val + 0; rw [h.1]; rfl
    | ⟨2, _⟩ => show k.val = n + 0; rw [h.2]; rfl
    | ⟨3, _⟩ => show v.val = 0 + v.val; omega
    | ⟨4, _⟩ => show b.val = 0 + b.val; omega
  · rename_i h
    by_cases h1 : h' = hl
    · refine View.read_writes_cons_unit_of_not_mem V f inb w L _ hoff (⟨2, by decide⟩ : Fin 5) ?_
      have : k.val ≠ n := fun e => h ⟨h1, e⟩
      show k.val < n ∨ n + 1 ≤ k.val
      omega
    · refine View.read_writes_cons_unit_of_not_mem V f inb w L _ hoff (⟨1, by decide⟩ : Fin 5) ?_
      have : h'.val ≠ hl.val := fun e => h1 (Fin.ext e)
      show h'.val < hl.val ∨ hl.val + 1 ≤ h'.val
      omega

/-- A loop over the rows of one head: what it yields and what it leaves in the state, given what each trip reads. -/
theorem loop_spec {κ : Kind} {sp : Space} (V : View sig κ sp S1x2x64x64x128 .f32) (G : V.ty.Contents (Elt Ideal)) (hl : Fin 2) (T : ℕ) (hT : T = 64)
    (st : ℕ → FVec Ideal S64x128 .f32 × List (View.Piece (Elt Ideal) S1x2x64x64x128 .f32))
    (vt : Vec Ideal S64x128 .f32) (rq rk rf : Fin T → Vec Ideal S1x128 .f32)
    (rs : Fin T → V.ty.Contents (Elt Ideal) → Vec Ideal S1x1x1x64x128 .f32)
    (off : Fin T → Fin 5 → ℕ) (inb : ∀ k a, off k a + S1x1x1x64x128.size a ≤ S1x2x64x64x128.size a)
    (hoff : ∀ k, off k = ![0, hl.val, k.val, 0, 0])
    (h0 : st 0 = (k0_pay8, []))
    (hst : ∀ k : Fin T, st (k.val + 1)
      = (k0_pay11 vt (st k.val).1 (rf k) (rs k (V.writes (Elt Ideal) G (st k.val).2)) (rk k) (rq k),
         (⟨Rect.unit (s := S1x2x64x64x128) (off k) S1x1x1x64x128.size (inb k), k0_pay10 vt (rf k) (rs k (V.writes (Elt Ideal) G (st k.val).2)) (rk k)⟩ :
           View.Piece (Elt Ideal) S1x2x64x64x128 .f32) :: (st k.val).2))
    (q κ' φ : Fin 64 → Fin 128 → EReal) (S : Fin 64 → Fin 64 → Fin 128 → EReal)
    (hq : ∀ k b, rq k (ix2 0 b) = q (k.cast hT) b) (hk : ∀ k b, rk k (ix2 0 b) = κ' (k.cast hT) b)
    (hf : ∀ k b, rf k (ix2 0 b) = φ (k.cast hT) b)
    (hs : ∀ (k : Fin T) f, (∀ v b, V.read (Elt Ideal) f (ix5 0 hl (k.cast hT) v b) = V.read (Elt Ideal) G (ix5 0 hl (k.cast hT) v b)) →
      ∀ v b, rs k f (ix5 0 0 0 v b) = S (k.cast hT) v b) :
    (∀ v b, (st T).1 (ix2 v b) = ∑ k : Fin 64, q k b * (φ k b * S k v b + κ' k b * vt (ix2 v b)))
    ∧ ∀ h' k v b, V.read (Elt Ideal) (V.writes (Elt Ideal) G (st T).2) (ix5 0 h' k v b)
        = if h' = hl then φ k b * S k v b + κ' k b * vt (ix2 v b) else V.read (Elt Ideal) G (ix5 0 h' k v b) := by
  subst hT
  have main : ∀ n, n ≤ 64 →
      (∀ v b, (st n).1 (ix2 v b) = ∑ k : Fin 64, if k.val < n then q k b * (φ k b * S k v b + κ' k b * vt (ix2 v b)) else 0)
      ∧ ∀ h' k v b, V.read (Elt Ideal) (V.writes (Elt Ideal) G (st n).2) (ix5 0 h' k v b)
        = if h' = hl ∧ k.val < n then φ k b * S k v b + κ' k b * vt (ix2 v b) else V.read (Elt Ideal) G (ix5 0 h' k v b) := by
    intro n
    induction n with
    | zero =>
      intro _
      rw [h0]
      refine ⟨fun v b => ?_, fun h' k v b => ?_⟩
      · refine (pay8_apply v b).trans ?_; simp
      · show V.read (Elt Ideal) (V.writes (Elt Ideal) G []) _ = _
        rw [View.writes_nil, if_neg (by rintro ⟨_, h⟩; exact absurd h (Nat.not_lt_zero _))]
    | succ n ih =>
      intro hn
      obtain ⟨ih1, ih2⟩ := ih (by omega)
      have e := hst ⟨n, by omega⟩
      have hsr := hs ⟨n, by omega⟩ (V.writes (Elt Ideal) G (st n).2) (fun v b => by
        rw [ih2, if_neg]; rintro ⟨_, h⟩; exact absurd h (Nat.lt_irrefl n))
      have e1 : (st (n + 1)).1 = _ := congrArg Prod.fst e
      have e2 : (st (n + 1)).2 = _ := congrArg Prod.snd e
      refine ⟨fun v b => ?_, fun h' k v b => ?_⟩
      · rw [e1]
        refine (pay11_apply _ _ _ _ _ _ v b).trans ?_
        rw [ih1, hq, hk, hf, hsr]
        have hsplit : ∀ g : Fin 64 → EReal, (∑ k : Fin 64, if k.val < n + 1 then g k else 0)
            = (∑ k : Fin 64, if k.val < n then g k else 0) + g ⟨n, by omega⟩ := by
          intro g
          have : ∀ k : Fin 64, (if k.val < n + 1 then g k else 0)
              = (if k.val < n then g k else 0) + (if k = ⟨n, by omega⟩ then g k else 0) := by
            intro k
            by_cases h1 : k.val < n
            · rw [if_pos (by omega), if_pos h1, if_neg (by rintro rfl; exact absurd h1 (Nat.lt_irrefl _)), add_zero]
            · by_cases h2 : k.val = n
              · rw [if_pos (by omega), if_neg h1, if_pos (Fin.ext h2), zero_add]
              · rw [if_neg (by omega), if_neg h1, if_neg (fun h => h2 (congrArg Fin.val h)), add_zero]
          rw [Finset.sum_congr rfl fun k _ => this k, Finset.sum_add_distrib, Finset.sum_ite_eq' Finset.univ, if_pos (Finset.mem_univ _)]
        rw [hsplit]
        rfl
      · rw [e2]
        refine (read_row V G hl n (by omega) (hoff ⟨n, by omega⟩) _ _ _ h' k v b).trans ?_
        rw [ih2, pay10_apply, hk, hf, hsr]
        by_cases h1 : h' = hl
        · by_cases h2 : k.val = n
          · rw [if_pos ⟨h1, h2⟩, if_pos ⟨h1, by omega⟩]
            have : k = ⟨n, by omega⟩ := Fin.ext h2
            rw [this]; rfl
          · rw [if_neg (fun h => h2 h.2)]
            by_cases h3 : k.val < n
            · rw [if_pos ⟨h1, h3⟩, if_pos ⟨h1, by omega⟩]
            · rw [if_neg (fun h => h3 h.2), if_neg (fun h => h3 (by omega))]
        · rw [if_neg (fun h => h1 h.1), if_neg (fun h => h1 h.1), if_neg (fun h => h1 h.1)]
  obtain ⟨m1, m2⟩ := main 64 (le_refl _)
  refine ⟨fun v b => ?_, fun h' k v b => ?_⟩
  · rw [m1]; exact Finset.sum_congr rfl fun k _ => if_pos k.isLt
  · rw [m2]; by_cases h : h' = hl
    · rw [if_pos ⟨h, k.isLt⟩, if_pos h]
    · rw [if_neg (fun x => h x.1), if_neg h]

/-- A load of one row of a scratch buffer. -/
theorem readAt_row {κ : Kind} {sp : Space} (V : View sig κ sp S128x128 .f32) (X : V.ty.Contents (Elt Ideal)) {off : Fin 2 → ℕ} (r : Fin 128)
    (hoff : off = ![r.val, 0]) (inb : ∀ a, off a + S1x128.size a ≤ S128x128.size a) (b : Fin 128) :
    (V.readAt (Elt Ideal) (Rect.unit (s := S128x128) off S1x128.size inb).toLoadRect X : Vec Ideal S1x128 .f32) (ix2 0 b) = V.read (Elt Ideal) X (ix2 r b) := by
  subst hoff
  rw [View.readAt_apply]
  congr 1
  funext a
  apply Fin.ext
  match a with
  | ⟨0, _⟩ => show r.val + 1 * 0 = r.val; omega
  | ⟨1, _⟩ => show 0 + 1 * b.val = b.val; omega

/-- A load of one row of the state block. -/
theorem readAt_state {κ : Kind} {sp : Space} (V : View sig κ sp S1x2x64x64x128 .f32) (X : V.ty.Contents (Elt Ideal)) {off : Fin 5 → ℕ}
    (hl : Fin 2) (k : Fin 64) (hoff : off = ![0, hl.val, k.val, 0, 0])
    (inb : ∀ a, off a + S1x1x1x64x128.size a ≤ S1x2x64x64x128.size a) (v : Fin 64) (b : Fin 128) :
    (V.readAt (Elt Ideal) (Rect.unit (s := S1x2x64x64x128) off S1x1x1x64x128.size inb).toLoadRect X : Vec Ideal S1x1x1x64x128 .f32) (ix5 0 0 0 v b)
      = V.read (Elt Ideal) X (ix5 0 hl k v b) := by
  subst hoff
  rw [View.readAt_apply]
  congr 1
  funext a
  apply Fin.ext
  match a with
  | ⟨0, _⟩ => rfl
  | ⟨1, _⟩ => show hl.val + 1 * 0 = hl.val; omega
  | ⟨2, _⟩ => show k.val + 1 * 0 = k.val; omega
  | ⟨3, _⟩ => show 0 + 1 * v.val = v.val; omega
  | ⟨4, _⟩ => show 0 + 1 * b.val = b.val; omega

/-- The row of a head's key channel in the transposed scratch. -/
def rowOf (hl : Fin 2) (k : Fin 64) : Fin 128 := ⟨64 * hl.val + k.val, by omega⟩

/-- What a loop over head `hl` yields, from the query, key, gate and value rows and the state it starts from. -/
def LoopOut (o : FVec Ideal S64x128 .f32) (hl : Fin 2) (Q K Φ : Fin 128 → Fin 128 → EReal) (V : Fin 64 → Fin 128 → EReal)
    (S : Fin 64 → Fin 64 → Fin 128 → EReal) : Prop :=
  ∀ v b, o (ix2 v b) = ∑ k : Fin 64, Q (rowOf hl k) b * (Φ (rowOf hl k) b * S k v b + K (rowOf hl k) b * V v b)

/-- The first token's loop: the state rows come from the input block. -/
theorem loop_first {κ : Kind} {sp : Space} (V9 V7 : View sig κ sp S1x2x64x64x128 .f32) (V10 V11 V12 : View sig κ sp S128x128 .f32)
    (G : V9.ty.Contents (Elt Ideal)) (X7 : V7.ty.Contents (Elt Ideal)) (X10 : V10.ty.Contents (Elt Ideal))
    (X11 : V11.ty.Contents (Elt Ideal)) (X12 : V12.ty.Contents (Elt Ideal)) (hl : Fin 2) (T : ℕ) (hT : T = 64)
    (st : ℕ → FVec Ideal S64x128 .f32 × List (View.Piece (Elt Ideal) S1x2x64x64x128 .f32)) (vt : Vec Ideal S64x128 .f32)
    (off : Fin T → Fin 5 → ℕ) (inb : ∀ k a, off k a + S1x1x1x64x128.size a ≤ S1x2x64x64x128.size a)
    (roff : Fin T → Fin 2 → ℕ) (rinb : ∀ k a, roff k a + S1x128.size a ≤ S128x128.size a)
    (hoff : ∀ k, off k = ![0, hl.val, k.val, 0, 0]) (hroff : ∀ k, roff k = ![64 * hl.val + k.val, 0])
    (h0 : st 0 = (k0_pay8, []))
    (hst : ∀ k : Fin T, st (k.val + 1)
      = (k0_pay11 vt (st k.val).1 (V12.readAt (Elt Ideal) (Rect.unit (s := S128x128) (roff k) S1x128.size (rinb k)).toLoadRect X12)
          (V7.readAt (Elt Ideal) (Rect.unit (s := S1x2x64x64x128) (off k) S1x1x1x64x128.size (inb k)).toLoadRect X7)
          (V11.readAt (Elt Ideal) (Rect.unit (s := S128x128) (roff k) S1x128.size (rinb k)).toLoadRect X11)
          (V10.readAt (Elt Ideal) (Rect.unit (s := S128x128) (roff k) S1x128.size (rinb k)).toLoadRect X10),
         (⟨Rect.unit (s := S1x2x64x64x128) (off k) S1x1x1x64x128.size (inb k), k0_pay10 vt (V12.readAt (Elt Ideal) (Rect.unit (s := S128x128) (roff k) S1x128.size (rinb k)).toLoadRect X12)
          (V7.readAt (Elt Ideal) (Rect.unit (s := S1x2x64x64x128) (off k) S1x1x1x64x128.size (inb k)).toLoadRect X7)
          (V11.readAt (Elt Ideal) (Rect.unit (s := S128x128) (roff k) S1x128.size (rinb k)).toLoadRect X11)⟩ :
           View.Piece (Elt Ideal) S1x2x64x64x128 .f32) :: (st k.val).2)) :
    LoopOut (st T).1 hl (fun r b => V10.read (Elt Ideal) X10 (ix2 r b)) (fun r b => V11.read (Elt Ideal) X11 (ix2 r b))
      (fun r b => V12.read (Elt Ideal) X12 (ix2 r b)) (fun v b => vt (ix2 v b)) (fun k v b => V7.read (Elt Ideal) X7 (ix5 0 hl k v b))
    ∧ ∀ h' k v b, V9.read (Elt Ideal) (V9.writes (Elt Ideal) G (st T).2) (ix5 0 h' k v b)
        = if h' = hl then V12.read (Elt Ideal) X12 (ix2 (rowOf hl k) b) * V7.read (Elt Ideal) X7 (ix5 0 hl k v b)
            + V11.read (Elt Ideal) X11 (ix2 (rowOf hl k) b) * vt (ix2 v b)
          else V9.read (Elt Ideal) G (ix5 0 h' k v b) :=
  loop_spec V9 G hl T hT st vt _ _ _ (fun k _ => V7.readAt (Elt Ideal) (Rect.unit (s := S1x2x64x64x128) (off k) S1x1x1x64x128.size (inb k)).toLoadRect X7) off inb hoff h0 hst
    (fun k b => V10.read (Elt Ideal) X10 (ix2 (rowOf hl k) b)) (fun k b => V11.read (Elt Ideal) X11 (ix2 (rowOf hl k) b))
    (fun k b => V12.read (Elt Ideal) X12 (ix2 (rowOf hl k) b)) (fun k v b => V7.read (Elt Ideal) X7 (ix5 0 hl k v b))
    (fun k b => readAt_row V10 X10 (rowOf hl (k.cast hT)) (hroff k) _ b) (fun k b => readAt_row V11 X11 (rowOf hl (k.cast hT)) (hroff k) _ b)
    (fun k b => readAt_row V12 X12 (rowOf hl (k.cast hT)) (hroff k) _ b)
    (fun k _ _ v b => readAt_state V7 X7 hl (k.cast hT) (hoff k) _ v b)

/-- A later token's loop: the state rows are those the block holds. -/
theorem loop_next {κ : Kind} {sp : Space} (V9 : View sig κ sp S1x2x64x64x128 .f32) (V10 V11 V12 : View sig κ sp S128x128 .f32)
    (G : V9.ty.Contents (Elt Ideal)) (X10 : V10.ty.Contents (Elt Ideal))
    (X11 : V11.ty.Contents (Elt Ideal)) (X12 : V12.ty.Contents (Elt Ideal)) (hl : Fin 2) (T : ℕ) (hT : T = 64)
    (st : ℕ → FVec Ideal S64x128 .f32 × List (View.Piece (Elt Ideal) S1x2x64x64x128 .f32)) (vt : Vec Ideal S64x128 .f32)
    (off : Fin T → Fin 5 → ℕ) (inb : ∀ k a, off k a + S1x1x1x64x128.size a ≤ S1x2x64x64x128.size a)
    (roff : Fin T → Fin 2 → ℕ) (rinb : ∀ k a, roff k a + S1x128.size a ≤ S128x128.size a)
    (hoff : ∀ k, off k = ![0, hl.val, k.val, 0, 0]) (hroff : ∀ k, roff k = ![64 * hl.val + k.val, 0])
    (h0 : st 0 = (k0_pay8, []))
    (hst : ∀ k : Fin T, st (k.val + 1)
      = (k0_pay11 vt (st k.val).1 (V12.readAt (Elt Ideal) (Rect.unit (s := S128x128) (roff k) S1x128.size (rinb k)).toLoadRect X12)
          (V9.readAt (Elt Ideal) (Rect.unit (s := S1x2x64x64x128) (off k) S1x1x1x64x128.size (inb k)).toLoadRect (V9.writes (Elt Ideal) G (st k.val).2))
          (V11.readAt (Elt Ideal) (Rect.unit (s := S128x128) (roff k) S1x128.size (rinb k)).toLoadRect X11)
          (V10.readAt (Elt Ideal) (Rect.unit (s := S128x128) (roff k) S1x128.size (rinb k)).toLoadRect X10),
         (⟨Rect.unit (s := S1x2x64x64x128) (off k) S1x1x1x64x128.size (inb k), k0_pay10 vt (V12.readAt (Elt Ideal) (Rect.unit (s := S128x128) (roff k) S1x128.size (rinb k)).toLoadRect X12)
          (V9.readAt (Elt Ideal) (Rect.unit (s := S1x2x64x64x128) (off k) S1x1x1x64x128.size (inb k)).toLoadRect (V9.writes (Elt Ideal) G (st k.val).2))
          (V11.readAt (Elt Ideal) (Rect.unit (s := S128x128) (roff k) S1x128.size (rinb k)).toLoadRect X11)⟩ :
           View.Piece (Elt Ideal) S1x2x64x64x128 .f32) :: (st k.val).2)) :
    LoopOut (st T).1 hl (fun r b => V10.read (Elt Ideal) X10 (ix2 r b)) (fun r b => V11.read (Elt Ideal) X11 (ix2 r b))
      (fun r b => V12.read (Elt Ideal) X12 (ix2 r b)) (fun v b => vt (ix2 v b)) (fun k v b => V9.read (Elt Ideal) G (ix5 0 hl k v b))
    ∧ ∀ h' k v b, V9.read (Elt Ideal) (V9.writes (Elt Ideal) G (st T).2) (ix5 0 h' k v b)
        = if h' = hl then V12.read (Elt Ideal) X12 (ix2 (rowOf hl k) b) * V9.read (Elt Ideal) G (ix5 0 hl k v b)
            + V11.read (Elt Ideal) X11 (ix2 (rowOf hl k) b) * vt (ix2 v b)
          else V9.read (Elt Ideal) G (ix5 0 h' k v b) :=
  loop_spec V9 G hl T hT st vt _ _ _ (fun k f => V9.readAt (Elt Ideal) (Rect.unit (s := S1x2x64x64x128) (off k) S1x1x1x64x128.size (inb k)).toLoadRect f) off inb hoff h0 hst
    (fun k b => V10.read (Elt Ideal) X10 (ix2 (rowOf hl k) b)) (fun k b => V11.read (Elt Ideal) X11 (ix2 (rowOf hl k) b))
    (fun k b => V12.read (Elt Ideal) X12 (ix2 (rowOf hl k) b)) (fun k v b => V9.read (Elt Ideal) G (ix5 0 hl k v b))
    (fun k b => readAt_row V10 X10 (rowOf hl (k.cast hT)) (hroff k) _ b) (fun k b => readAt_row V11 X11 (rowOf hl (k.cast hT)) (hroff k) _ b)
    (fun k b => readAt_row V12 X12 (rowOf hl (k.cast hT)) (hroff k) _ b)
    (fun k f hf v b => (readAt_state V9 f hl (k.cast hT) (hoff k) _ v b).trans (hf v b))

end Cert.Hgrn

end
-- ==== Proof.Hgrn.Exit.lean ====
/-
  What each of the sixteen loops leaves, stated once a loop is over: the read-out it has summed and the state rows it has
  written, in the terms the next token needs.
-/
module

public import proofs.«01_k».proof.Proof.Hgrn.Loop

@[expose] public section

set_option maxRecDepth 16384

noncomputable section

namespace Cert.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- One loop of head `hl`: `o` is the read-out of the rows computed from `src`, and `new` is `old` with the head's rows
    replaced by them. -/
def Step (new : Vec Ideal S1x2x64x64x128 .f32) (o : FVec Ideal S64x128 .f32) (hl : Fin 2) (Q K Φ : Vec Ideal S128x128 .f32)
    (V : Vec Ideal S64x128 .f32) (src old : Vec Ideal S1x2x64x64x128 .f32) : Prop :=
  LoopOut o hl (fun r b => Q (ix2 r b)) (fun r b => K (ix2 r b)) (fun r b => Φ (ix2 r b)) (fun v b => V (ix2 v b))
      (fun k v b => src (ix5 0 hl k v b))
    ∧ ∀ h' k v b, new (ix5 0 h' k v b)
        = if h' = hl then Φ (ix2 (rowOf hl k) b) * src (ix5 0 hl k v b) + K (ix2 (rowOf hl k) b) * V (ix2 v b)
          else old (ix5 0 h' k v b)

section
variable (c : Dev nD) (arg7 arg9 : Memref sig .tc .vmem S1x2x64x64x128 .f32) (arg10 arg11 arg12 : Memref sig .tc .vmem S128x128 .f32)
  (X7 : arg7.view.ty.Contents (Elt Ideal)) (X10 : arg10.view.ty.Contents (Elt Ideal)) (X11 : arg11.view.ty.Contents (Elt Ideal))
  (X12 : arg12.view.ty.Contents (Elt Ideal)) (G : arg9.view.ty.Contents (Elt Ideal)) (hl : Fin 2) (vt : Vec Ideal S64x128 .f32)

/-- The transposed query, key and gate as they were, and the state block one loop on. -/
abbrev Post (src : Vec Ideal S1x2x64x64x128 .f32) (acc : FVec Ideal S64x128 .f32) : sProp 𝕄 :=
  iprop((arg10.view.loc (c : Thread nD τ) ↦[arg10.view.set]{fullShare} X10) ∗ (arg11.view.loc (c : Thread nD τ) ↦[arg11.view.set]{fullShare} X11)
    ∗ (arg12.view.loc (c : Thread nD τ) ↦[arg12.view.set]{fullShare} X12)
    ∗ (∃ f, (arg9.view.loc (c : Thread nD τ) ↦[arg9.view.set]{fullShare} f)
        ∗ ⌜Step (arg9.view.read (Elt Ideal) f) acc hl (arg10.view.read (Elt Ideal) X10) (arg11.view.read (Elt Ideal) X11)
            (arg12.view.read (Elt Ideal) X12) vt src (arg9.view.read (Elt Ideal) G)⌝))

theorem exit_next (src : Vec Ideal S1x2x64x64x128 .f32) (o : FVec Ideal S64x128 .f32) (L : List (View.Piece (Elt Ideal) S1x2x64x64x128 .f32))
    (h : Step (arg9.view.read (Elt Ideal) (arg9.view.writes (Elt Ideal) G L)) o hl (arg10.view.read (Elt Ideal) X10)
      (arg11.view.read (Elt Ideal) X11) (arg12.view.read (Elt Ideal) X12) vt src (arg9.view.read (Elt Ideal) G))
    (acc : FVec Ideal S64x128 .f32) :
    iprop((arg10.view.loc (c : Thread nD τ) ↦[arg10.view.set]{fullShare} X10) ∗ (arg11.view.loc (c : Thread nD τ) ↦[arg11.view.set]{fullShare} X11)
      ∗ (arg12.view.loc (c : Thread nD τ) ↦[arg12.view.set]{fullShare} X12)
      ∗ (∃ f, (arg9.view.loc (c : Thread nD τ) ↦[arg9.view.set]{fullShare} f) ∗ ⌜f = arg9.view.writes (Elt Ideal) G L⌝) ∗ ⌜acc = o⌝)
    ⊢ (Post c arg9 arg10 arg11 arg12 X10 X11 X12 G hl vt src acc : sProp 𝕄) := by
  iintro ⟨H10, H11, H12, ⟨%f, H9, %hf⟩, %ha⟩
  subst hf; subst ha
  isplitl [H10]; · iexact H10
  isplitl [H11]; · iexact H11
  isplitl [H12]; · iexact H12
  iexists _; isplitl [H9]; · iexact H9
  ipureintro; exact h

theorem exit_first (src : Vec Ideal S1x2x64x64x128 .f32) (o : FVec Ideal S64x128 .f32) (L : List (View.Piece (Elt Ideal) S1x2x64x64x128 .f32))
    (h : Step (arg9.view.read (Elt Ideal) (arg9.view.writes (Elt Ideal) G L)) o hl (arg10.view.read (Elt Ideal) X10)
      (arg11.view.read (Elt Ideal) X11) (arg12.view.read (Elt Ideal) X12) vt src (arg9.view.read (Elt Ideal) G))
    (acc : FVec Ideal S64x128 .f32) :
    iprop((arg7.view.loc (c : Thread nD τ) ↦[arg7.view.set]{fullShare} X7) ∗ (arg10.view.loc (c : Thread nD τ) ↦[arg10.view.set]{fullShare} X10)
      ∗ (arg11.view.loc (c : Thread nD τ) ↦[arg11.view.set]{fullShare} X11) ∗ (arg12.view.loc (c : Thread nD τ) ↦[arg12.view.set]{fullShare} X12)
      ∗ (∃ f, (arg9.view.loc (c : Thread nD τ) ↦[arg9.view.set]{fullShare} f) ∗ ⌜f = arg9.view.writes (Elt Ideal) G L⌝) ∗ ⌜acc = o⌝)
    ⊢ (iprop((arg7.view.loc (c : Thread nD τ) ↦[arg7.view.set]{fullShare} X7)
        ∗ Post c arg9 arg10 arg11 arg12 X10 X11 X12 G hl vt src acc) : sProp 𝕄) := by
  iintro ⟨H7, H⟩
  isplitl [H7]; · iexact H7
  iapply (exit_next c arg9 arg10 arg11 arg12 X10 X11 X12 G hl vt src o L h acc)
  iexact H

end

section
variable (𝒱 : Variants) (c : Dev nD) (bd : Option 𝒱.V) (E : Set ℕ) (i : grid0.Coords)
  (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole)
  (arg4 : Memref sig .tc .vmem S1024x128 .f32) (harg4 : arg4.IsWhole) (arg5 : Memref sig .tc .vmem S2x128 .f32) (harg5 : arg5.IsWhole) (arg6 : Memref sig .tc .vmem S1x1x128 .f32) (harg6 : arg6.IsWhole)
  (arg7 : Memref sig .tc .vmem S1x2x64x64x128 .f32) (harg7 : arg7.IsWhole) (arg8 : Memref sig .tc .vmem S1024x128 .bf16) (harg8 : arg8.IsWhole) (arg9 : Memref sig .tc .vmem S1x2x64x64x128 .f32) (harg9 : arg9.IsWhole)
  (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole)
  (arg13 : Memref sig .tc .vmem S128x128 .f32) (harg13 : arg13.IsWhole) (arg14 : Memref sig .tc .vmem S128x128 .f32) (harg14 : arg14.IsWhole)

instance exit1 (v38 : FVec Ideal S128x128 .f32) (v47 : Vec Ideal S64x128 .f32) (X_arg7 : BufTy.Contents (Elt Ideal) arg7.view.ty) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t1 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v38 v47 X_arg7 X_arg10 X_arg11 X_arg12 G_arg9 (k0_pay8 (F := Ideal))) where
  post acc := iprop((arg7.view.loc (c : Thread nD τ) ↦[arg7.view.set]{fullShare} X_arg7) ∗ Post c arg9 arg10 arg11 arg12 X_arg10 X_arg11 X_arg12 G_arg9 0 v47 (arg7.view.read (Elt Ideal) X_arg7) acc)
  exit acc := by
    refine exit_first c arg7 arg9 arg10 arg11 arg12 X_arg7 X_arg10 X_arg11 X_arg12 G_arg9 0 v47 _ _ _
      (loop_first _ _ _ _ _ _ _ _ _ _ 0 _ (by decide +kernel)
        (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v38 v47 X_arg7 X_arg10 X_arg11 X_arg12 (k0_pay8 (F := Ideal))) v47
        k0_off2 (by decide +kernel) k0_off1 (by decide +kernel) (by decide +kernel) (by decide +kernel) rfl fun k => ?_) acc
    rw [st_k0_t1_succ]
    unfold tripR_k0_t1 tripL_k0_t1 trip_k0_t1
    rfl

instance exit2 (v38 : FVec Ideal S128x128 .f32) (v64 : Vec Ideal S64x128 .f32) (X_arg7 : BufTy.Contents (Elt Ideal) arg7.view.ty) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t2 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v38 v64 X_arg7 X_arg10 X_arg11 X_arg12 G_arg9 (k0_pay13 (F := Ideal))) where
  post acc := iprop((arg7.view.loc (c : Thread nD τ) ↦[arg7.view.set]{fullShare} X_arg7) ∗ Post c arg9 arg10 arg11 arg12 X_arg10 X_arg11 X_arg12 G_arg9 1 v64 (arg7.view.read (Elt Ideal) X_arg7) acc)
  exit acc := by
    refine exit_first c arg7 arg9 arg10 arg11 arg12 X_arg7 X_arg10 X_arg11 X_arg12 G_arg9 1 v64 _ _ _
      (loop_first _ _ _ _ _ _ _ _ _ _ 1 _ (by decide +kernel)
        (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v38 v64 X_arg7 X_arg10 X_arg11 X_arg12 (k0_pay13 (F := Ideal))) v64
        k0_off4 (by decide +kernel) k0_off3 (by decide +kernel) (by decide +kernel) (by decide +kernel) rfl fun k => ?_) acc
    rw [st_k0_t2_succ]
    unfold tripR_k0_t2 tripL_k0_t2 trip_k0_t2
    rfl

instance exit3 (v11 : FVec Ideal S1x128 .f32) (v93 : Vec Ideal S128x128 .f32) (v102 : FVec Ideal S1x128 .f32) (v105 : FVec Ideal S128x128 .f32) (v128 : Vec Ideal S64x128 .f32) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t3 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v11 v93 v102 v105 v128 X_arg10 X_arg11 X_arg12 G_arg9 (k0_pay26 (F := Ideal))) where
  post acc := Post c arg9 arg10 arg11 arg12 X_arg10 X_arg11 X_arg12 G_arg9 0 v128 (arg9.view.read (Elt Ideal) G_arg9) acc
  exit acc := by
    refine exit_next c arg9 arg10 arg11 arg12 X_arg10 X_arg11 X_arg12 G_arg9 0 v128 _ _ _
      (loop_next _ _ _ _ _ _ _ _ 0 _ (by decide +kernel)
        (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v11 v93 v102 v105 v128 X_arg10 X_arg11 X_arg12 G_arg9 (k0_pay26 (F := Ideal))) v128
        k0_off6 (by decide +kernel) k0_off5 (by decide +kernel) (by decide +kernel) (by decide +kernel) rfl fun k => ?_) acc
    rw [st_k0_t3_succ]
    unfold tripR_k0_t3 tripL_k0_t3 trip_k0_t3
    rfl

instance exit4 (v141 : FVec Ideal S64x128 .f32) (v145 : Vec Ideal S64x128 .f32) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t4 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v141 v145 X_arg10 X_arg11 X_arg12 G_arg9 (k0_pay32 (F := Ideal))) where
  post acc := Post c arg9 arg10 arg11 arg12 X_arg10 X_arg11 X_arg12 G_arg9 1 v145 (arg9.view.read (Elt Ideal) G_arg9) acc
  exit acc := by
    refine exit_next c arg9 arg10 arg11 arg12 X_arg10 X_arg11 X_arg12 G_arg9 1 v145 _ _ _
      (loop_next _ _ _ _ _ _ _ _ 1 _ (by decide +kernel)
        (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v141 v145 X_arg10 X_arg11 X_arg12 G_arg9 (k0_pay32 (F := Ideal))) v145
        k0_off8 (by decide +kernel) k0_off7 (by decide +kernel) (by decide +kernel) (by decide +kernel) rfl fun k => ?_) acc
    rw [st_k0_t4_succ]
    unfold tripR_k0_t4 tripL_k0_t4 trip_k0_t4
    rfl

instance exit5 (v209 : Vec Ideal S64x128 .f32) (v210 : FVec Ideal S64x128 .f32) (c0_i32_120 : BitVec 32) (c64_i32_121 : BitVec 32) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t5 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v209 v210 c0_i32_120 c64_i32_121 X_arg10 X_arg11 X_arg12 G_arg9 (k0_pay42 (F := Ideal))) where
  post acc := Post c arg9 arg10 arg11 arg12 X_arg10 X_arg11 X_arg12 G_arg9 0 v209 (arg9.view.read (Elt Ideal) G_arg9) acc
  exit acc := by
    refine exit_next c arg9 arg10 arg11 arg12 X_arg10 X_arg11 X_arg12 G_arg9 0 v209 _ _ _
      (loop_next _ _ _ _ _ _ _ _ 0 _ (by decide +kernel)
        (st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v209 v210 c0_i32_120 c64_i32_121 X_arg10 X_arg11 X_arg12 G_arg9 (k0_pay42 (F := Ideal))) v209
        k0_off10 (by decide +kernel) k0_off9 (by decide +kernel) (by decide +kernel) (by decide +kernel) rfl fun k => ?_) acc
    rw [st_k0_t5_succ]
    unfold tripR_k0_t5 tripL_k0_t5 trip_k0_t5
    rfl

instance exit6 (v209 : Vec Ideal S64x128 .f32) (v210 : FVec Ideal S64x128 .f32) (c0_i32_120 : BitVec 32) (c64_i32_121 : BitVec 32) (v226 : Vec Ideal S64x128 .f32) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t6 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v209 v210 c0_i32_120 c64_i32_121 v226 X_arg10 X_arg11 X_arg12 G_arg9 (k0_pay47 (F := Ideal))) where
  post acc := Post c arg9 arg10 arg11 arg12 X_arg10 X_arg11 X_arg12 G_arg9 1 v226 (arg9.view.read (Elt Ideal) G_arg9) acc
  exit acc := by
    refine exit_next c arg9 arg10 arg11 arg12 X_arg10 X_arg11 X_arg12 G_arg9 1 v226 _ _ _
      (loop_next _ _ _ _ _ _ _ _ 1 _ (by decide +kernel)
        (st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v209 v210 c0_i32_120 c64_i32_121 v226 X_arg10 X_arg11 X_arg12 G_arg9 (k0_pay47 (F := Ideal))) v226
        k0_off12 (by decide +kernel) k0_off11 (by decide +kernel) (by decide +kernel) (by decide +kernel) rfl fun k => ?_) acc
    rw [st_k0_t6_succ]
    unfold tripR_k0_t6 tripL_k0_t6 trip_k0_t6
    rfl

instance exit7 (v281 : FVec Ideal S128x128 .f32) (v290 : Vec Ideal S64x128 .f32) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t7 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v281 v290 X_arg10 X_arg11 X_arg12 G_arg9 (k0_pay59 (F := Ideal))) where
  post acc := Post c arg9 arg10 arg11 arg12 X_arg10 X_arg11 X_arg12 G_arg9 0 v290 (arg9.view.read (Elt Ideal) G_arg9) acc
  exit acc := by
    refine exit_next c arg9 arg10 arg11 arg12 X_arg10 X_arg11 X_arg12 G_arg9 0 v290 _ _ _
      (loop_next _ _ _ _ _ _ _ _ 0 _ (by decide +kernel)
        (st_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v281 v290 X_arg10 X_arg11 X_arg12 G_arg9 (k0_pay59 (F := Ideal))) v290
        k0_off14 (by decide +kernel) k0_off13 (by decide +kernel) (by decide +kernel) (by decide +kernel) rfl fun k => ?_) acc
    rw [st_k0_t7_succ]
    unfold tripR_k0_t7 tripL_k0_t7 trip_k0_t7
    rfl

instance exit8 (v281 : FVec Ideal S128x128 .f32) (v307 : Vec Ideal S64x128 .f32) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t8 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v281 v307 X_arg10 X_arg11 X_arg12 G_arg9 (k0_pay64 (F := Ideal))) where
  post acc := Post c arg9 arg10 arg11 arg12 X_arg10 X_arg11 X_arg12 G_arg9 1 v307 (arg9.view.read (Elt Ideal) G_arg9) acc
  exit acc := by
    refine exit_next c arg9 arg10 arg11 arg12 X_arg10 X_arg11 X_arg12 G_arg9 1 v307 _ _ _
      (loop_next _ _ _ _ _ _ _ _ 1 _ (by decide +kernel)
        (st_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v281 v307 X_arg10 X_arg11 X_arg12 G_arg9 (k0_pay64 (F := Ideal))) v307
        k0_off16 (by decide +kernel) k0_off15 (by decide +kernel) (by decide +kernel) (by decide +kernel) rfl fun k => ?_) acc
    rw [st_k0_t8_succ]
    unfold tripR_k0_t8 tripL_k0_t8 trip_k0_t8
    rfl

instance exit9 (v11 : FVec Ideal S1x128 .f32) (v336 : Vec Ideal S128x128 .f32) (v351 : FVec Ideal S128x128 .f32) (v371 : Vec Ideal S64x128 .f32) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t9 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v11 v336 v351 v371 X_arg10 X_arg11 X_arg12 G_arg9 (k0_pay76 (F := Ideal))) where
  post acc := Post c arg9 arg10 arg11 arg12 X_arg10 X_arg11 X_arg12 G_arg9 0 v371 (arg9.view.read (Elt Ideal) G_arg9) acc
  exit acc := by
    refine exit_next c arg9 arg10 arg11 arg12 X_arg10 X_arg11 X_arg12 G_arg9 0 v371 _ _ _
      (loop_next _ _ _ _ _ _ _ _ 0 _ (by decide +kernel)
        (st_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v11 v336 v351 v371 X_arg10 X_arg11 X_arg12 G_arg9 (k0_pay76 (F := Ideal))) v371
        k0_off18 (by decide +kernel) k0_off17 (by decide +kernel) (by decide +kernel) (by decide +kernel) rfl fun k => ?_) acc
    rw [st_k0_t9_succ]
    unfold tripR_k0_t9 tripL_k0_t9 trip_k0_t9
    rfl

instance exit10 (v387 : FVec Ideal S64x128 .f32) (v388 : Vec Ideal S64x128 .f32) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t10 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v387 v388 X_arg10 X_arg11 X_arg12 G_arg9 (k0_pay81 (F := Ideal))) where
  post acc := Post c arg9 arg10 arg11 arg12 X_arg10 X_arg11 X_arg12 G_arg9 1 v388 (arg9.view.read (Elt Ideal) G_arg9) acc
  exit acc := by
    refine exit_next c arg9 arg10 arg11 arg12 X_arg10 X_arg11 X_arg12 G_arg9 1 v388 _ _ _
      (loop_next _ _ _ _ _ _ _ _ 1 _ (by decide +kernel)
        (st_k0_t10 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v387 v388 X_arg10 X_arg11 X_arg12 G_arg9 (k0_pay81 (F := Ideal))) v388
        k0_off20 (by decide +kernel) k0_off19 (by decide +kernel) (by decide +kernel) (by decide +kernel) rfl fun k => ?_) acc
    rw [st_k0_t10_succ]
    unfold tripR_k0_t10 tripL_k0_t10 trip_k0_t10
    rfl

instance exit11 (v11 : FVec Ideal S1x128 .f32) (v417 : Vec Ideal S128x128 .f32) (v418 : Vec Ideal S128x128 .f32) (cst_253 : Ideal .f32) (v452 : Vec Ideal S64x128 .f32) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t11 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v11 v417 v418 cst_253 v452 X_arg10 X_arg11 X_arg12 G_arg9 (k0_pay91 (F := Ideal))) where
  post acc := Post c arg9 arg10 arg11 arg12 X_arg10 X_arg11 X_arg12 G_arg9 0 v452 (arg9.view.read (Elt Ideal) G_arg9) acc
  exit acc := by
    refine exit_next c arg9 arg10 arg11 arg12 X_arg10 X_arg11 X_arg12 G_arg9 0 v452 _ _ _
      (loop_next _ _ _ _ _ _ _ _ 0 _ (by decide +kernel)
        (st_k0_t11 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v11 v417 v418 cst_253 v452 X_arg10 X_arg11 X_arg12 G_arg9 (k0_pay91 (F := Ideal))) v452
        k0_off22 (by decide +kernel) k0_off21 (by decide +kernel) (by decide +kernel) (by decide +kernel) rfl fun k => ?_) acc
    rw [st_k0_t11_succ]
    unfold tripR_k0_t11 tripL_k0_t11 trip_k0_t11
    rfl

instance exit12 (v455 : FVec Ideal S64x128 .f32) (v469 : Vec Ideal S64x128 .f32) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t12 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v455 v469 X_arg10 X_arg11 X_arg12 G_arg9 (k0_pay96 (F := Ideal))) where
  post acc := Post c arg9 arg10 arg11 arg12 X_arg10 X_arg11 X_arg12 G_arg9 1 v469 (arg9.view.read (Elt Ideal) G_arg9) acc
  exit acc := by
    refine exit_next c arg9 arg10 arg11 arg12 X_arg10 X_arg11 X_arg12 G_arg9 1 v469 _ _ _
      (loop_next _ _ _ _ _ _ _ _ 1 _ (by decide +kernel)
        (st_k0_t12 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v455 v469 X_arg10 X_arg11 X_arg12 G_arg9 (k0_pay96 (F := Ideal))) v469
        k0_off24 (by decide +kernel) k0_off23 (by decide +kernel) (by decide +kernel) (by decide +kernel) rfl fun k => ?_) acc
    rw [st_k0_t12_succ]
    unfold tripR_k0_t12 tripL_k0_t12 trip_k0_t12
    rfl

instance exit13 (v533 : Vec Ideal S64x128 .f32) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t13 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v533 X_arg10 X_arg11 X_arg12 G_arg9 (k0_pay108 (F := Ideal))) where
  post acc := Post c arg9 arg10 arg11 arg12 X_arg10 X_arg11 X_arg12 G_arg9 0 v533 (arg9.view.read (Elt Ideal) G_arg9) acc
  exit acc := by
    refine exit_next c arg9 arg10 arg11 arg12 X_arg10 X_arg11 X_arg12 G_arg9 0 v533 _ _ _
      (loop_next _ _ _ _ _ _ _ _ 0 _ (by decide +kernel)
        (st_k0_t13 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v533 X_arg10 X_arg11 X_arg12 G_arg9 (k0_pay108 (F := Ideal))) v533
        k0_off26 (by decide +kernel) k0_off25 (by decide +kernel) (by decide +kernel) (by decide +kernel) rfl fun k => ?_) acc
    rw [st_k0_t13_succ]
    unfold tripR_k0_t13 tripL_k0_t13 trip_k0_t13
    rfl

instance exit14 (v550 : Vec Ideal S64x128 .f32) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t14 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v550 X_arg10 X_arg11 X_arg12 G_arg9 (k0_pay113 (F := Ideal))) where
  post acc := Post c arg9 arg10 arg11 arg12 X_arg10 X_arg11 X_arg12 G_arg9 1 v550 (arg9.view.read (Elt Ideal) G_arg9) acc
  exit acc := by
    refine exit_next c arg9 arg10 arg11 arg12 X_arg10 X_arg11 X_arg12 G_arg9 1 v550 _ _ _
      (loop_next _ _ _ _ _ _ _ _ 1 _ (by decide +kernel)
        (st_k0_t14 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v550 X_arg10 X_arg11 X_arg12 G_arg9 (k0_pay113 (F := Ideal))) v550
        k0_off28 (by decide +kernel) k0_off27 (by decide +kernel) (by decide +kernel) (by decide +kernel) rfl fun k => ?_) acc
    rw [st_k0_t14_succ]
    unfold tripR_k0_t14 tripL_k0_t14 trip_k0_t14
    rfl

instance exit15 (v11 : FVec Ideal S1x128 .f32) (v579 : Vec Ideal S128x128 .f32) (v594 : FVec Ideal S128x128 .f32) (v595 : Vec Ideal S128x128 .f32) (v614 : Vec Ideal S64x128 .f32) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t15 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v11 v579 v594 v595 v614 X_arg10 X_arg11 X_arg12 G_arg9 (k0_pay125 (F := Ideal))) where
  post acc := Post c arg9 arg10 arg11 arg12 X_arg10 X_arg11 X_arg12 G_arg9 0 v614 (arg9.view.read (Elt Ideal) G_arg9) acc
  exit acc := by
    refine exit_next c arg9 arg10 arg11 arg12 X_arg10 X_arg11 X_arg12 G_arg9 0 v614 _ _ _
      (loop_next _ _ _ _ _ _ _ _ 0 _ (by decide +kernel)
        (st_k0_t15 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v11 v579 v594 v595 v614 X_arg10 X_arg11 X_arg12 G_arg9 (k0_pay125 (F := Ideal))) v614
        k0_off30 (by decide +kernel) k0_off29 (by decide +kernel) (by decide +kernel) (by decide +kernel) rfl fun k => ?_) acc
    rw [st_k0_t15_succ]
    unfold tripR_k0_t15 tripL_k0_t15 trip_k0_t15
    rfl

instance exit16 (v631 : Vec Ideal S64x128 .f32) (X_arg10 : BufTy.Contents (Elt Ideal) arg10.view.ty) (X_arg11 : BufTy.Contents (Elt Ideal) arg11.view.ty) (X_arg12 : BufTy.Contents (Elt Ideal) arg12.view.ty) (G_arg9 : BufTy.Contents (Elt Ideal) arg9.view.ty) :
    LoopExit (loopInv_k0_t16 (F := Ideal) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v631 X_arg10 X_arg11 X_arg12 G_arg9 (k0_pay130 (F := Ideal))) where
  post acc := Post c arg9 arg10 arg11 arg12 X_arg10 X_arg11 X_arg12 G_arg9 1 v631 (arg9.view.read (Elt Ideal) G_arg9) acc
  exit acc := by
    refine exit_next c arg9 arg10 arg11 arg12 X_arg10 X_arg11 X_arg12 G_arg9 1 v631 _ _ _
      (loop_next _ _ _ _ _ _ _ _ 1 _ (by decide +kernel)
        (st_k0_t16 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v631 X_arg10 X_arg11 X_arg12 G_arg9 (k0_pay130 (F := Ideal))) v631
        k0_off32 (by decide +kernel) k0_off31 (by decide +kernel) (by decide +kernel) (by decide +kernel) rfl fun k => ?_) acc
    rw [st_k0_t16_succ]
    unfold tripR_k0_t16 tripL_k0_t16 trip_k0_t16
    rfl

end

end Cert.Hgrn

end
-- ==== Proof.Hgrn.Block.lean ====
/-
  The recurrence over the eight tokens of one grid step, as functions of the step's input blocks, and the reads that tie
  the scratch buffers to them.
-/
module

public import proofs.«01_k».proof.Proof.Hgrn.Exit

@[expose] public section

set_option maxRecDepth 16384

noncomputable section

namespace Cert.Hgrn

open Idealize.ShloMosaic Idealize.ShloMosaic.TcCoe
open Cert.KernelIdeal Cert.KernelIdeal.Gen

/-- Row of sequence `b` of the token `t`. -/
def tok (t : Fin 8) (b : Fin 128) : Fin 1024 := ⟨128 * t.val + b.val, by omega⟩

/-- The lower bound of the gate of channel `r`. -/
def low (x4 : Vec Ideal S2x128 .f32) (r : Fin 128) : EReal := k0_pay2 x4 (ix2 0 r)

/-- The scaled query. -/
def qq (x0 : Vec Ideal S1024x128 .f32) (t : Fin 8) (r b : Fin 128) : EReal := x0 (ix2 (tok t b) r) * Ideal.ofBits .f32 0x3E000000#32

/-- The key: what the gate lets in. -/
def kk (x1 : Vec Ideal S1024x128 .f32) (x4 : Vec Ideal S2x128 .f32) (t : Fin 8) (r b : Fin 128) : EReal :=
  (Ideal.ofBits .f32 0x3F800000#32 - low x4 r) * Ideal.logistic (Ideal.ofBits .f32 0x00000000#32 - x1 (ix2 (tok t b) r))

/-- The forget gate. -/
def ff (x1 : Vec Ideal S1024x128 .f32) (x4 : Vec Ideal S2x128 .f32) (t : Fin 8) (r b : Fin 128) : EReal :=
  low x4 r + (Ideal.ofBits .f32 0x3F800000#32 - low x4 r) * Ideal.logistic (x1 (ix2 (tok t b) r))

/-- The value. -/
def vv (x2 : Vec Ideal S1024x128 .f32) (t : Fin 8) (r b : Fin 128) : EReal := x2 (ix2 (tok t b) r)

/-- The state of head `h` before token `n`. -/
def ss (x1 x2 : Vec Ideal S1024x128 .f32) (x4 : Vec Ideal S2x128 .f32) (x6 : Vec Ideal S1x2x64x64x128 .f32) :
    ℕ → Fin 2 → Fin 64 → Fin 64 → Fin 128 → EReal
  | 0, h, k, v, b => x6 (ix5 0 h k v b)
  | n + 1, h, k, v, b => if hn : n < 8 then ff x1 x4 ⟨n, hn⟩ (rowOf h k) b * ss x1 x2 x4 x6 n h k v b
      + kk x1 x4 ⟨n, hn⟩ (rowOf h k) b * vv x2 ⟨n, hn⟩ (rowOf h v) b else 0

/-- The read-out of token `t`. -/
def oo (x0 x1 x2 : Vec Ideal S1024x128 .f32) (x4 : Vec Ideal S2x128 .f32) (x6 : Vec Ideal S1x2x64x64x128 .f32)
    (t : Fin 8) (h : Fin 2) (v : Fin 64) (b : Fin 128) : EReal :=
  ∑ k : Fin 64, qq x0 t (rowOf h k) b * ss x1 x2 x4 x6 (t.val + 1) h k v b

theorem ss_succ (x1 x2 : Vec Ideal S1024x128 .f32) (x4 : Vec Ideal S2x128 .f32) (x6 : Vec Ideal S1x2x64x64x128 .f32) (t : Fin 8)
    (h : Fin 2) (k v : Fin 64) (b : Fin 128) :
    ss x1 x2 x4 x6 (t.val + 1) h k v b = ff x1 x4 t (rowOf h k) b * ss x1 x2 x4 x6 t.val h k v b
      + kk x1 x4 t (rowOf h k) b * vv x2 t (rowOf h v) b := by
  show (if hn : t.val < 8 then _ else _) = _
  rw [dif_pos t.isLt]

/-! ## Reads -/

/-- A buffer whose last write covered it reads that write. -/
theorem read_full {κ : Kind} {sp : Space} (V : View sig κ sp S128x128 .f32) (G : V.ty.Contents (Elt Ideal)) (inb : ∀ a, ![0, 0] a + S128x128.size a ≤ S128x128.size a)
    (w : Vec Ideal S128x128 .f32) (L : List (View.Piece (Elt Ideal) S128x128 .f32)) (r b : Fin 128) :
    V.read (Elt Ideal) (V.writes (Elt Ideal) G ((⟨Rect.unit (s := S128x128) ![0, 0] S128x128.size inb, w⟩ : View.Piece (Elt Ideal) S128x128 .f32) :: L)) (ix2 r b) = w (ix2 r b) :=
  View.read_writes_cons_rows_of_mem V G inb w L _ (ix2 r b) rfl (Nat.zero_add _).symm rfl

/-- The rows of one token in an input block. -/
theorem token_rows (A : Memref sig .tc .vmem S1024x128 .f32) (hA : A.IsWhole) (x : Vec Ideal S1024x128 .f32) (t : Fin 8)
    (inb : ∀ a, ![128 * t.val, 0] a + S128x128.size a ≤ S1024x128.size a) (b r : Fin 128) :
    (A.view.readAt (Elt Ideal) (Rect.unit (s := S1024x128) ![128 * t.val, 0] S128x128.size inb).toLoadRect (hA.unread x) : Vec Ideal S128x128 .f32) (ix2 b r)
      = x (ix2 (tok t b) r) := by
  rw [View.readAt_apply, hA.read_unread]
  congr 1
  funext a
  apply Fin.ext
  match a with
  | ⟨0, _⟩ => show 128 * t.val + 1 * b.val = 128 * t.val + b.val; omega
  | ⟨1, _⟩ => show 0 + 1 * r.val = r.val; omega

/-- The whole of a rank-two block. -/
theorem whole_two (A : Memref sig .tc .vmem S2x128 .f32) (hA : A.IsWhole) (x : Vec Ideal S2x128 .f32)
    (inb : ∀ a, ![0, 0] a + S2x128.size a ≤ S2x128.size a) :
    (A.view.readAt (Elt Ideal) (Rect.unit (s := S2x128) ![0, 0] S2x128.size inb).toLoadRect (hA.unread x) : Vec Ideal S2x128 .f32) = x := by
  funext j
  rw [View.readAt_apply, hA.read_unread]
  congr 1
  funext a
  apply Fin.ext
  match a with
  | ⟨0, _⟩ => show 0 + 1 * (j 0).val = (j 0).val; omega
  | ⟨1, _⟩ => show 0 + 1 * (j 1).val = (j 1).val; omega

theorem pay3_apply (x : Vec Ideal S128x128 .f32) (r b : Fin 128) :
    k0_pay3 x (ix2 r b) = x (ix2 b r) * Ideal.ofBits .f32 0x3E000000#32 := by
  unfold k0_pay3
  pointwise

theorem pay4_apply (x4 : Vec Ideal S2x128 .f32) (x : Vec Ideal S128x128 .f32) (r b : Fin 128) :
    k0_pay4 x4 x (ix2 r b) = (Ideal.ofBits .f32 0x3F800000#32 - low x4 r) * Ideal.logistic (Ideal.ofBits .f32 0x00000000#32 - x (ix2 b r)) := by
  unfold k0_pay4 low
  pointwise

theorem pay6_apply (x4 : Vec Ideal S2x128 .f32) (x : Vec Ideal S128x128 .f32) (r b : Fin 128) :
    k0_pay6 (k0_pay5 x4 x) (ix2 r b) = low x4 r + (Ideal.ofBits .f32 0x3F800000#32 - low x4 r) * Ideal.logistic (x (ix2 b r)) := by
  unfold k0_pay6 k0_pay5 low
  pointwise

theorem pay7_apply (x : Vec Ideal S128x128 .f32) (r b : Fin 128) : k0_pay7 x (ix2 r b) = x (ix2 b r) := by
  unfold k0_pay7
  pointwise

theorem pay12_apply (o : FVec Ideal S64x128 .f32) (v : Fin 64) (b : Fin 128) :
    k0_pay12 o (ix2 v b) = o (ix2 v b) * Ideal.rsqrt (Ideal.div (∑ u : Fin 64, o (ix2 u b) * o (ix2 u b)) (Ideal.ofBits .f32 0x42800000#32) + Ideal.ofBits .f32 0x358637BD#32) := by
  unfold k0_pay12
  pointwise

theorem pay19_apply (o : Vec Ideal S128x128 .f32) (w : Vec Ideal S1x1x128 .f32) (g : Vec Ideal S128x128 .f32) (b r : Fin 128) :
    k0_pay19 o w g (ix2 b r) = o (ix2 r b) * w (ix3 0 0 r) * (g (ix2 b r) * Ideal.logistic (g (ix2 b r))) := by
  unfold k0_pay19
  pointwise

end Cert.Hgrn

end
-- ==== Proof.Hgrn.Token.lean ====
/-
  One token of the body: its two loops carry the state from one token to the next and give the read-out; the rows stored
  for it are the normalised, gated read-out.
-/
module

public import proofs.«01_k».proof.Proof.Hgrn.Block

@[expose] public section

set_option maxRecDepth 16384

noncomputable section

namespace Cert.Hgrn

open Idealize.ShloMosaic Idealize.ShloMosaic.TcCoe
open Cert.KernelIdeal Cert.KernelIdeal.Gen

variable (x0 x1 x2 x3 : Vec Ideal S1024x128 .f32) (x4 : Vec Ideal S2x128 .f32) (x5 : Vec Ideal S1x1x128 .f32) (x6 : Vec Ideal S1x2x64x64x128 .f32) (t : Fin 8)

/-- What the two loops of a token establish. -/
def TokenOut (new : Vec Ideal S1x2x64x64x128 .f32) (a0 a1 : FVec Ideal S64x128 .f32) : Prop :=
  (∀ h k v b, new (ix5 0 h k v b) = ss x1 x2 x4 x6 (t.val + 1) h k v b)
    ∧ (∀ v b, a0 (ix2 v b) = oo x0 x1 x2 x4 x6 t 0 v b) ∧ (∀ v b, a1 (ix2 v b) = oo x0 x1 x2 x4 x6 t 1 v b)

theorem token_core (new mid old src src' : Vec Ideal S1x2x64x64x128 .f32) (a0 a1 : FVec Ideal S64x128 .f32) (Q K Φ : Vec Ideal S128x128 .f32)
    (V0 V1 : Vec Ideal S64x128 .f32) (hQ : ∀ r b, Q (ix2 r b) = qq x0 t r b) (hK : ∀ r b, K (ix2 r b) = kk x1 x4 t r b)
    (hΦ : ∀ r b, Φ (ix2 r b) = ff x1 x4 t r b) (hV0 : ∀ v b, V0 (ix2 v b) = vv x2 t (rowOf 0 v) b)
    (hV1 : ∀ v b, V1 (ix2 v b) = vv x2 t (rowOf 1 v) b)
    (hs0 : ∀ k v b, src (ix5 0 0 k v b) = ss x1 x2 x4 x6 t.val 0 k v b)
    (h0 : Step mid a0 0 Q K Φ V0 src old)
    (hs1 : ∀ k v b, src' (ix5 0 1 k v b) = ss x1 x2 x4 x6 t.val 1 k v b)
    (h1 : Step new a1 1 Q K Φ V1 src' mid) : TokenOut x0 x1 x2 x4 x6 t new a0 a1 := by
  have e0 : ∀ k v b, Φ (ix2 (rowOf 0 k) b) * src (ix5 0 0 k v b) + K (ix2 (rowOf 0 k) b) * V0 (ix2 v b) = ss x1 x2 x4 x6 (t.val + 1) 0 k v b :=
    fun k v b => by rw [ss_succ, hΦ, hK, hV0, hs0]
  have e1 : ∀ k v b, Φ (ix2 (rowOf 1 k) b) * src' (ix5 0 1 k v b) + K (ix2 (rowOf 1 k) b) * V1 (ix2 v b) = ss x1 x2 x4 x6 (t.val + 1) 1 k v b :=
    fun k v b => by rw [ss_succ, hΦ, hK, hV1, hs1]
  refine ⟨fun h k v b => ?_, fun v b => ?_, fun v b => ?_⟩
  · match h with
    | ⟨0, _⟩ => exact (h1.2 0 k v b).trans ((if_neg (by decide)).trans ((h0.2 0 k v b).trans ((if_pos rfl).trans (e0 k v b))))
    | ⟨1, _⟩ => exact (h1.2 1 k v b).trans ((if_pos rfl).trans (e1 k v b))
  · exact (h0.1 v b).trans (Finset.sum_congr rfl fun k _ => by rw [e0]; exact congrArg (· * _) (hQ _ _))
  · exact (h1.1 v b).trans (Finset.sum_congr rfl fun k _ => by rw [e1]; exact congrArg (· * _) (hQ _ _))

/-- A load of half the rows of a scratch buffer. -/
theorem half_rows {κ : Kind} {sp : Space} (V : View sig κ sp S128x128 .f32) (X : V.ty.Contents (Elt Ideal)) (h : Fin 2) {off : Fin 2 → ℕ}
    (hoff : off = ![64 * h.val, 0]) (inb : ∀ a, off a + S64x128.size a ≤ S128x128.size a) (v : Fin 64) (b : Fin 128) :
    (V.readAt (Elt Ideal) (Rect.unit (s := S128x128) off S64x128.size inb).toLoadRect X : Vec Ideal S64x128 .f32) (ix2 v b)
      = V.read (Elt Ideal) X (ix2 (rowOf h v) b) := by
  subst hoff
  rw [View.readAt_apply]
  congr 1
  funext a
  apply Fin.ext
  match a with
  | ⟨0, _⟩ => show 64 * h.val + 1 * v.val = 64 * h.val + v.val; omega
  | ⟨1, _⟩ => show 0 + 1 * b.val = b.val; omega

section
variable (arg1 arg2 arg3 arg4 : Memref sig .tc .vmem S1024x128 .f32) (harg1 : arg1.IsWhole) (harg2 : arg2.IsWhole) (harg3 : arg3.IsWhole) (harg4 : arg4.IsWhole)
  (arg5 : Memref sig .tc .vmem S2x128 .f32) (harg5 : arg5.IsWhole) (arg6 : Memref sig .tc .vmem S1x1x128 .f32) (harg6 : arg6.IsWhole)
  (V9 : View sig .tc .vmem S1x2x64x64x128 .f32) (V10 V11 V12 V13 V14 : View sig .tc .vmem S128x128 .f32)
  (G10 : V10.ty.Contents (Elt Ideal)) (G11 : V11.ty.Contents (Elt Ideal)) (G12 : V12.ty.Contents (Elt Ideal)) (G13 : V13.ty.Contents (Elt Ideal))
  (G14 : V14.ty.Contents (Elt Ideal))
  (L10 L11 L12 L13 L14 : List (View.Piece (Elt Ideal) S128x128 .f32))
  (inb : ∀ a, ![0, 0] a + S128x128.size a ≤ S128x128.size a) (inbt : ∀ a, ![128 * t.val, 0] a + S128x128.size a ≤ S1024x128.size a)
  (inb5 : ∀ a, ![0, 0] a + S2x128.size a ≤ S2x128.size a) (inbv0 : ∀ a, ![0, 0] a + S64x128.size a ≤ S128x128.size a)
  (inbv1 : ∀ a, ![64, 0] a + S64x128.size a ≤ S128x128.size a)

/-- The scratch buffers a token fills. -/
abbrev fullPiece (w : Vec Ideal S128x128 .f32) : View.Piece (Elt Ideal) S128x128 .f32 := ⟨Rect.unit (s := S128x128) ![0, 0] S128x128.size inb, w⟩

abbrev tokenRows (A : Memref sig .tc .vmem S1024x128 .f32) (hA : A.IsWhole) (x : Vec Ideal S1024x128 .f32) : Vec Ideal S128x128 .f32 :=
  A.view.readAt (Elt Ideal) (Rect.unit (s := S1024x128) ![128 * t.val, 0] S128x128.size inbt).toLoadRect (hA.unread x)

abbrev bounds : Vec Ideal S2x128 .f32 := arg5.view.readAt (Elt Ideal) (Rect.unit (s := S2x128) ![0, 0] S2x128.size inb5).toLoadRect (harg5.unread x4)

abbrev qBuf : Vec Ideal S128x128 .f32 := V10.read (Elt Ideal) (V10.writes (Elt Ideal) G10 (fullPiece inb (k0_pay3 (tokenRows t inbt arg1 harg1 x0)) :: L10))
abbrev kBuf : Vec Ideal S128x128 .f32 :=
  V11.read (Elt Ideal) (V11.writes (Elt Ideal) G11 (fullPiece inb (k0_pay4 (bounds x4 arg5 harg5 inb5) (tokenRows t inbt arg2 harg2 x1)) :: L11))
abbrev fBuf : Vec Ideal S128x128 .f32 :=
  V12.read (Elt Ideal) (V12.writes (Elt Ideal) G12 (fullPiece inb (k0_pay6 (k0_pay5 (bounds x4 arg5 harg5 inb5) (tokenRows t inbt arg2 harg2 x1))) :: L12))
abbrev vBuf0 : Vec Ideal S64x128 .f32 :=
  V13.readAt (Elt Ideal) (Rect.unit (s := S128x128) ![0, 0] S64x128.size inbv0).toLoadRect (V13.writes (Elt Ideal) G13 (fullPiece inb (k0_pay7 (tokenRows t inbt arg3 harg3 x2)) :: L13))
abbrev vBuf1 : Vec Ideal S64x128 .f32 :=
  V13.readAt (Elt Ideal) (Rect.unit (s := S128x128) ![64, 0] S64x128.size inbv1).toLoadRect (V13.writes (Elt Ideal) G13 (fullPiece inb (k0_pay7 (tokenRows t inbt arg3 harg3 x2)) :: L13))

theorem tokenRows_apply (A : Memref sig .tc .vmem S1024x128 .f32) (hA : A.IsWhole) (x : Vec Ideal S1024x128 .f32) (b r : Fin 128) :
    tokenRows t inbt A hA x (ix2 b r) = x (ix2 (tok t b) r) := token_rows A hA x t inbt b r

theorem bounds_eq : bounds x4 arg5 harg5 inb5 = x4 := whole_two arg5 harg5 x4 inb5

theorem qBuf_apply (r b : Fin 128) : qBuf x0 t arg1 harg1 V10 G10 L10 inb inbt (ix2 r b) = qq x0 t r b := by
  refine (read_full V10 G10 inb _ L10 r b).trans ((pay3_apply _ r b).trans ?_)
  rw [tokenRows_apply]; rfl

theorem kBuf_apply (r b : Fin 128) : kBuf x1 x4 t arg2 harg2 arg5 harg5 V11 G11 L11 inb inbt inb5 (ix2 r b) = kk x1 x4 t r b := by
  refine (read_full V11 G11 inb _ L11 r b).trans ((pay4_apply _ _ r b).trans ?_)
  rw [tokenRows_apply, bounds_eq]; rfl

theorem fBuf_apply (r b : Fin 128) : fBuf x1 x4 t arg2 harg2 arg5 harg5 V12 G12 L12 inb inbt inb5 (ix2 r b) = ff x1 x4 t r b := by
  refine (read_full V12 G12 inb _ L12 r b).trans ((pay6_apply _ _ r b).trans ?_)
  rw [tokenRows_apply, bounds_eq]; rfl

theorem vBuf0_apply (v : Fin 64) (b : Fin 128) : vBuf0 x2 t arg3 harg3 V13 G13 L13 inb inbt inbv0 (ix2 v b) = vv x2 t (rowOf 0 v) b := by
  refine (half_rows V13 _ 0 rfl inbv0 v b).trans ((read_full V13 G13 inb _ L13 _ b).trans ((pay7_apply _ _ b).trans ?_))
  rw [tokenRows_apply]; rfl

theorem vBuf1_apply (v : Fin 64) (b : Fin 128) : vBuf1 x2 t arg3 harg3 V13 G13 L13 inb inbt inbv1 (ix2 v b) = vv x2 t (rowOf 1 v) b := by
  refine (half_rows V13 _ 1 rfl inbv1 v b).trans ((read_full V13 G13 inb _ L13 _ b).trans ((pay7_apply _ _ b).trans ?_))
  rw [tokenRows_apply]; rfl

/-- The first token. -/
theorem token_first (f0 f1 f2 : V9.ty.Contents (Elt Ideal)) (a0 a1 : FVec Ideal S64x128 .f32) (src : Vec Ideal S1x2x64x64x128 .f32) (hsrc : src = x6) (ht : t.val = 0)
    (h0 : Step (V9.read (Elt Ideal) f1) a0 0 (qBuf x0 t arg1 harg1 V10 G10 L10 inb inbt) (kBuf x1 x4 t arg2 harg2 arg5 harg5 V11 G11 L11 inb inbt inb5)
      (fBuf x1 x4 t arg2 harg2 arg5 harg5 V12 G12 L12 inb inbt inb5) (vBuf0 x2 t arg3 harg3 V13 G13 L13 inb inbt inbv0) src (V9.read (Elt Ideal) f0))
    (h1 : Step (V9.read (Elt Ideal) f2) a1 1 (qBuf x0 t arg1 harg1 V10 G10 L10 inb inbt) (kBuf x1 x4 t arg2 harg2 arg5 harg5 V11 G11 L11 inb inbt inb5)
      (fBuf x1 x4 t arg2 harg2 arg5 harg5 V12 G12 L12 inb inbt inb5) (vBuf1 x2 t arg3 harg3 V13 G13 L13 inb inbt inbv1) src (V9.read (Elt Ideal) f1)) :
    TokenOut x0 x1 x2 x4 x6 t (V9.read (Elt Ideal) f2) a0 a1 := by
  subst hsrc
  refine token_core x0 x1 x2 x4 src t _ _ _ _ _ a0 a1 _ _ _ _ _ ?_ ?_ ?_ ?_ ?_ ?_ h0 ?_ h1
  · exact fun r b => qBuf_apply ..
  · exact fun r b => kBuf_apply ..
  · exact fun r b => fBuf_apply ..
  · exact fun v b => vBuf0_apply ..
  · exact fun v b => vBuf1_apply ..
  all_goals intro k v b; rw [ht]; rfl

/-- A later token. -/
theorem token_next (f0 f1 f2 : V9.ty.Contents (Elt Ideal)) (a0 a1 : FVec Ideal S64x128 .f32)
    (hprev : ∀ h k v b, V9.read (Elt Ideal) f0 (ix5 0 h k v b) = ss x1 x2 x4 x6 t.val h k v b)
    (h0 : Step (V9.read (Elt Ideal) f1) a0 0 (qBuf x0 t arg1 harg1 V10 G10 L10 inb inbt) (kBuf x1 x4 t arg2 harg2 arg5 harg5 V11 G11 L11 inb inbt inb5)
      (fBuf x1 x4 t arg2 harg2 arg5 harg5 V12 G12 L12 inb inbt inb5) (vBuf0 x2 t arg3 harg3 V13 G13 L13 inb inbt inbv0) (V9.read (Elt Ideal) f0) (V9.read (Elt Ideal) f0))
    (h1 : Step (V9.read (Elt Ideal) f2) a1 1 (qBuf x0 t arg1 harg1 V10 G10 L10 inb inbt) (kBuf x1 x4 t arg2 harg2 arg5 harg5 V11 G11 L11 inb inbt inb5)
      (fBuf x1 x4 t arg2 harg2 arg5 harg5 V12 G12 L12 inb inbt inb5) (vBuf1 x2 t arg3 harg3 V13 G13 L13 inb inbt inbv1) (V9.read (Elt Ideal) f1) (V9.read (Elt Ideal) f1)) :
    TokenOut x0 x1 x2 x4 x6 t (V9.read (Elt Ideal) f2) a0 a1 := by
  refine token_core x0 x1 x2 x4 x6 t _ _ _ _ _ a0 a1 _ _ _ _ _ ?_ ?_ ?_ ?_ ?_ (hprev 0) h0
    (fun k v b => (h0.2 1 k v b).trans ((if_neg (by decide)).trans (hprev 1 k v b))) h1
  · exact fun r b => qBuf_apply ..
  · exact fun r b => kBuf_apply ..
  · exact fun r b => fBuf_apply ..
  · exact fun v b => vBuf0_apply ..
  · exact fun v b => vBuf1_apply ..

/-! ## The rows stored for a token -/

/-- The head of a channel and its place in the head. -/
def headOf (r : Fin 128) : Fin 2 := ⟨r.val / 64, by omega⟩
def chanOf (r : Fin 128) : Fin 64 := ⟨r.val % 64, Nat.mod_lt _ (by decide)⟩

theorem rowOf_head_chan (r : Fin 128) : rowOf (headOf r) (chanOf r) = r := Fin.ext (Nat.div_add_mod r.val 64)

/-- The read-out over the root of its mean square. -/
def nn (h : Fin 2) (v : Fin 64) (b : Fin 128) : EReal :=
  oo x0 x1 x2 x4 x6 t h v b * Ideal.rsqrt (Ideal.div (∑ u : Fin 64, oo x0 x1 x2 x4 x6 t h u b * oo x0 x1 x2 x4 x6 t h u b) (Ideal.ofBits .f32 0x42800000#32) + Ideal.ofBits .f32 0x358637BD#32)

def outRow (b r : Fin 128) : EReal :=
  nn x0 x1 x2 x4 x6 t (headOf r) (chanOf r) b * x5 (ix3 0 0 r) * (x3 (ix2 (tok t b) r) * Ideal.logistic (x3 (ix2 (tok t b) r)))

abbrev oBuf (a0 a1 : FVec Ideal S64x128 .f32) : Vec Ideal S128x128 .f32 :=
  V14.readAt (Elt Ideal) (Rect.unit (s := S128x128) ![0, 0] S128x128.size inb).toLoadRect
    (V14.writes (Elt Ideal) G14 ((⟨Rect.unit (s := S128x128) ![64, 0] S64x128.size inbv1, k0_pay12 a1⟩ : View.Piece (Elt Ideal) S128x128 .f32)
      :: (⟨Rect.unit (s := S128x128) ![0, 0] S64x128.size inbv0, k0_pay12 a0⟩ : View.Piece (Elt Ideal) S128x128 .f32) :: L14))

theorem oBuf_apply (a0 a1 : FVec Ideal S64x128 .f32) (h : Fin 2) (v : Fin 64) (b : Fin 128)
    (h0 : ∀ v b, a0 (ix2 v b) = oo x0 x1 x2 x4 x6 t 0 v b) (h1 : ∀ v b, a1 (ix2 v b) = oo x0 x1 x2 x4 x6 t 1 v b) :
    oBuf V14 G14 L14 inb inbv0 inbv1 a0 a1 (ix2 (rowOf h v) b) = nn x0 x1 x2 x4 x6 t h v b := by
  have e : oBuf V14 G14 L14 inb inbv0 inbv1 a0 a1 (ix2 (rowOf h v) b) = V14.read (Elt Ideal)
    (V14.writes (Elt Ideal) G14 ((⟨Rect.unit (s := S128x128) ![64, 0] S64x128.size inbv1, k0_pay12 a1⟩ : View.Piece (Elt Ideal) S128x128 .f32)
      :: (⟨Rect.unit (s := S128x128) ![0, 0] S64x128.size inbv0, k0_pay12 a0⟩ : View.Piece (Elt Ideal) S128x128 .f32) :: L14)) (ix2 (rowOf h v) b) := by
    unfold oBuf
    rw [View.readAt_apply]
    congr 1
    funext a
    apply Fin.ext
    match a with
    | ⟨0, _⟩ => show 0 + 1 * (rowOf h v).val = (rowOf h v).val; omega
    | ⟨1, _⟩ => show 0 + 1 * b.val = b.val; omega
  rw [e]
  have hh : h = 0 ∨ h = 1 := (by decide : ∀ h : Fin 2, h = 0 ∨ h = 1) h
  obtain rfl | rfl := hh
  · refine (View.read_writes_cons_rows_of_not_mem (o := 64) (W := 64) V14 G14 inbv1 _ _ _ rfl rfl (.inl (show 64 * 0 + v.val < 64 by omega))).trans
      ((View.read_writes_cons_rows_of_mem (o := 0) V14 G14 inbv0 _ L14 _ (ix2 v b) rfl (show 64 * 0 + v.val = 0 + v.val by omega) rfl).trans
        ((pay12_apply a0 v b).trans ?_))
    unfold nn
    simp only [h0]
  · refine (View.read_writes_cons_rows_of_mem (o := 64) V14 G14 inbv1 _ _ _ (ix2 v b) rfl (show 64 * 1 + v.val = 64 + v.val by omega) rfl).trans
      ((pay12_apply a1 v b).trans ?_)
    unfold nn
    simp only [h1]

abbrev gainRow (inb6 : ∀ a, ![0, 0, 0] a + S1x1x128.size a ≤ S1x1x128.size a) : Vec Ideal S1x1x128 .f32 :=
  arg6.view.readAt (Elt Ideal) (Rect.unit (s := S1x1x128) ![0, 0, 0] S1x1x128.size inb6).toLoadRect (harg6.unread x5)

theorem gainRow_apply (inb6 : ∀ a, ![0, 0, 0] a + S1x1x128.size a ≤ S1x1x128.size a) (r : Fin 128) :
    gainRow x5 arg6 harg6 inb6 (ix3 0 0 r) = x5 (ix3 0 0 r) := by
  unfold gainRow
  rw [View.readAt_apply, harg6.read_unread]
  congr 1
  funext a
  apply Fin.ext
  match a with
  | ⟨0, _⟩ => rfl
  | ⟨1, _⟩ => rfl
  | ⟨2, _⟩ => show 0 + 1 * r.val = r.val; omega

theorem stored_row (inb6 : ∀ a, ![0, 0, 0] a + S1x1x128.size a ≤ S1x1x128.size a) (a0 a1 : FVec Ideal S64x128 .f32)
    (new : Vec Ideal S1x2x64x64x128 .f32) (h : TokenOut x0 x1 x2 x4 x6 t new a0 a1) (b r : Fin 128) :
    k0_pay19 (oBuf V14 G14 L14 inb inbv0 inbv1 a0 a1) (gainRow x5 arg6 harg6 inb6) (tokenRows t inbt arg4 harg4 x3) (ix2 b r)
      = outRow x0 x1 x2 x3 x4 x5 x6 t b r := by
  rw [pay19_apply, gainRow_apply, tokenRows_apply]
  have e := oBuf_apply x0 x1 x2 x4 x6 t V14 G14 L14 inb inbv0 inbv1 a0 a1 (headOf r) (chanOf r) b h.2.1 h.2.2
  rw [rowOf_head_chan] at e
  rw [e]
  rfl

end

/-- The output block. -/
def outBlk : Vec Ideal S1024x128 .bf16 := fun j =>
  outRow x0 x1 x2 x3 x4 x5 x6 ⟨(j 0).val / 128, by have h : (j 0).val < 1024 := (j 0).isLt; omega⟩ ⟨(j 0).val % 128, Nat.mod_lt _ (by decide)⟩ (j 1)

/-- The state block. -/
def stBlk : Vec Ideal S1x2x64x64x128 .f32 := fun j => ss x1 x2 x4 x6 8 (j 1) (j 2) (j 3) (j 4)

/-- The rows of one token written over those of the earlier ones. -/
theorem rows_cons {κ : Kind} {sp : Space} (V : View sig κ sp S1024x128 .bf16) (G : V.ty.Contents (Elt Ideal))
    (inbt : ∀ a, ![128 * t.val, 0] a + S128x128.size a ≤ S1024x128.size a)
    (w : Vec Ideal S128x128 .bf16) (L : List (View.Piece (Elt Ideal) S1024x128 .bf16))
    (hw : ∀ b r, w (ix2 b r) = outRow x0 x1 x2 x3 x4 x5 x6 t b r)
    (hL : ∀ j : S1024x128.Idx, (j 0).val < 128 * t.val → V.read (Elt Ideal) (V.writes (Elt Ideal) G L) j = outBlk x0 x1 x2 x3 x4 x5 x6 j)
    (j : S1024x128.Idx) (hj : (j 0).val < 128 * (t.val + 1)) :
    V.read (Elt Ideal) (V.writes (Elt Ideal) G ((⟨Rect.unit (s := S1024x128) ![128 * t.val, 0] S128x128.size inbt, w⟩ : View.Piece (Elt Ideal) S1024x128 .bf16) :: L)) j
      = outBlk x0 x1 x2 x3 x4 x5 x6 j := by
  by_cases h : (j 0).val < 128 * t.val
  · exact (View.read_writes_cons_rows_of_not_mem (o := 128 * t.val) (W := 128) V G inbt w L j rfl rfl (.inl h)).trans (hL j h)
  · have hb : (j 0).val % 128 < 128 := Nat.mod_lt _ (by decide)
    refine (View.read_writes_cons_rows_of_mem (o := 128 * t.val) V G inbt w L j (ix2 ⟨(j 0).val % 128, hb⟩ (j 1)) rfl ?_ rfl).trans ((hw _ _).trans ?_)
    · show (j 0).val = 128 * t.val + (j 0).val % 128; omega
    · unfold outBlk
      congr 1
      exact Fin.ext (by show t.val = (j 0).val / 128; omega)

end Cert.Hgrn

end
-- ==== Proof.Hgrn.Run.lean ====
/-
  The body of the recurrence's call, from its arguments to its two results.
-/
module

public import proofs.«01_k».proof.Proof.Gen.KernelIdeal.Frame.Runs
public import proofs.«01_k».proof.Proof.Hgrn.Token

@[expose] public section

set_option maxRecDepth 16384

noncomputable section

namespace Cert.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

set_option maxHeartbeats 4000000 in
/-- One run of the body at any grid point: it returns its seven inputs as they were, leaves the normed and gated
    rows in the first result's block and the state after the eighth token in the second's, whatever the scratch
    buffers hold before and after. -/
theorem run (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S2x128 .f32) (harg5 : arg5.IsWhole) (arg6 : Memref sig .tc .vmem S1x1x128 .f32) (harg6 : arg6.IsWhole) (arg7 : Memref sig .tc .vmem S1x2x64x64x128 .f32) (harg7 : arg7.IsWhole) (arg8 : Memref sig .tc .vmem S1024x128 .bf16) (harg8 : arg8.IsWhole) (arg9 : Memref sig .tc .vmem S1x2x64x64x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole)
    (x0 : Vec Ideal S1024x128 .f32) (x1 : Vec Ideal S1024x128 .f32) (x2 : Vec Ideal S1024x128 .f32) (x3 : Vec Ideal S1024x128 .f32) (x4 : Vec Ideal S2x128 .f32) (x5 : Vec Ideal S1x1x128 .f32) (x6 : Vec Ideal S1x2x64x64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
    ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlk x0 x1 x2 x3 x4 x5 x6) ∗ owns (c : Thread nD τ) arg9 fullShare (stBlk x1 x2 x4 x6) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := Ideal)) Variants.none c none) E (cc0_hgrn_sample i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_hgrn_sample_eq_skeleton]; unfold cc0_hgrn_sample_skel
  simp only [k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  have hx : arg7.view.read (Elt Ideal) (harg7.unread x6) = x6 := harg7.read_unread x6
  have T0 := token_first x0 x1 x2 x4 x6 0 arg1 arg2 arg3 harg1 harg2 harg3 arg5 harg5 arg9.view arg10.view arg11.view arg12.view arg13.view _ _ _ _ _ _ _ _ _ _ _ _ _ _ _ _ _ _ _ hx rfl hL5 hL11
  have T1 := token_next x0 x1 x2 x4 x6 1 arg1 arg2 arg3 harg1 harg2 harg3 arg5 harg5 arg9.view arg10.view arg11.view arg12.view arg13.view _ _ _ _ _ _ _ _ _ _ _ _ _ _ _ _ _ _ T0.1 hL16 hL21
  have T2 := token_next x0 x1 x2 x4 x6 2 arg1 arg2 arg3 harg1 harg2 harg3 arg5 harg5 arg9.view arg10.view arg11.view arg12.view arg13.view _ _ _ _ _ _ _ _ _ _ _ _ _ _ _ _ _ _ T1.1 hL26 hL31
  have T3 := token_next x0 x1 x2 x4 x6 3 arg1 arg2 arg3 harg1 harg2 harg3 arg5 harg5 arg9.view arg10.view arg11.view arg12.view arg13.view _ _ _ _ _ _ _ _ _ _ _ _ _ _ _ _ _ _ T2.1 hL36 hL41
  have T4 := token_next x0 x1 x2 x4 x6 4 arg1 arg2 arg3 harg1 harg2 harg3 arg5 harg5 arg9.view arg10.view arg11.view arg12.view arg13.view _ _ _ _ _ _ _ _ _ _ _ _ _ _ _ _ _ _ T3.1 hL46 hL51
  have T5 := token_next x0 x1 x2 x4 x6 5 arg1 arg2 arg3 harg1 harg2 harg3 arg5 harg5 arg9.view arg10.view arg11.view arg12.view arg13.view _ _ _ _ _ _ _ _ _ _ _ _ _ _ _ _ _ _ T4.1 hL56 hL61
  have T6 := token_next x0 x1 x2 x4 x6 6 arg1 arg2 arg3 harg1 harg2 harg3 arg5 harg5 arg9.view arg10.view arg11.view arg12.view arg13.view _ _ _ _ _ _ _ _ _ _ _ _ _ _ _ _ _ _ T5.1 hL66 hL71
  have T7 := token_next x0 x1 x2 x4 x6 7 arg1 arg2 arg3 harg1 harg2 harg3 arg5 harg5 arg9.view arg10.view arg11.view arg12.view arg13.view _ _ _ _ _ _ _ _ _ _ _ _ _ _ _ _ _ _ T6.1 hL76 hL81
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [HL6]
  · iexists _; isplitr; · ipureintro; exact harg7.read_unread _
    iexact HL6
  isplitl [H7]
  · iexists _; isplitr; swap; · iexact H7
    ipureintro
    refine funext fun j => ?_
    have hj := (j 0).isLt
    refine rows_cons x0 x1 x2 x3 x4 x5 x6 7 arg8.view f7 _ _ _ (fun b r => ?_) (fun j hj => ?_) j hj
    · exact stored_row x0 x1 x2 x3 x4 x5 x6 7 arg4 harg4 arg6 harg6 arg14.view _ _ _ _ _ _ _ _ _ _ T7 b r
    refine rows_cons x0 x1 x2 x3 x4 x5 x6 6 arg8.view f7 _ _ _ (fun b r => ?_) (fun j hj => ?_) j hj
    · exact stored_row x0 x1 x2 x3 x4 x5 x6 6 arg4 harg4 arg6 harg6 arg14.view _ _ _ _ _ _ _ _ _ _ T6 b r
    refine rows_cons x0 x1 x2 x3 x4 x5 x6 5 arg8.view f7 _ _ _ (fun b r => ?_) (fun j hj => ?_) j hj
    · exact stored_row x0 x1 x2 x3 x4 x5 x6 5 arg4 harg4 arg6 harg6 arg14.view _ _ _ _ _ _ _ _ _ _ T5 b r
    refine rows_cons x0 x1 x2 x3 x4 x5 x6 4 arg8.view f7 _ _ _ (fun b r => ?_) (fun j hj => ?_) j hj
    · exact stored_row x0 x1 x2 x3 x4 x5 x6 4 arg4 harg4 arg6 harg6 arg14.view _ _ _ _ _ _ _ _ _ _ T4 b r
    refine rows_cons x0 x1 x2 x3 x4 x5 x6 3 arg8.view f7 _ _ _ (fun b r => ?_) (fun j hj => ?_) j hj
    · exact stored_row x0 x1 x2 x3 x4 x5 x6 3 arg4 harg4 arg6 harg6 arg14.view _ _ _ _ _ _ _ _ _ _ T3 b r
    refine rows_cons x0 x1 x2 x3 x4 x5 x6 2 arg8.view f7 _ _ _ (fun b r => ?_) (fun j hj => ?_) j hj
    · exact stored_row x0 x1 x2 x3 x4 x5 x6 2 arg4 harg4 arg6 harg6 arg14.view _ _ _ _ _ _ _ _ _ _ T2 b r
    refine rows_cons x0 x1 x2 x3 x4 x5 x6 1 arg8.view f7 _ _ _ (fun b r => ?_) (fun j hj => ?_) j hj
    · exact stored_row x0 x1 x2 x3 x4 x5 x6 1 arg4 harg4 arg6 harg6 arg14.view _ _ _ _ _ _ _ _ _ _ T1 b r
    refine rows_cons x0 x1 x2 x3 x4 x5 x6 0 arg8.view f7 _ _ _ (fun b r => ?_) (fun j hj => ?_) j hj
    · exact stored_row x0 x1 x2 x3 x4 x5 x6 0 arg4 harg4 arg6 harg6 arg14.view _ _ _ _ _ _ _ _ _ _ T0 b r
    exact absurd hj (Nat.not_lt_zero _)
  isplitl [HL80]
  · iexists _; isplitr; swap; · iexact HL80
    ipureintro
    refine funext fun j => ?_
    have e : j = ix5 0 (j 1) (j 2) (j 3) (j 4) := (eq_ix5 j).trans (by congr 1; exact Fin.ext (Nat.lt_one_iff.mp (j 0).isLt))
    rw [e]
    exact T7.1 _ _ _ _
  isplitl [HL77]
  · iexists _, _; isplitr; swap; · iexact HL77
    ipureintro; rfl
  isplitl [HL78]
  · iexists _, _; isplitr; swap; · iexact HL78
    ipureintro; rfl
  isplitl [HL79]
  · iexists _, _; isplitr; swap; · iexact HL79
    ipureintro; rfl
  isplitl [HS3]
  · iexists _, _; isplitr; swap; · iexact HS3
    ipureintro; rfl
  iexists _, _; isplitr; swap; · iexact HS4
  ipureintro; rfl

end Cert.Hgrn
end
-- ==== Proof.Hgrn.Frame.lean ====
/-
  The launch of the recurrence's kernel over its two pairs of heads, at extended real values: what each grid
  point leaves in the two output blocks, the run of the whole program, and the two output arrays block by block.
-/
module

public import proofs.«01_k».proof.Proof.Hgrn.Run
public import proofs.«01_k».proof.Proof.Gen.KernelIdeal.Frame.Runs
public import Idealize.ShloMosaic.Lib.Claim
public import Idealize.ShloMosaic.Lib.Pipeline.Value

@[expose] public section

noncomputable section

namespace Cert.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What point `t` leaves in the block of layer outputs. -/
def outAt (c : Dev nD) (t : Fin cfg0.N) : Vec Ideal S1024x128 .bf16 :=
  outBlk (iblk m c 0 t) (iblk m c 1 t) (iblk m c 2 t) (iblk m c 3 t) (iblk m c 4 t) (iblk m c 5 t) (iblk m c 6 t)

/-- What point `t` leaves in the block of states. -/
def stAt (c : Dev nD) (t : Fin cfg0.N) : Vec Ideal S1x2x64x64x128 .f32 :=
  stBlk (iblk m c 1 t) (iblk m c 2 t) (iblk m c 4 t) (iblk m c 6 t)

/-! ## The pipeline's proof data -/

/-- The proof data of the one pipeline on core `c`: the arrays as the region finds them (`V`); after the body at
    point `t` each input's buffer at its block and the outputs' at `outAt` and `stAt`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => stAt m c t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]
theorem after0_8 (c : Dev nD) (t : Fin cfg0.N) : (dats m 0 c).after 8 t = stAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outAt stAt
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (Cert.Hgrn.run c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-! ## Blockwise: what each point writes back, and the final array block by block -/

/-- WHAT POINT `t` WRITES BACK to output window 7's array: the run's contents for that window after the body, read through the window's block. -/
theorem flushed7 (c : Dev nD) (t : Fin cfg0.N) :
    (dats m 0 c).flushed 7 t = (cfg0.win 7).cut (grid0.coords t) (outAt m c t) := by
  show (cfg0.win 7).cut (grid0.coords t) ((dats m 0 c).after 7 t) = _
  rw [after0_7]

/-- The index map sends distinct grid points to distinct block indices (decided over the 2 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt Ideal) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S1024x256.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body, read through the window's block. -/
theorem flushed8 (c : Dev nD) (t : Fin cfg0.N) :
    (dats m 0 c).flushed 8 t = (cfg0.win 8).cut (grid0.coords t) (stAt m c t) := by
  show (cfg0.win 8).cut (grid0.coords t) ((dats m 0 c).after 8 t) = _
  rw [after0_8]

/-- The index map sends distinct grid points to distinct block indices (decided over the 2 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt Ideal) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2x4x64x64x128.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 7's array is `(dats m 0 c).arrAt 7 N`. -/
theorem post7 (r : PUnit × MemSt nD τ sig (Elt Ideal)) (h : Pipeline.FramePost cfgs (dats m) 0 (V m) r) (c : Dev nD) :
    r.2.mem ((c : Thread nD τ).loc main_v1_0) = (dats m 0 c).arrAt 7 cfg0.N :=
  (h c).1 7

/-- After the frame run, output window 8's array is `(dats m 0 c).arrAt 8 N`. -/
theorem post8 (r : PUnit × MemSt nD τ sig (Elt Ideal)) (h : Pipeline.FramePost cfgs (dats m) 0 (V m) r) (c : Dev nD) :
    r.2.mem ((c : Thread nD τ).loc main_v1_1) = (dats m 0 c).arrAt 8 cfg0.N :=
  (h c).1 8

/-- After the frame run, argument `main_arg0` is as launched: input window 3 stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: input window 4 stages it and never writes it back. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- After the frame run, argument `main_arg2` is as launched: no window stages it, and the run leaves the region's other buffers as they were. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 6 stages it and never writes it back. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 6).trans (((dats m 0 c).arrAt_in 6 rfl _).trans ((A_eq m c 6).trans (V_main_arg3 m c)))

/-- The frame run with each output array after the run NAMED — `(dats m 0 c).arrAt w N`, which `blocks_w` / `entry_w` read —,
    the arguments unchanged. -/
theorem run_blocks : θ_run defs (onTc (τ := τ) (main (F := Ideal))) ⟨m, fun _ => 0, ρ⟩ fun r => ∀ c : Dev nD,
      r.2.mem ((c : Thread nD τ).loc main_v1_0) = (dats m 0 c).arrAt 7 cfg0.N
      ∧ r.2.mem ((c : Thread nD τ).loc main_v1_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post7 m r h c,
      post8 m r h c,
      kept_main_arg0 m r h c,
      kept_main_arg1 m r h c,
      kept_main_arg2 m r h c,
      kept_main_arg3 m r h c⟩)
    (run_main m ρ)

end Cert.Hgrn

end
-- ==== Proof.Hgrn.Math.lean ====
/-
  The real-number mathematics of the gated recurrence, and the reading of a host window sum as a prefix sum.
-/
module

public import Idealize.ShloMosaic.PureOps.Ideal.Laws
public import Idealize.ShloMosaic.Lib.Pointwise

@[expose] public section

noncomputable section

namespace Cert.Hgrn

open Idealize.ShloMosaic

/-! ### The recurrence and its closed form -/

/-- The state of one key/value channel after `t` tokens: decay by the forget gate, add the new rank-one term. -/
def state (s0 : ℝ) (f κ v : ℕ → ℝ) : ℕ → ℝ
  | 0 => s0
  | t + 1 => f t * state s0 f κ v t + κ t * v t

/-- The log of the total decay of the tokens up to and including `t`. -/
def logDecay (f : ℕ → ℝ) (t : ℕ) : ℝ := ∑ s ∈ Finset.range (t + 1), Real.log (f s)

theorem logDecay_succ (f : ℕ → ℝ) (t : ℕ) : logDecay f (t + 1) = logDecay f t + Real.log (f (t + 1)) := by
  unfold logDecay; rw [Finset.sum_range_succ _ (t + 1)]

/-- Unrolled, the state is the decayed initial state plus the decayed contributions of the tokens so far. -/
theorem state_closed (s0 : ℝ) (f κ v : ℕ → ℝ) (hf : ∀ t, 0 < f t) (t : ℕ) :
    state s0 f κ v (t + 1) = s0 * Real.exp (logDecay f t)
      + ∑ s ∈ Finset.range (t + 1), v s * (κ s * Real.exp (logDecay f t - logDecay f s)) := by
  induction t with
  | zero => simp [state, logDecay, Real.exp_log (hf 0)]; ring
  | succ t ih =>
    have hstep : ∀ x, Real.exp (logDecay f (t + 1) - x) = f (t + 1) * Real.exp (logDecay f t - x) := by
      intro x
      rw [logDecay_succ, show logDecay f t + Real.log (f (t + 1)) - x = Real.log (f (t + 1)) + (logDecay f t - x) by ring,
        Real.exp_add, Real.exp_log (hf _)]
    have h0 : Real.exp (logDecay f (t + 1)) = f (t + 1) * Real.exp (logDecay f t) := by
      have := hstep 0; simpa using this
    rw [state, ih, Finset.sum_range_succ _ (t + 1), h0, sub_self, Real.exp_zero, mul_add, Finset.mul_sum]
    have : ∀ s, v s * (κ s * Real.exp (logDecay f (t + 1) - logDecay f s))
        = f (t + 1) * (v s * (κ s * Real.exp (logDecay f t - logDecay f s))) := by
      intro s; rw [hstep]; ring
    simp only [this]
    ring

/-- A sum up to `t` as a sum over a longer range in which the later terms count nothing. -/
theorem sum_upto (T t : ℕ) (ht : t < T) (g : ℕ → ℝ) :
    ∑ s ∈ Finset.range (t + 1), g s = ∑ s : Fin T, if s.val ≤ t then g s else 0 := by
  rw [Finset.sum_fin_eq_sum_range, ← Finset.sum_subset (Finset.range_subset_range.2 ht)]
  · refine Finset.sum_congr rfl fun s hs => ?_
    have hs := Finset.mem_range.1 hs
    rw [dif_pos (by omega), if_pos (by show s ≤ t; omega)]
  · intro s h1 h2
    have h1 := Finset.mem_range.1 h1
    have h2 : ¬ s < t + 1 := fun h => h2 (Finset.mem_range.2 h)
    rw [dif_pos h1, if_neg (by show ¬ s ≤ t; omega)]

/-- The attention form of the read-out (a score for every earlier token, then the scores against the values, and the
    initial state decayed) is the query against the recurrent state. -/
theorem readout_real {n : ℕ} (q : Fin n → ℝ) (s0 : Fin n → ℝ) (f κ : Fin n → ℕ → ℝ) (v : ℕ → ℝ) (hf : ∀ k t, 0 < f k t)
    (T t : ℕ) (ht : t < T) :
    ∑ s : Fin T, v s * (∑ k, q k * κ k s * (if s.val ≤ t then Real.exp (logDecay (f k) t - logDecay (f k) s) else 0))
      + ∑ k, s0 k * (q k * Real.exp (logDecay (f k) t))
    = ∑ k, q k * state (s0 k) (f k) (κ k) v (t + 1) := by
  have hs : ∀ k, state (s0 k) (f k) (κ k) v (t + 1) = s0 k * Real.exp (logDecay (f k) t)
      + ∑ s ∈ Finset.range (t + 1), v s * (κ k s * Real.exp (logDecay (f k) t - logDecay (f k) s)) :=
    fun k => state_closed _ _ _ _ (hf k) t
  have hr : ∀ g : ℕ → ℝ, ∑ s ∈ Finset.range (t + 1), g s = ∑ s : Fin T, if s.val ≤ t then g s else 0 :=
    fun g => sum_upto T t ht g
  simp only [hs, hr, mul_add, Finset.sum_add_distrib, Finset.mul_sum]
  rw [Finset.sum_comm, add_comm]
  congr 1
  · refine Finset.sum_congr rfl fun k _ => by ring
  · refine Finset.sum_congr rfl fun k _ => Finset.sum_congr rfl fun s _ => ?_
    split <;> ring

/-- A finite sum of real numbers, as an extended real. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ### Window sums -/

theorem foldl_add {ι : Type} (l : List ι) (g : ι → EReal) (v : EReal) :
    l.foldl (fun r n => r + g n) v = v + (l.map g).sum := by
  induction l generalizing v with
  | nil => simp
  | cons a l ih => simp only [List.foldl_cons, List.map_cons, List.sum_cons]; rw [ih, add_assoc]

/-- A host window sum at an index: the initial value, plus the sum over the window's positions. -/
theorem windowSum_apply {s t : Shape} (window strides lo hi : Fin s.rank → Nat) (h : s.ReduceWindows window strides lo hi t)
    (x : s.Idx → EReal) (v : EReal) (j : t.Idx) :
    Ideal.hostReduceWindowAdd window strides lo hi h x v j
      = v + ∑ w : (⟨s.rank, window⟩ : Shape).Idx,
          (if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else v) := by
  unfold Ideal.hostReduceWindowAdd Host.reduceWindow
  dsimp only
  rw [foldl_add, ← Fin.sum_univ_def]
  congr 1
  refine (Finset.sum_congr rfl fun n _ => ?_).trans (Equiv.sum_comp ((⟨s.rank, window⟩ : Shape).rowMajor.symm) (fun w =>
          (if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else v)))
  congr

/-- The one long axis of a `1 x 8 x 1 x 1` window. -/
def win4 : Fin 8 ≃ (⟨4, ![1, 8, 1, 1]⟩ : Shape).Idx where
  toFun n := ix4 (0 : Fin 1) n (0 : Fin 1) (0 : Fin 1)
  invFun w := w 1
  left_inv _ := rfl
  right_inv w := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- The one long axis of a `2 x 1` window. -/
def win2 : Fin 2 ≃ (⟨2, ![2, 1]⟩ : Shape).Idx where
  toFun n := ix2 n (0 : Fin 1)
  invFun w := w 0
  left_inv _ := rfl
  right_inv w := by
    funext a
    match a with
    | ⟨0, _⟩ => rfl
    | ⟨1, _⟩ => exact Subsingleton.elim (α := Fin 1) _ _

/-- The running sum over the token axis: the entry at `t` is the sum of the entries up to `t`. -/
theorem cumsum_tokens (h : (⟨4, ![128, 8, 4, 64]⟩ : Shape).ReduceWindows ![1, 8, 1, 1] ![1, 1, 1, 1] ![0, 7, 0, 0] ![0, 0, 0, 0] ⟨4, ![128, 8, 4, 64]⟩)
    (x : (⟨4, ![128, 8, 4, 64]⟩ : Shape).Idx → EReal) (b : Fin 128) (t : Fin 8) (hd : Fin 4) (k : Fin 64) :
    Ideal.hostReduceWindowAdd ![1, 8, 1, 1] ![1, 1, 1, 1] ![0, 7, 0, 0] ![0, 0, 0, 0] h x 0 (ix4 b t hd k)
      = ∑ s : Fin 8, if s.val ≤ t.val then x (ix4 b s hd k) else 0 := by
  have key : ∀ n : Fin 8, (if hin : ∀ a : Fin 4, (![0, 7, 0, 0] : Fin 4 → Nat) a ≤ ((ix4 b t hd k : (⟨4, ![128, 8, 4, 64]⟩ : Shape).Idx) a).val * (![1, 1, 1, 1] : Fin 4 → Nat) a + (win4 n a).val
              ∧ ((ix4 b t hd k : (⟨4, ![128, 8, 4, 64]⟩ : Shape).Idx) a).val * (![1, 1, 1, 1] : Fin 4 → Nat) a + (win4 n a).val - (![0, 7, 0, 0] : Fin 4 → Nat) a < (⟨4, ![128, 8, 4, 64]⟩ : Shape).size a
            then x (fun a => ⟨((ix4 b t hd k : (⟨4, ![128, 8, 4, 64]⟩ : Shape).Idx) a).val * (![1, 1, 1, 1] : Fin 4 → Nat) a + (win4 n a).val - (![0, 7, 0, 0] : Fin 4 → Nat) a, (hin a).2⟩) else 0)
        = if hn : 7 ≤ t.val + n.val then x (ix4 b ⟨t.val + n.val - 7, by omega⟩ hd k) else 0 := by
    intro n
    by_cases hn : 7 ≤ t.val + n.val
    · have hin : ∀ a : Fin 4, (![0, 7, 0, 0] : Fin 4 → Nat) a ≤ ((ix4 b t hd k : (⟨4, ![128, 8, 4, 64]⟩ : Shape).Idx) a).val * (![1, 1, 1, 1] : Fin 4 → Nat) a + (win4 n a).val
              ∧ ((ix4 b t hd k : (⟨4, ![128, 8, 4, 64]⟩ : Shape).Idx) a).val * (![1, 1, 1, 1] : Fin 4 → Nat) a + (win4 n a).val - (![0, 7, 0, 0] : Fin 4 → Nat) a < (⟨4, ![128, 8, 4, 64]⟩ : Shape).size a := by
        intro a
        match a with
        | ⟨0, _⟩ => show 0 ≤ b.val * 1 + 0 ∧ b.val * 1 + 0 - 0 < 128; omega
        | ⟨1, _⟩ => show 7 ≤ t.val * 1 + n.val ∧ t.val * 1 + n.val - 7 < 8; omega
        | ⟨2, _⟩ => show 0 ≤ hd.val * 1 + 0 ∧ hd.val * 1 + 0 - 0 < 4; omega
        | ⟨3, _⟩ => show 0 ≤ k.val * 1 + 0 ∧ k.val * 1 + 0 - 0 < 64; omega
      rw [dif_pos hin, dif_pos hn]
      congr 1
      funext a
      apply Fin.ext
      match a with
      | ⟨0, _⟩ => show b.val * 1 + 0 - 0 = b.val; omega
      | ⟨1, _⟩ => show t.val * 1 + n.val - 7 = t.val + n.val - 7; omega
      | ⟨2, _⟩ => show hd.val * 1 + 0 - 0 = hd.val; omega
      | ⟨3, _⟩ => show k.val * 1 + 0 - 0 = k.val; omega
    · rw [dif_neg hn, dif_neg]
      intro hin
      have := (hin 1).1
      have : 7 ≤ t.val * 1 + n.val := this
      omega
  rw [windowSum_apply, zero_add, ← Equiv.sum_comp win4]
  refine (Finset.sum_congr rfl fun n _ => key n).trans ?_
  match t with
  | ⟨0, _⟩ => simp [Fin.sum_univ_eight]
  | ⟨1, _⟩ => simp [Fin.sum_univ_eight]
  | ⟨2, _⟩ => simp [Fin.sum_univ_eight]
  | ⟨3, _⟩ => simp [Fin.sum_univ_eight]
  | ⟨4, _⟩ => simp [Fin.sum_univ_eight]
  | ⟨5, _⟩ => simp [Fin.sum_univ_eight]
  | ⟨6, _⟩ => simp [Fin.sum_univ_eight]
  | ⟨7, _⟩ => simp [Fin.sum_univ_eight]

/-- The running sum over the two layers. -/
theorem cumsum_layers (h : (⟨2, ![2, 256]⟩ : Shape).ReduceWindows ![2, 1] ![1, 1] ![1, 0] ![0, 0] ⟨2, ![2, 256]⟩)
    (x : (⟨2, ![2, 256]⟩ : Shape).Idx → EReal) (l : Fin 2) (d : Fin 256) :
    Ideal.hostReduceWindowAdd ![2, 1] ![1, 1] ![1, 0] ![0, 0] h x 0 (ix2 l d)
      = if l = 0 then x (ix2 0 d) else x (ix2 0 d) + x (ix2 1 d) := by
  have key : ∀ n : Fin 2, (if hin : ∀ a : Fin 2, (![1, 0] : Fin 2 → Nat) a ≤ ((ix2 l d : (⟨2, ![2, 256]⟩ : Shape).Idx) a).val * (![1, 1] : Fin 2 → Nat) a + (win2 n a).val
              ∧ ((ix2 l d : (⟨2, ![2, 256]⟩ : Shape).Idx) a).val * (![1, 1] : Fin 2 → Nat) a + (win2 n a).val - (![1, 0] : Fin 2 → Nat) a < (⟨2, ![2, 256]⟩ : Shape).size a
            then x (fun a => ⟨((ix2 l d : (⟨2, ![2, 256]⟩ : Shape).Idx) a).val * (![1, 1] : Fin 2 → Nat) a + (win2 n a).val - (![1, 0] : Fin 2 → Nat) a, (hin a).2⟩) else 0)
        = if hn : 1 ≤ l.val + n.val then x (ix2 ⟨l.val + n.val - 1, by omega⟩ d) else 0 := by
    intro n
    by_cases hn : 1 ≤ l.val + n.val
    · have hin : ∀ a : Fin 2, (![1, 0] : Fin 2 → Nat) a ≤ ((ix2 l d : (⟨2, ![2, 256]⟩ : Shape).Idx) a).val * (![1, 1] : Fin 2 → Nat) a + (win2 n a).val
              ∧ ((ix2 l d : (⟨2, ![2, 256]⟩ : Shape).Idx) a).val * (![1, 1] : Fin 2 → Nat) a + (win2 n a).val - (![1, 0] : Fin 2 → Nat) a < (⟨2, ![2, 256]⟩ : Shape).size a := by
        intro a
        match a with
        | ⟨0, _⟩ => show 1 ≤ l.val * 1 + n.val ∧ l.val * 1 + n.val - 1 < 2; omega
        | ⟨1, _⟩ => show 0 ≤ d.val * 1 + 0 ∧ d.val * 1 + 0 - 0 < 256; omega
      rw [dif_pos hin, dif_pos hn]
      congr 1
      funext a
      apply Fin.ext
      match a with
      | ⟨0, _⟩ => show l.val * 1 + n.val - 1 = l.val + n.val - 1; omega
      | ⟨1, _⟩ => show d.val * 1 + 0 - 0 = d.val; omega
    · rw [dif_neg hn, dif_neg]
      intro hin
      have := (hin 0).1
      have : 1 ≤ l.val * 1 + n.val := this
      omega
  rw [windowSum_apply, zero_add, ← Equiv.sum_comp win2]
  refine (Finset.sum_congr rfl fun n _ => key n).trans ?_
  match l with
  | ⟨0, _⟩ => simp [Fin.sum_univ_two]
  | ⟨1, _⟩ => simp [Fin.sum_univ_two]

end Cert.Hgrn

end
-- ==== Proof.Hgrn.Gate.lean ====
/-
  The gates of the recurrence as real numbers: the lower bound (the second row of a softmax over the two layers), the
  forget gate, the key, the value and the query of a token, and the state that they make.
-/
module

public import proofs.«01_k».proof.Proof.Hgrn.Block
public import proofs.«01_k».proof.Proof.Hgrn.Math

@[expose] public section

noncomputable section

namespace Cert.Hgrn

open Idealize.ShloMosaic

/-! ## Constants -/

theorem one_f32 : Ideal.ofBits .f32 0x3F800000#32 = 1 := by
  simp [Ideal.ofBits, Ideal.ieee]
  rw [← EReal.coe_mul, ← EReal.coe_one]
  norm_num

theorem eighth_f32 : Ideal.ofBits .f32 0x3E000000#32 = ((1 / 8 : ℝ) : EReal) := by
  simp [Ideal.ofBits, Ideal.ieee]
  rw [← EReal.coe_mul]
  norm_num

theorem bot_f32 : Ideal.ofBits .f32 0xFF800000#32 = ⊥ := by
  simp [Ideal.ofBits, Ideal.ieee]

/-! ## The softmax over two layers -/

/-- The share of layer `l` among two. -/
def share (p : Fin 2 → ℝ) (l : Fin 2) : ℝ := Real.exp (p l) / (Real.exp (p 0) + Real.exp (p 1))

theorem share_pos (p : Fin 2 → ℝ) (l : Fin 2) : 0 < share p l := by
  unfold share; positivity

theorem share_lt (p : Fin 2 → ℝ) : share p 1 < 1 := by
  unfold share
  rw [div_lt_one (by positivity)]
  have := Real.exp_pos (p 0)
  linarith

/-- The share does not depend on the shift that keeps the exponentials small. -/
theorem softmax_two (p : Fin 2 → ℝ) (M : ℝ) (l : Fin 2) :
    Ideal.div (Ideal.exp ((p l : EReal) - (M : EReal)))
      (Ideal.exp ((p 0 : EReal) - (M : EReal)) + Ideal.exp ((p 1 : EReal) - (M : EReal))) = ((share p l : ℝ) : EReal) := by
  simp only [← EReal.coe_sub, Ideal.exp_coe, ← EReal.coe_add]
  rw [Ideal.div_coe (by positivity), ← EReal.coe_mul]
  congr 1
  unfold share
  have h0 := Real.exp_pos (p 0)
  have h1 := Real.exp_pos (p 1)
  have hM := Real.exp_pos M
  rw [Real.exp_sub, Real.exp_sub, Real.exp_sub]
  field_simp

/-- The larger of two real numbers, as a fold from below. -/
theorem fold_max_two (p : Fin 2 → EReal) (q : Fin 2 → ℝ) (h : ∀ l, p l = (q l : EReal)) :
    Finset.univ.fold max ⊥ p = ((max (q 0) (q 1) : ℝ) : EReal) := by
  have : (Finset.univ : Finset (Fin 2)) = {0, 1} := by decide
  rw [this, Finset.fold_insert (by decide), Finset.fold_singleton, h, h, max_eq_left (bot_le : (⊥ : EReal) ≤ _)]
  exact (EReal.coe_strictMono.monotone.map_max).symm

/-! ## The gates -/

/-- The channel of a head. -/
def chan (h : Fin 4) (k : Fin 64) : Fin 256 := ⟨64 * h.val + k.val, by omega⟩

/-- The column of a channel of the queries, the forget gates, the values or the output gates. -/
def col (j : Fin 4) (d : Fin 256) : Fin 1024 := ⟨256 * j.val + d.val, by omega⟩

/-- The logistic function. -/
def sig (x : ℝ) : ℝ := (1 + Real.exp (-x))⁻¹

theorem sig_pos (x : ℝ) : 0 < sig x := by
  unfold sig; positivity

variable (G : Fin 1024 → Fin 1024 → ℝ) (p : Fin 2 → Fin 256 → ℝ) (S : Fin 4 → Fin 64 → Fin 64 → Fin 128 → ℝ)

/-- The lower bound of a channel. -/
def bnd (d : Fin 256) : ℝ := share (fun l => p l d) 1

/-- The forget gate of channel `d` at token `t`. -/
def fg (b : Fin 128) (d : Fin 256) (t : ℕ) : ℝ :=
  if ht : t < 8 then bnd p d + (1 - bnd p d) * sig (G (tok ⟨t, ht⟩ b) (col 1 d)) else 1

/-- The key. -/
def kg (b : Fin 128) (d : Fin 256) (t : ℕ) : ℝ :=
  if ht : t < 8 then (1 - bnd p d) * sig (-G (tok ⟨t, ht⟩ b) (col 1 d)) else 0

/-- The value. -/
def vg (b : Fin 128) (d : Fin 256) (t : ℕ) : ℝ := if ht : t < 8 then G (tok ⟨t, ht⟩ b) (col 2 d) else 0

/-- The scaled query. -/
def qg (b : Fin 128) (d : Fin 256) (t : Fin 8) : ℝ := G (tok t b) (col 0 d) * (1 / 8)

theorem fg_fin (b : Fin 128) (d : Fin 256) (t : Fin 8) :
    fg G p b d t.val = bnd p d + (1 - bnd p d) * sig (G (tok t b) (col 1 d)) := dif_pos t.isLt

theorem kg_fin (b : Fin 128) (d : Fin 256) (t : Fin 8) :
    kg G p b d t.val = (1 - bnd p d) * sig (-G (tok t b) (col 1 d)) := dif_pos t.isLt

theorem vg_fin (b : Fin 128) (d : Fin 256) (t : Fin 8) : vg G b d t.val = G (tok t b) (col 2 d) := dif_pos t.isLt

theorem fg_pos (b : Fin 128) (d : Fin 256) (t : ℕ) : 0 < fg G p b d t := by
  unfold fg
  split
  · have h0 : 0 < bnd p d := share_pos _ _
    have h1 : bnd p d < 1 := share_lt _
    have h2 := sig_pos (G (tok ⟨t, by assumption⟩ b) (col 1 d))
    nlinarith [mul_pos (sub_pos.2 h1) h2]
  · exact one_pos

/-- The state of head `h` after `n` tokens. -/
def stR (b : Fin 128) (h : Fin 4) (k v : Fin 64) (n : ℕ) : ℝ :=
  state (S h k v b) (fg G p b (chan h k)) (kg G p b (chan h k)) (vg G b (chan h v)) n

/-- The read-out of head `h` at token `t`. -/
def ooR (b : Fin 128) (h : Fin 4) (v : Fin 64) (t : Fin 8) : ℝ :=
  ∑ k : Fin 64, qg G b (chan h k) t * stR G p S b h k v (t.val + 1)

end Cert.Hgrn

end
-- ==== Proof.Hgrn.Ref.lean ====
/-
  The reference read stage by stage at real projections, lower bounds and states: the gates, the decay of the tokens so
  far, the scores, and with them the read-out and the last state, which are those of the recurrence.
-/
module

public import proofs.«01_k».proof.Proof.Gen.ReferenceIdeal.Read
public import proofs.«01_k».proof.Proof.Hgrn.Gate

@[expose] public section

set_option maxRecDepth 16384

noncomputable section

namespace Cert.Hgrn.Ref

open Idealize.ShloMosaic Idealize.ShloMosaic.TcCoe
open Cert.ReferenceIdeal Cert.ReferenceIdeal.Gen Cert.ReferenceIdeal.Read

/-- Indices with the same coordinates are the same. -/
theorem idx_ext {s : Shape} {i j : s.Idx} (h : ∀ a, (i a).val = (j a).val) : i = j := funext fun a => Fin.ext (h a)

variable (x0 : (⟨S1024x1024, .f32⟩ : BufTy).Contents (Elt Ideal)) (x1 x2 : (⟨S2x256, .f32⟩ : BufTy).Contents (Elt Ideal))
  (x3 : (⟨S2x4x64x64x128, .f32⟩ : BufTy).Contents (Elt Ideal))
variable (G : Fin 1024 → Fin 1024 → ℝ) (p : Fin 2 → Fin 256 → ℝ) (S : Fin 4 → Fin 64 → Fin 64 → Fin 128 → ℝ)
variable (hG : ∀ r c, x0 (ix2 r c) = (G r c : EReal)) (hp : ∀ l d, x1 (ix2 l d) = (p l d : EReal))
  (hS : ∀ h k v b, x3 (ix5 (1 : Fin 2) h k v b) = (S h k v b : EReal))

include hp

/-- The largest of the two bounds of a channel. -/
theorem v2_eq (d : Fin 256) : val_main_v2 x1 (ix1 d) = ((max (p 0 d) (p 1 d) : ℝ) : EReal) := by
  rw [val_main_v2_apply, val_main_v1_apply, val_main_cst_0_apply]
  unfold val_main_v0
  have hr : S2x256.Reduces [0] S256 := by decide
  haveI : Std.Commutative (FloatOps.maximumf (F := Ideal) (φ := .f32)) := inferInstanceAs (Std.Commutative (max : EReal → EReal → EReal))
  haveI : Std.Associative (FloatOps.maximumf (F := Ideal) (φ := .f32)) := inferInstanceAs (Std.Associative (max : EReal → EReal → EReal))
  refine (congrArg (FloatOps.maximumf _) (Host.reduce_eq_fold_single (FloatOps.maximumf (F := Ideal) (φ := .f32)) x1
    (val_main_cst (F := Ideal)) reducesTo_S2x256_S256_d0 hr h_S_ (ix1 d))).trans ?_
  rw [val_main_cst_apply, Ideal.maximumf_def, Ideal.ofBits_def, bot_f32]
  have h := fold_max_two (x1 ∘ hr.lift (ix1 d)) (fun l => p l d) fun l => by
    rw [← hp]
    exact congrArg x1 (idx_ext fun a => match a with | ⟨0, _⟩ => rfl | ⟨1, _⟩ => rfl)
  refine (max_eq_right (bot_le : (⊥ : EReal) ≤ _)).trans (Eq.trans ?_ h)
  rfl

/-- The shifted exponential of a bound. -/
theorem v6_eq (l : Fin 2) (d : Fin 256) :
    val_main_v6 x1 (ix2 l d) = Ideal.exp ((p l d : EReal) - ((max (p 0 d) (p 1 d) : ℝ) : EReal)) := by
  rw [val_main_v6_apply, val_main_v5_apply, val_main_v4_apply, val_main_v3_apply, hp,
    show idx_main_v3 (idx_main_v4 (ix2 l d)) = ix1 d from idx_ext fun a => match a with | ⟨0, _⟩ => rfl, v2_eq x1 p hp]
  rfl

/-- The softmax over the layers. -/
theorem v10_eq (l : Fin 2) (d : Fin 256) : val_main_v10 x1 (ix2 l d) = ((share (fun l => p l d) l : ℝ) : EReal) := by
  rw [val_main_v10_apply, val_main_v9_apply, val_main_v8_apply, val_main_v7_apply, v6_eq x1 p hp, Fin.sum_univ_two,
    val_main_cst_1_apply,
    show idx_main_v7 (idx_main_v8 (idx_main_v9 (ix2 l d))) 0 = ix2 0 d from
      idx_ext fun a => match a with | ⟨0, _⟩ => rfl | ⟨1, _⟩ => rfl,
    show idx_main_v7 (idx_main_v8 (idx_main_v9 (ix2 l d))) 1 = ix2 1 d from
      idx_ext fun a => match a with | ⟨0, _⟩ => rfl | ⟨1, _⟩ => rfl,
    v6_eq x1 p hp, v6_eq x1 p hp, Ideal.ofBits_def, Ideal.ofBits_zero_f32, zero_add]
  exact softmax_two (fun l => p l d) _ l

/-- The lower bound of the second layer. -/
theorem v18_eq (d : Fin 256) : val_main_v18 x1 (ix1 d) = ((bnd p d : ℝ) : EReal) := by
  have h11 : ∀ l, val_main_v11 x1 (ix2 l d) = if l = 0 then val_main_v10 x1 (ix2 0 d)
      else val_main_v10 x1 (ix2 0 d) + val_main_v10 x1 (ix2 1 d) := fun l => by
    unfold val_main_v11 Host.reduceWindowAdd
    rw [Ideal.hostReduceWindowAdd_def, val_main_call0_call0_v0_apply, val_main_call0_call0_cst_apply, Ideal.ofBits_def,
      Ideal.ofBits_zero_f32]
    exact cumsum_layers _ _ l d
  rw [val_main_v18_apply, val_main_v17_apply, val_main_v16_apply, val_main_v15_apply, val_main_v14_apply,
    val_main_v13_apply, val_main_v12_apply,
    show idx_main_v17 (idx_main_v18 (ix1 d)) = ix2 1 d from idx_ext fun a => match a with
      | ⟨0, _⟩ => rfl | ⟨1, _⟩ => by show d.val % 256 = d.val; omega,
    show idx_main_v12 (idx_main_v13 (idx_main_v14 (idx_main_v15 (ix2 1 d)))) = ix2 0 d from idx_ext fun a => match a with
      | ⟨0, _⟩ => rfl | ⟨1, _⟩ => by show d.val % 256 = d.val; omega,
    h11, h11, if_neg (by decide), if_pos rfl, v10_eq x1 p hp, v10_eq x1 p hp, Ideal.subf_def, ← EReal.coe_add,
    ← EReal.coe_sub, add_sub_cancel_left]
  rfl

omit hp

/-- The columns of the transposed projections. -/
theorem v20_eq (b : Fin 128) (t : Fin 8) (c : Fin 1024) : val_main_v20 x0 (ix3 b t c) = x0 (ix2 (tok t b) c) := by
  rw [val_main_v20_apply, val_main_v19_apply]
  exact congrArg x0 (idx_ext fun a => match a with
    | ⟨0, _⟩ => by show ((t.val * 128 + b.val) * 1024 + c.val) / 1024 = 128 * t.val + b.val; omega
    | ⟨1, _⟩ => by show ((t.val * 128 + b.val) * 1024 + c.val) % 1024 = c.val; omega)

theorem v21_eq (b : Fin 128) (t : Fin 8) (d : Fin 256) : val_main_v21 x0 (ix3 b t d) = x0 (ix2 (tok t b) (col 0 d)) := by
  rw [val_main_v21_apply, ← v20_eq x0 b t (col 0 d)]
  exact congrArg _ (idx_ext fun a => match a with
    | ⟨0, _⟩ => rfl | ⟨1, _⟩ => rfl | ⟨2, _⟩ => by show d.val = 256 * 0 + d.val; omega)

theorem v22_eq (b : Fin 128) (t : Fin 8) (d : Fin 256) : val_main_v22 x0 (ix3 b t d) = x0 (ix2 (tok t b) (col 1 d)) := by
  rw [val_main_v22_apply, ← v20_eq x0 b t (col 1 d)]
  exact congrArg _ (idx_ext fun a => match a with
    | ⟨0, _⟩ => rfl | ⟨1, _⟩ => rfl | ⟨2, _⟩ => by show 256 + d.val = 256 * 1 + d.val; omega)

theorem v23_eq (b : Fin 128) (t : Fin 8) (d : Fin 256) : val_main_v23 x0 (ix3 b t d) = x0 (ix2 (tok t b) (col 2 d)) := by
  rw [val_main_v23_apply, ← v20_eq x0 b t (col 2 d)]
  exact congrArg _ (idx_ext fun a => match a with
    | ⟨0, _⟩ => rfl | ⟨1, _⟩ => rfl | ⟨2, _⟩ => by show 512 + d.val = 256 * 2 + d.val; omega)

theorem v24_eq (b : Fin 128) (t : Fin 8) (d : Fin 256) : val_main_v24 x0 (ix3 b t d) = x0 (ix2 (tok t b) (col 3 d)) := by
  rw [val_main_v24_apply, ← v20_eq x0 b t (col 3 d)]
  exact congrArg _ (idx_ext fun a => match a with
    | ⟨0, _⟩ => rfl | ⟨1, _⟩ => rfl | ⟨2, _⟩ => by show 768 + d.val = 256 * 3 + d.val; omega)

/-- The initial states, with the batch in front. -/
theorem v27_eq (b : Fin 128) (h : Fin 4) (k v : Fin 64) : val_main_v27 x3 (ix4 b h k v) = x3 (ix5 (1 : Fin 2) h k v b) := by
  rw [val_main_v27_apply, val_main_v26_apply, val_main_v25_apply]
  exact congrArg x3 (idx_ext fun a => match a with
    | ⟨0, _⟩ => rfl
    | ⟨1, _⟩ => by show (((h.val * 64 + k.val) * 64 + v.val) * 128 + b.val) / 524288 % 4 = h.val; omega
    | ⟨2, _⟩ => by show (((h.val * 64 + k.val) * 64 + v.val) * 128 + b.val) / 8192 % 64 = k.val; omega
    | ⟨3, _⟩ => by show (((h.val * 64 + k.val) * 64 + v.val) * 128 + b.val) / 128 % 64 = v.val; omega
    | ⟨4, _⟩ => by show (((h.val * 64 + k.val) * 64 + v.val) * 128 + b.val) % 128 = b.val; omega)

include hG

/-- The scaled queries by heads. -/
theorem v57_eq (b : Fin 128) (t : Fin 8) (h : Fin 4) (k : Fin 64) :
    val_main_v57 x0 (ix4 b t h k) = ((qg G b (chan h k) t : ℝ) : EReal) := by
  have e : idx_main_v57 (ix4 b t h k) = ix3 b t (chan h k) := idx_ext fun a => match a with
    | ⟨0, _⟩ => by show (((b.val * 8 + t.val) * 4 + h.val) * 64 + k.val) / 2048 = b.val; omega
    | ⟨1, _⟩ => by show (((b.val * 8 + t.val) * 4 + h.val) * 64 + k.val) / 256 % 8 = t.val; omega
    | ⟨2, _⟩ => by show (((b.val * 8 + t.val) * 4 + h.val) * 64 + k.val) % 256 = 64 * h.val + k.val; omega
  rw [val_main_v57_apply, e, val_main_v56_apply, v21_eq, hG, val_main_v55_apply, val_main_cst_8_apply, Ideal.mulf_def,
    Ideal.ofBits_def, eighth_f32, ← EReal.coe_mul]
  rfl

/-- The values by heads. -/
theorem v60_eq (b : Fin 128) (t : Fin 8) (h : Fin 4) (v : Fin 64) :
    val_main_v60 x0 (ix4 b t h v) = ((vg G b (chan h v) t.val : ℝ) : EReal) := by
  have e : idx_main_v60 (ix4 b t h v) = ix3 b t (chan h v) := idx_ext fun a => match a with
    | ⟨0, _⟩ => by show (((b.val * 8 + t.val) * 4 + h.val) * 64 + v.val) / 2048 = b.val; omega
    | ⟨1, _⟩ => by show (((b.val * 8 + t.val) * 4 + h.val) * 64 + v.val) / 256 % 8 = t.val; omega
    | ⟨2, _⟩ => by show (((b.val * 8 + t.val) * 4 + h.val) * 64 + v.val) % 256 = 64 * h.val + v.val; omega
  rw [val_main_v60_apply, e, v23_eq, hG, vg_fin]

include hp

/-- The keys by heads. -/
theorem v59_eq (b : Fin 128) (t : Fin 8) (h : Fin 4) (k : Fin 64) :
    val_main_v59 x0 x1 (ix4 b t h k) = ((kg G p b (chan h k) t.val : ℝ) : EReal) := by
  have e : idx_main_v59 (ix4 b t h k) = ix3 b t (chan h k) := idx_ext fun a => match a with
    | ⟨0, _⟩ => by show (((b.val * 8 + t.val) * 4 + h.val) * 64 + k.val) / 2048 = b.val; omega
    | ⟨1, _⟩ => by show (((b.val * 8 + t.val) * 4 + h.val) * 64 + k.val) / 256 % 8 = t.val; omega
    | ⟨2, _⟩ => by show (((b.val * 8 + t.val) * 4 + h.val) * 64 + k.val) % 256 = 64 * h.val + k.val; omega
  rw [val_main_v59_apply, e, val_main_v39_apply, val_main_v38_apply, val_main_v37_apply, val_main_v29_apply,
    val_main_v28_apply, val_main_cst_2_apply, val_main_v36_apply, val_main_v35_apply, val_main_cst_4_apply,
    val_main_v34_apply, val_main_v33_apply, val_main_cst_3_apply, val_main_v32_apply, val_main_v31_apply,
    val_main_v30_apply, v22_eq, hG,
    show idx_main_v37 (idx_main_v38 (ix3 b t (chan h k))) = ix1 (chan h k) from idx_ext fun a => match a with | ⟨0, _⟩ => rfl,
    v18_eq x1 p hp, kg_fin]
  simp only [Ideal.mulf_def, Ideal.subf_def, Ideal.addf_def, Ideal.hostDivf_def, Ideal.hostNegf_def, Ideal.negf_def, Ideal.hostUnary_exp_def,
    Ideal.ofBits_def, one_f32]
  rw [← EReal.coe_neg]
  refine (congrArg _ (Ideal.logistic_coe _)).trans ?_
  rw [← EReal.coe_one, ← EReal.coe_sub, ← EReal.coe_mul]
  rfl

/-- The logarithm of the forget gate, by heads. -/
theorem v58_eq (b : Fin 128) (t : Fin 8) (h : Fin 4) (k : Fin 64) :
    val_main_v58 x0 x1 (ix4 b t h k) = ((Real.log (fg G p b (chan h k) t.val) : ℝ) : EReal) := by
  have e : idx_main_v58 (ix4 b t h k) = ix3 b t (chan h k) := idx_ext fun a => match a with
    | ⟨0, _⟩ => by show (((b.val * 8 + t.val) * 4 + h.val) * 64 + k.val) / 2048 = b.val; omega
    | ⟨1, _⟩ => by show (((b.val * 8 + t.val) * 4 + h.val) * 64 + k.val) / 256 % 8 = t.val; omega
    | ⟨2, _⟩ => by show (((b.val * 8 + t.val) * 4 + h.val) * 64 + k.val) % 256 = 64 * h.val + k.val; omega
  have hf : val_main_v53 x0 x1 (ix3 b t (chan h k)) = ((fg G p b (chan h k) t.val : ℝ) : EReal) := by
    rw [val_main_v53_apply, val_main_v52_apply, val_main_v51_apply, val_main_v50_apply, val_main_v49_apply,
      val_main_v48_apply, val_main_v41_apply, val_main_v40_apply, val_main_cst_5_apply, val_main_v47_apply,
      val_main_v46_apply, val_main_cst_7_apply, val_main_v45_apply, val_main_v44_apply, val_main_cst_6_apply,
      val_main_v43_apply, val_main_v42_apply, v22_eq, hG,
      show idx_main_v51 (idx_main_v52 (ix3 b t (chan h k))) = ix1 (chan h k) from idx_ext fun a => match a with | ⟨0, _⟩ => rfl,
      show idx_main_v48 (idx_main_v49 (ix3 b t (chan h k))) = ix1 (chan h k) from idx_ext fun a => match a with | ⟨0, _⟩ => rfl,
      v18_eq x1 p hp, fg_fin]
    simp only [Ideal.mulf_def, Ideal.subf_def, Ideal.addf_def, Ideal.hostDivf_def, Ideal.hostNegf_def, Ideal.negf_def, Ideal.hostUnary_exp_def,
      Ideal.ofBits_def, one_f32]
    refine (congrArg (fun z => _ + _ * z) (Ideal.logistic_coe _)).trans ?_
    rw [← EReal.coe_one, ← EReal.coe_sub, ← EReal.coe_mul, ← EReal.coe_add]
    rfl
  rw [val_main_v58_apply, e, val_main_v54_apply, hf, Ideal.hostUnary_log_def, Ideal.log_coe,
    if_neg (not_le.2 (fg_pos G p b (chan h k) t.val))]

/-- The log of the decay of the tokens so far. -/
theorem v64_eq (b : Fin 128) (t : Fin 8) (h : Fin 4) (k : Fin 64) :
    val_main_v64 x0 x1 (ix4 b t h k) = ((logDecay (fg G p b (chan h k)) t.val : ℝ) : EReal) := by
  unfold val_main_v64 Host.reduceWindowAdd
  rw [Ideal.hostReduceWindowAdd_def, val_main_call1_call0_v0_apply, val_main_call1_call0_cst_apply, Ideal.ofBits_def,
    Ideal.ofBits_zero_f32]
  refine (cumsum_tokens _ _ b t h k).trans ?_
  simp only [v58_eq x0 x1 G p hG hp]
  unfold logDecay
  rw [sum_upto 8 t.val t.isLt, coe_sum]
  refine Finset.sum_congr rfl fun s _ => ?_
  split <;> simp

end Cert.Hgrn.Ref

end
-- ==== Proof.Hgrn.Attn.lean ====
/-
  The reference's attention form, read at real arguments: scores, read-out and last state are those of the recurrence.
  Then the norm by heads, the output gate and the two results.
-/
module

public import proofs.«01_k».proof.Proof.Hgrn.Ref

@[expose] public section

set_option maxRecDepth 16384

noncomputable section

namespace Cert.Hgrn.Ref

open Idealize.ShloMosaic Idealize.ShloMosaic.TcCoe
open Cert.ReferenceIdeal Cert.ReferenceIdeal.Gen Cert.ReferenceIdeal.Read

variable (x0 : (⟨S1024x1024, .f32⟩ : BufTy).Contents (Elt Ideal)) (x1 x2 : (⟨S2x256, .f32⟩ : BufTy).Contents (Elt Ideal))
  (x3 : (⟨S2x4x64x64x128, .f32⟩ : BufTy).Contents (Elt Ideal))
variable (G : Fin 1024 → Fin 1024 → ℝ) (p : Fin 2 → Fin 256 → ℝ) (S : Fin 4 → Fin 64 → Fin 64 → Fin 128 → ℝ)
variable (hG : ∀ r c, x0 (ix2 r c) = (G r c : EReal)) (hp : ∀ l d, x1 (ix2 l d) = (p l d : EReal))
  (hS : ∀ h k v b, x3 (ix5 (1 : Fin 2) h k v b) = (S h k v b : EReal))

/-- The causal mask: token `t` looks at token `s`. -/
theorem mask_eq (b : Fin 128) (t s : Fin 8) (h : Fin 4) (k : Fin 64) :
    val_main_v63 (F := Ideal) (ix5 b t s h k) = if s.val ≤ t.val then 1#1 else 0#1 := by
  rw [val_main_v63_apply, val_main_v61_apply, val_main_v62_apply]
  show IntOp.cmpi .sge (BitVec.ofNat 32 t.val) (BitVec.ofNat 32 s.val) = _
  revert t s
  decide

include hG hp

/-- The decay from token `s` to token `t`, nothing where `s` comes later. -/
theorem v71_eq (b : Fin 128) (t s : Fin 8) (h : Fin 4) (k : Fin 64) :
    val_main_v71 x0 x1 (ix5 b t s h k)
      = ((if s.val ≤ t.val then Real.exp (logDecay (fg G p b (chan h k)) t.val - logDecay (fg G p b (chan h k)) s.val) else 0 : ℝ) : EReal) := by
  have e1 : idx_main_v65 (idx_main_v67 (ix5 b t s h k)) = ix4 b t h k :=
    idx_ext fun a => match a with | ⟨0, _⟩ => rfl | ⟨1, _⟩ => rfl | ⟨2, _⟩ => rfl | ⟨3, _⟩ => rfl
  have e2 : idx_main_v66 (idx_main_v68 (ix5 b t s h k)) = ix4 b s h k :=
    idx_ext fun a => match a with | ⟨0, _⟩ => rfl | ⟨1, _⟩ => rfl | ⟨2, _⟩ => rfl | ⟨3, _⟩ => rfl
  rw [val_main_v71_apply, val_main_v70_apply, mask_eq, val_main_v69_apply, val_main_v67_apply, val_main_v65_apply, e1,
    val_main_v68_apply, val_main_v66_apply, e2, v64_eq x0 x1 G p hG hp, v64_eq x0 x1 G p hG hp, val_main_call2_v1_apply,
    val_main_call2_v0_apply, val_main_cst_9_apply]
  simp only [Ideal.subf_def, Ideal.hostUnary_exp_def, Ideal.ofBits_def, bot_f32]
  by_cases hst : s.val ≤ t.val
  · rw [if_pos hst, if_pos hst, ← EReal.coe_sub]
    exact Ideal.exp_coe _
  · rw [if_neg hst, if_neg hst]
    exact Ideal.exp_bot

/-- The score of token `s` at token `t`. -/
theorem v78_eq (b : Fin 128) (t s : Fin 8) (h : Fin 4) :
    val_main_v78 x0 x1 (ix4 b t s h)
      = ((∑ k : Fin 64, qg G b (chan h k) t * kg G p b (chan h k) s.val
          * (if s.val ≤ t.val then Real.exp (logDecay (fg G p b (chan h k)) t.val - logDecay (fg G p b (chan h k)) s.val) else 0) : ℝ) : EReal) := by
  rw [val_main_v78_apply, val_main_cst_10_apply, Ideal.ofBits_def, Ideal.ofBits_zero_f32, zero_add, coe_sum]
  refine Finset.sum_congr rfl fun k _ => ?_
  have e : idx_main_v78 (ix4 b t s h) k = ix5 b t s h k :=
    idx_ext fun a => match a with | ⟨0, _⟩ => rfl | ⟨1, _⟩ => rfl | ⟨2, _⟩ => rfl | ⟨3, _⟩ => rfl | ⟨4, _⟩ => rfl
  have e1 : idx_main_v72 (idx_main_v74 (ix5 b t s h k)) = ix4 b t h k :=
    idx_ext fun a => match a with | ⟨0, _⟩ => rfl | ⟨1, _⟩ => rfl | ⟨2, _⟩ => rfl | ⟨3, _⟩ => rfl
  have e2 : idx_main_v73 (idx_main_v75 (ix5 b t s h k)) = ix4 b s h k :=
    idx_ext fun a => match a with | ⟨0, _⟩ => rfl | ⟨1, _⟩ => rfl | ⟨2, _⟩ => rfl | ⟨3, _⟩ => rfl
  rw [e, val_main_v77_apply, val_main_v76_apply, val_main_v74_apply, val_main_v72_apply, e1, val_main_v75_apply,
    val_main_v73_apply, e2, v57_eq x0 G hG, v59_eq x0 x1 G p hG hp, v71_eq x0 x1 G p hG hp, Ideal.mulf_def, Ideal.mulf_def,
    ← EReal.coe_mul, ← EReal.coe_mul]

include hS

/-- The read-out is the query against the recurrent state. -/
theorem v85_eq (b : Fin 128) (t : Fin 8) (h : Fin 4) (v : Fin 64) :
    val_main_v85 x0 x1 x3 (ix4 b t h v) = ((ooR G p S b h v t : ℝ) : EReal) := by
  have e1 : idx_main_v80 (ix4 b t h v) = ix4 b h v t :=
    idx_ext fun a => match a with | ⟨0, _⟩ => rfl | ⟨1, _⟩ => rfl | ⟨2, _⟩ => rfl | ⟨3, _⟩ => rfl
  have e2 : idx_main_v84 (ix4 b t h v) = ix4 b h v t :=
    idx_ext fun a => match a with | ⟨0, _⟩ => rfl | ⟨1, _⟩ => rfl | ⟨2, _⟩ => rfl | ⟨3, _⟩ => rfl
  have l1 : ∀ s : Fin 8, lidx_main_v79 (ix4 b h v t) s = ix4 b s h v := fun s =>
    idx_ext fun a => match a with | ⟨0, _⟩ => rfl | ⟨1, _⟩ => rfl | ⟨2, _⟩ => rfl | ⟨3, _⟩ => rfl
  have r1 : ∀ s : Fin 8, ridx_main_v79 (ix4 b h v t) s = ix4 b t s h := fun s =>
    idx_ext fun a => match a with | ⟨0, _⟩ => rfl | ⟨1, _⟩ => rfl | ⟨2, _⟩ => rfl | ⟨3, _⟩ => rfl
  have l2 : ∀ k : Fin 64, lidx_main_v83 (ix4 b h v t) k = ix4 b h k v := fun k =>
    idx_ext fun a => match a with | ⟨0, _⟩ => rfl | ⟨1, _⟩ => rfl | ⟨2, _⟩ => rfl | ⟨3, _⟩ => rfl
  have r2 : ∀ k : Fin 64, ridx_main_v83 (ix4 b h v t) k = ix4 b t h k := fun k =>
    idx_ext fun a => match a with | ⟨0, _⟩ => rfl | ⟨1, _⟩ => rfl | ⟨2, _⟩ => rfl | ⟨3, _⟩ => rfl
  rw [val_main_v85_apply, val_main_v80_apply, val_main_v84_apply, e1, e2, val_main_v79_apply, val_main_v83_apply, Ideal.addf_def]
  simp only [l1, r1, l2, r2, v60_eq x0 G hG, v78_eq x0 x1 G p hG hp, v27_eq, hS, val_main_v82_apply, val_main_v81_apply,
    v57_eq x0 G hG, v64_eq x0 x1 G p hG hp, Ideal.mulf_def, Ideal.hostUnary_exp_def, Ideal.exp_coe, ← EReal.coe_mul]
  rw [← coe_sum, ← coe_sum, ← EReal.coe_add]
  congr 1
  exact readout_real (fun k => qg G b (chan h k) t) (fun k => S h k v b) (fun k => fg G p b (chan h k))
    (fun k => kg G p b (chan h k)) (vg G b (chan h v)) (fun k => fg_pos G p b (chan h k)) 8 t.val t.isLt

/-- The last state is the recurrent one. -/
theorem v98_eq (b : Fin 128) (h : Fin 4) (k v : Fin 64) :
    val_main_v98 x0 x1 x3 (ix4 b h k v) = ((stR G p S b h k v 8 : ℝ) : EReal) := by
  have e1 : idx_main_v86 (idx_main_v87 (idx_main_v89 (idx_main_v90 (ix4 b h k v)))) = ix4 b (7 : Fin 8) h k :=
    idx_ext fun a => match a with
      | ⟨0, _⟩ => by show ((b.val * 4 + h.val) * 64 + k.val) / 256 = b.val; omega
      | ⟨1, _⟩ => rfl
      | ⟨2, _⟩ => by show ((b.val * 4 + h.val) * 64 + k.val) / 64 % 4 = h.val; omega
      | ⟨3, _⟩ => by show ((b.val * 4 + h.val) * 64 + k.val) % 64 = k.val; omega
  have l : ∀ s : Fin 8, lidx_main_v97 (ix4 b h k v) s = ix4 b s h k := fun s =>
    idx_ext fun a => match a with | ⟨0, _⟩ => rfl | ⟨1, _⟩ => rfl | ⟨2, _⟩ => rfl | ⟨3, _⟩ => rfl
  have r : ∀ s : Fin 8, ridx_main_v97 (ix4 b h k v) s = ix4 b s h v := fun s =>
    idx_ext fun a => match a with | ⟨0, _⟩ => rfl | ⟨1, _⟩ => rfl | ⟨2, _⟩ => rfl | ⟨3, _⟩ => rfl
  have e2 : ∀ s : Fin 8, idx_main_v92 (idx_main_v93 (ix4 b s h k)) = ix4 b (7 : Fin 8) h k := fun s =>
    idx_ext fun a => match a with | ⟨0, _⟩ => rfl | ⟨1, _⟩ => rfl | ⟨2, _⟩ => rfl | ⟨3, _⟩ => rfl
  rw [val_main_v98_apply, val_main_v91_apply, val_main_v90_apply, val_main_v89_apply, val_main_v88_apply, val_main_v87_apply,
    val_main_v86_apply, e1, val_main_v97_apply, v27_eq, hS, Ideal.addf_def]
  simp only [l, r, v60_eq x0 G hG, val_main_v96_apply, val_main_v95_apply, val_main_v94_apply, val_main_v93_apply,
    val_main_v92_apply, e2, v59_eq x0 x1 G p hG hp, v64_eq x0 x1 G p hG hp, Ideal.mulf_def, Ideal.subf_def,
    Ideal.hostUnary_exp_def, ← EReal.coe_sub, Ideal.exp_coe, ← EReal.coe_mul]
  rw [← coe_sum, ← EReal.coe_add]
  congr 1
  unfold stR
  rw [state_closed _ _ _ _ (fg_pos G p b (chan h k)) 7, sum_upto 8 7 (by decide), mul_comm]
  congr 1
  refine Finset.sum_congr rfl fun s _ => ?_
  rw [if_pos (by omega), mul_comm]
  rfl

/-! ## The results -/

/-- The norm of a read-out by heads. -/
def nnR (b : Fin 128) (h : Fin 4) (v : Fin 64) (t : Fin 8) : EReal :=
  ((ooR G p S b h v t : ℝ) : EReal) * Ideal.rsqrt (Ideal.div (∑ u : Fin 64, ((ooR G p S b h u t : ℝ) : EReal) * ((ooR G p S b h u t : ℝ) : EReal))
    (Ideal.ofBits .f32 0x42800000#32) + Ideal.ofBits .f32 0x358637BD#32)

/-- One element of the first result. -/
theorem v119_eq (b : Fin 128) (t : Fin 8) (h : Fin 4) (v : Fin 64) :
    val_main_v119 x0 x1 x2 x3 (ix2 (tok t b) (chan h v))
      = nnR G p S b h v t * x2 (ix2 1 (chan h v))
        * (x0 (ix2 (tok t b) (col 3 (chan h v))) * Ideal.logistic (x0 (ix2 (tok t b) (col 3 (chan h v))))) := by
  have e1 : idx_main_v118 (idx_main_v119 (ix2 (tok t b) (chan h v))) = ix3 b t (chan h v) := idx_ext fun a => match a with
    | ⟨0, _⟩ => by show ((128 * t.val + b.val) * 256 + (64 * h.val + v.val)) / 256 % 128 = b.val; omega
    | ⟨1, _⟩ => by show ((128 * t.val + b.val) * 256 + (64 * h.val + v.val)) / 32768 = t.val; omega
    | ⟨2, _⟩ => by show ((128 * t.val + b.val) * 256 + (64 * h.val + v.val)) % 256 = 64 * h.val + v.val; omega
  have e2 : idx_main_v109 (ix3 b t (chan h v)) = ix4 b t h v := idx_ext fun a => match a with
    | ⟨0, _⟩ => by show ((b.val * 8 + t.val) * 256 + (64 * h.val + v.val)) / 2048 = b.val; omega
    | ⟨1, _⟩ => by show ((b.val * 8 + t.val) * 256 + (64 * h.val + v.val)) / 256 % 8 = t.val; omega
    | ⟨2, _⟩ => by show ((b.val * 8 + t.val) * 256 + (64 * h.val + v.val)) / 64 % 4 = h.val; omega
    | ⟨3, _⟩ => by show ((b.val * 8 + t.val) * 256 + (64 * h.val + v.val)) % 64 = v.val; omega
  have e3 : idx_main_v110 (idx_main_v111 (idx_main_v112 (idx_main_v113 (ix3 b t (chan h v))))) = ix2 1 (chan h v) :=
    idx_ext fun a => match a with
      | ⟨0, _⟩ => rfl
      | ⟨1, _⟩ => by show (64 * h.val + v.val) % 256 = 64 * h.val + v.val; omega
  have e4 : ∀ u : Fin 64, idx_main_v100 (idx_main_v101 (idx_main_v107 (ix4 b t h v))) u = ix4 b t h u := fun u =>
    idx_ext fun a => match a with | ⟨0, _⟩ => rfl | ⟨1, _⟩ => rfl | ⟨2, _⟩ => rfl | ⟨3, _⟩ => rfl
  rw [val_main_v119_apply, val_main_v118_apply, e1, val_main_v117_apply, val_main_v116_apply, val_main_v114_apply,
    val_main_v113_apply, val_main_v112_apply, val_main_v111_apply, val_main_v110_apply, e3, val_main_v109_apply, e2,
    val_main_v108_apply, val_main_v107_apply, val_main_v106_apply, val_main_v105_apply, val_main_v104_apply,
    val_main_cst_13_apply, val_main_v103_apply, val_main_v102_apply, val_main_cst_12_apply, val_main_v101_apply,
    val_main_v100_apply, val_main_cst_11_apply, val_main_v115_apply, val_main_call3_v5_apply, val_main_call3_v4_apply,
    val_main_call3_cst_0_apply, val_main_call3_v3_apply, val_main_call3_v2_apply, val_main_call3_cst_apply,
    val_main_call3_v1_apply, val_main_call3_v0_apply, v24_eq]
  simp only [e4, val_main_v99_apply, v85_eq x0 x1 x3 G p S hG hp hS, Ideal.truncf_def, Ideal.mulf_def, Ideal.addf_def, Ideal.hostDivf_def,
    Ideal.hostNegf_def, Ideal.negf_def, Ideal.hostUnary_exp_def, Ideal.hostUnary_rsqrt_def, Ideal.ofBits_def, one_f32,
    Ideal.ofBits_zero_f32, zero_add]
  rfl

/-- The second result: the first layer's states as they were, the second layer's after the last token. -/
theorem v123_old (h : Fin 4) (k v : Fin 64) (b : Fin 128) :
    val_main_v123 x0 x1 x3 (ix5 (0 : Fin 2) h k v b) = x3 (ix5 (0 : Fin 2) h k v b) := by
  unfold val_main_v123
  rw [concatenate_pair_apply_left 0 (val_main_v120 x3) (val_main_v122 x0 x1 x3) _ (ix5 (0 : Fin 2) h k v b) rfl (ix5 (0 : Fin 1) h k v b)
    (fun a => match a with | ⟨0, _⟩ => rfl | ⟨1, _⟩ => rfl | ⟨2, _⟩ => rfl | ⟨3, _⟩ => rfl | ⟨4, _⟩ => rfl), val_main_v120_apply]
  exact congrArg x3 (idx_ext fun a => match a with | ⟨0, _⟩ => rfl | ⟨1, _⟩ => rfl | ⟨2, _⟩ => rfl | ⟨3, _⟩ => rfl | ⟨4, _⟩ => rfl)

theorem v123_new (h : Fin 4) (k v : Fin 64) (b : Fin 128) :
    val_main_v123 x0 x1 x3 (ix5 (1 : Fin 2) h k v b) = ((stR G p S b h k v 8 : ℝ) : EReal) := by
  unfold val_main_v123
  rw [concatenate_pair_apply_right 0 (val_main_v120 x3) (val_main_v122 x0 x1 x3) _ (ix5 (1 : Fin 2) h k v b) rfl rfl (ix5 (0 : Fin 1) h k v b)
    (fun a ha => match a with | ⟨0, _⟩ => absurd rfl ha | ⟨1, _⟩ => rfl | ⟨2, _⟩ => rfl | ⟨3, _⟩ => rfl | ⟨4, _⟩ => rfl) rfl, val_main_v122_apply,
    val_main_v121_apply, ← v98_eq x0 x1 x3 G p S hG hp hS]
  exact congrArg _ (idx_ext fun a => match a with | ⟨0, _⟩ => rfl | ⟨1, _⟩ => rfl | ⟨2, _⟩ => rfl | ⟨3, _⟩ => rfl)

end Cert.Hgrn.Ref

end
-- ==== Proof.Hgrn.Blocks.lean ====
/-
  What one grid step leaves in its two blocks, as real numbers: its blocks are the columns of one pair of heads.
-/
module

public import proofs.«01_k».proof.Proof.Hgrn.Frame
public import proofs.«01_k».proof.Proof.Hgrn.Attn

@[expose] public section

noncomputable section

namespace Cert.Hgrn

open Idealize.ShloMosaic Idealize.ShloMosaic.TcCoe
open Cert.KernelIdeal Cert.KernelIdeal.Gen

/-- Head `h` of the pair `g`. -/
def gh (g h : Fin 2) : Fin 4 := ⟨2 * g.val + h.val, by omega⟩

/-- Channel `r` of the pair `g`. -/
def pch (g : Fin 2) (r : Fin 128) : Fin 256 := ⟨128 * g.val + r.val, by omega⟩

theorem chan_gh (g h : Fin 2) (k : Fin 64) : chan (gh g h) k = pch g (rowOf h k) :=
  Fin.ext (by show 64 * (2 * g.val + h.val) + k.val = 128 * g.val + (64 * h.val + k.val); omega)

variable (x0 x1 x2 x3 : Vec Ideal S1024x128 .f32) (x4 : Vec Ideal S2x128 .f32) (x5 : Vec Ideal S1x1x128 .f32) (x6 : Vec Ideal S1x2x64x64x128 .f32)
variable (G : Fin 1024 → Fin 1024 → ℝ) (p : Fin 2 → Fin 256 → ℝ) (S : Fin 4 → Fin 64 → Fin 64 → Fin 128 → ℝ) (g : Fin 2)

theorem low_eq (h4 : ∀ l r, x4 (ix2 l r) = ((p l (pch g r) : ℝ) : EReal)) (r : Fin 128) : low x4 r = ((bnd p (pch g r) : ℝ) : EReal) := by
  have hm := fold_max_two (fun l => x4 (ix2 l r)) (fun l => p l (pch g r)) (fun l => h4 l r)
  unfold low k0_pay2
  pointwise
  have hs : ∀ l : Fin 2, x4 (ix2 l r) = ((p l (pch g r) : ℝ) : EReal) := fun l => h4 l r
  rw [bot_f32, hm, Fin.sum_univ_two, hs, hs]
  exact softmax_two (fun l => p l (pch g r)) _ 1

section
variable (h0 : ∀ i r, x0 (ix2 i r) = ((G i (col 0 (pch g r)) : ℝ) : EReal)) (h1 : ∀ i r, x1 (ix2 i r) = ((G i (col 1 (pch g r)) : ℝ) : EReal))
  (h2 : ∀ i r, x2 (ix2 i r) = ((G i (col 2 (pch g r)) : ℝ) : EReal)) (h4 : ∀ l r, x4 (ix2 l r) = ((p l (pch g r) : ℝ) : EReal))
  (h6 : ∀ h k v b, x6 (ix5 0 h k v b) = ((S (gh g h) k v b : ℝ) : EReal))

include h4 in
include h1 in
theorem ff_eq (t : Fin 8) (r b : Fin 128) : ff x1 x4 t r b = ((fg G p b (pch g r) t.val : ℝ) : EReal) := by
  unfold ff
  rw [low_eq x4 p g h4, h1, one_f32, Ideal.logistic_coe, fg_fin, ← EReal.coe_one]
  simp only [← EReal.coe_sub, ← EReal.coe_mul, ← EReal.coe_add]
  rfl

include h4 in
include h1 in
theorem kk_eq (t : Fin 8) (r b : Fin 128) : kk x1 x4 t r b = ((kg G p b (pch g r) t.val : ℝ) : EReal) := by
  unfold kk
  rw [low_eq x4 p g h4, h1, one_f32, Ideal.ofBits_zero_f32, zero_sub, ← EReal.coe_neg, Ideal.logistic_coe, kg_fin, ← EReal.coe_one]
  simp only [← EReal.coe_sub, ← EReal.coe_mul]
  rfl

include h2 in
theorem vv_eq (t : Fin 8) (r b : Fin 128) : vv x2 t r b = ((vg G b (pch g r) t.val : ℝ) : EReal) := by
  unfold vv
  rw [h2, vg_fin]

include h0 in
theorem qq_eq (t : Fin 8) (r b : Fin 128) : qq x0 t r b = ((qg G b (pch g r) t : ℝ) : EReal) := by
  unfold qq qg
  rw [h0, eighth_f32, ← EReal.coe_mul]

include h1 h2 h4 h6 in
theorem ss_eq (h : Fin 2) (k v : Fin 64) (b : Fin 128) (n : ℕ) (hn : n ≤ 8) :
    ss x1 x2 x4 x6 n h k v b = ((stR G p S b (gh g h) k v n : ℝ) : EReal) := by
  induction n with
  | zero => exact h6 h k v b
  | succ n ih =>
    rw [ss_succ x1 x2 x4 x6 ⟨n, hn⟩, ff_eq x1 x4 G p g h1 h4, kk_eq x1 x4 G p g h1 h4, vv_eq x2 G g h2, ih (by omega),
      ← EReal.coe_mul, ← EReal.coe_mul, ← EReal.coe_add, ← chan_gh, ← chan_gh]
    rfl

include h0 h1 h2 h4 h6 in
theorem oo_eq (t : Fin 8) (h : Fin 2) (v : Fin 64) (b : Fin 128) :
    oo x0 x1 x2 x4 x6 t h v b = ((ooR G p S b (gh g h) v t : ℝ) : EReal) := by
  unfold oo ooR
  rw [coe_sum]
  refine Finset.sum_congr rfl fun k _ => ?_
  rw [qq_eq x0 G g h0, ss_eq x1 x2 x4 x6 G p S g h1 h2 h4 h6 h k v b _ t.isLt, ← EReal.coe_mul, chan_gh]

include h0 h1 h2 h4 h6 in
theorem nn_eq (t : Fin 8) (h : Fin 2) (v : Fin 64) (b : Fin 128) : nn x0 x1 x2 x4 x6 t h v b = Ref.nnR G p S b (gh g h) v t := by
  unfold nn Ref.nnR
  simp only [oo_eq x0 x1 x2 x4 x6 G p S g h0 h1 h2 h4 h6]

end

end Cert.Hgrn

end
-- ==== Proof.Hgrn.Final.lean ====
/-
  The two result arrays of the launch: every element is the reference's.
-/
module

public import proofs.«01_k».proof.Proof.Hgrn.Blocks
public import Idealize.ShloMosaic.Lib.Pipeline.ValueKit

@[expose] public section

noncomputable section

namespace Cert.Hgrn

open Cert.KernelIdeal Cert.KernelIdeal.Gen
open Idealize.ShloMosaic Idealize.ShloMosaic.TcCoe Idealize.ShloMosaic.Tactic

variable (m : (ℓ : Loc nD τ Cert.KernelIdeal.sig) → Buf (Elt Ideal) ℓ) (c : Dev nD)

/-- The four arguments of the call. -/
def argX : Vec Ideal S1024x1024 .f32 := m ((c : Thread nD τ).loc main_arg0)
def argP : Vec Ideal S2x256 .f32 := m ((c : Thread nD τ).loc main_arg1)
def argW : Vec Ideal S2x256 .f32 := m ((c : Thread nD τ).loc main_arg2)
def argS : Vec Ideal S2x4x64x64x128 .f32 := m ((c : Thread nD τ).loc main_arg3)

/-- The pair of heads of a grid point. -/
def pair (t : Fin cfg0.N) : Fin 2 := ⟨t.val, t.isLt⟩

theorem index0 : ∀ t : Fin cfg0.N, win0_0.index t = ![0, t.val] := (by decide +kernel : ∀ t : Fin grid0.N, _)
theorem index1 : ∀ t : Fin cfg0.N, win0_1.index t = ![0, 2 + t.val] := (by decide +kernel : ∀ t : Fin grid0.N, _)
theorem index2 : ∀ t : Fin cfg0.N, win0_2.index t = ![0, 4 + t.val] := (by decide +kernel : ∀ t : Fin grid0.N, _)
theorem index3 : ∀ t : Fin cfg0.N, win0_3.index t = ![0, 6 + t.val] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![1, 0, t.val] := (by decide +kernel : ∀ t : Fin grid0.N, _)
theorem index6 : ∀ t : Fin cfg0.N, win0_6.index t = ![1, t.val, 0, 0, 0] := (by decide +kernel : ∀ t : Fin grid0.N, _)
theorem index7 : ∀ t : Fin cfg0.N, win0_7.index t = ![0, t.val] := (by decide +kernel : ∀ t : Fin grid0.N, _)
theorem index8 : ∀ t : Fin cfg0.N, win0_8.index t = ![1, t.val, 0, 0, 0] := (by decide +kernel : ∀ t : Fin grid0.N, _)

/-! ## The blocks a grid point is given -/

theorem queries_apply (t : Fin cfg0.N) (i : Fin 1024) (r : Fin 128) :
    (iblk m c 0 t : Vec Ideal S1024x128 .f32) (ix2 i r) = argX m c (ix2 i (col 0 (pch (pair t) r))) := by
  unfold argX
  blk_simp [iblk]
  rw [V_main_arg0]
  congr 1
  refine Ref.idx_ext fun a => ?_
  match a with
  | ⟨0, _⟩ => blk_simp [index0]
  | ⟨1, _⟩ => blk_simp [index0]; show (t.val) * 128 + r.val = 256 * 0 + (128 * t.val + r.val); omega

theorem gates_apply (t : Fin cfg0.N) (i : Fin 1024) (r : Fin 128) :
    (iblk m c 1 t : Vec Ideal S1024x128 .f32) (ix2 i r) = argX m c (ix2 i (col 1 (pch (pair t) r))) := by
  unfold argX
  blk_simp [iblk]
  rw [V_main_arg0]
  congr 1
  refine Ref.idx_ext fun a => ?_
  match a with
  | ⟨0, _⟩ => blk_simp [index1]
  | ⟨1, _⟩ => blk_simp [index1]; show (2 + t.val) * 128 + r.val = 256 * 1 + (128 * t.val + r.val); omega

theorem values_apply (t : Fin cfg0.N) (i : Fin 1024) (r : Fin 128) :
    (iblk m c 2 t : Vec Ideal S1024x128 .f32) (ix2 i r) = argX m c (ix2 i (col 2 (pch (pair t) r))) := by
  unfold argX
  blk_simp [iblk]
  rw [V_main_arg0]
  congr 1
  refine Ref.idx_ext fun a => ?_
  match a with
  | ⟨0, _⟩ => blk_simp [index2]
  | ⟨1, _⟩ => blk_simp [index2]; show (4 + t.val) * 128 + r.val = 256 * 2 + (128 * t.val + r.val); omega

theorem outGates_apply (t : Fin cfg0.N) (i : Fin 1024) (r : Fin 128) :
    (iblk m c 3 t : Vec Ideal S1024x128 .f32) (ix2 i r) = argX m c (ix2 i (col 3 (pch (pair t) r))) := by
  unfold argX
  blk_simp [iblk]
  rw [V_main_arg0]
  congr 1
  refine Ref.idx_ext fun a => ?_
  match a with
  | ⟨0, _⟩ => blk_simp [index3]
  | ⟨1, _⟩ => blk_simp [index3]; show (6 + t.val) * 128 + r.val = 256 * 3 + (128 * t.val + r.val); omega

theorem bounds_apply (t : Fin cfg0.N) (l : Fin 2) (r : Fin 128) :
    (iblk m c 4 t : Vec Ideal S2x128 .f32) (ix2 l r) = argP m c (ix2 l (pch (pair t) r)) := by
  unfold argP
  blk_simp [iblk]
  rw [V_main_arg1]
  congr 1
  refine Ref.idx_ext fun a => ?_
  match a with
  | ⟨0, _⟩ => blk_simp [index4]
  | ⟨1, _⟩ => blk_simp [index4]; show t.val * 128 + r.val = 128 * t.val + r.val; omega

theorem gains_apply (t : Fin cfg0.N) (r : Fin 128) :
    (iblk m c 5 t : Vec Ideal S1x1x128 .f32) (ix3 0 0 r) = argW m c (ix2 (1 : Fin 2) (pch (pair t) r)) := by
  unfold argW
  blk_simp [iblk]
  entry_read
  have e : (((View.whole main_v0).slice (win0_5.rect t)).emb (ix3 0 0 r)) = ix3 (1 : Fin 2) (0 : Fin 1) (pch (pair t) r) := by
    refine Ref.idx_ext fun a => ?_
    match a with
    | ⟨0, _⟩ => blk_simp [index5]; rfl
    | ⟨1, _⟩ => blk_simp [index5]
    | ⟨2, _⟩ => blk_simp [index5]; show t.val * 128 + r.val = 128 * t.val + r.val; omega
  refine (congrArg _ e).trans ?_
  pointwise

theorem states_apply (t : Fin cfg0.N) (h : Fin 2) (k v : Fin 64) (b : Fin 128) :
    (iblk m c 6 t : Vec Ideal S1x2x64x64x128 .f32) (ix5 0 h k v b) = argS m c (ix5 (1 : Fin 2) (gh (pair t) h) k v b) := by
  unfold argS
  blk_simp [iblk]
  rw [V_main_arg3]
  congr 1
  refine Ref.idx_ext fun a => ?_
  match a with
  | ⟨0, _⟩ => blk_simp [index6]; rfl
  | ⟨1, _⟩ => blk_simp [index6]; show t.val * 2 + h.val = 2 * t.val + h.val; omega
  | ⟨2, _⟩ => blk_simp [index6]
  | ⟨3, _⟩ => blk_simp [index6]
  | ⟨4, _⟩ => blk_simp [index6]

/-! ## The result arrays -/

theorem covers7 : (cfg0.win 7).Covers := by decide +kernel

variable (G : Fin 1024 → Fin 1024 → ℝ) (p : Fin 2 → Fin 256 → ℝ) (S : Fin 4 → Fin 64 → Fin 64 → Fin 128 → ℝ)
  (hG : ∀ r c', argX m c (ix2 r c') = ((G r c' : ℝ) : EReal)) (hp : ∀ l d, argP m c (ix2 l d) = ((p l d : ℝ) : EReal))
  (hS : ∀ h k v b, argS m c (ix5 (1 : Fin 2) h k v b) = ((S h k v b : ℝ) : EReal))

include hG hp hS

/-- The first result array is the reference's. -/
theorem final7 : (dats m 0 c).arrAt 7 cfg0.N = Cert.ReferenceIdeal.Read.val_main_v119 (argX m c) (argP m c) (argW m c) (argS m c) := by
  refine (dats m 0 c).arrAt_eq_of_covers 7 _ covers7 fun t hf y => ?_
  blk_simp
  rw [after0_7]
  have hy : ∃ (T : Fin 8) (b : Fin 128) (h : Fin 2) (v : Fin 64), y = ix2 (tok T b) (rowOf h v) := by
    have h0 : (y 0).val < 1024 := (y 0).isLt
    have h1 : (y 1).val < 128 := (y 1).isLt
    exact ⟨⟨(y 0).val / 128, by omega⟩, ⟨(y 0).val % 128, by omega⟩, ⟨(y 1).val / 64, by omega⟩, ⟨(y 1).val % 64, by omega⟩,
      Ref.idx_ext fun a => match a with
        | ⟨0, _⟩ => (Nat.div_add_mod (y 0).val 128).symm
        | ⟨1, _⟩ => (Nat.div_add_mod (y 1).val 64).symm⟩
  obtain ⟨T, b, h, v, rfl⟩ := hy
  have e : (win0_7.blk t).view.emb (ix2 (tok T b) (rowOf h v)) = ix2 (tok T b) (chan (gh (pair t) h) v) := by
    refine Ref.idx_ext fun a => ?_
    match a with
    | ⟨0, _⟩ => blk_simp [index7]
    | ⟨1, _⟩ => blk_simp [index7]; show t.val * 128 + (64 * h.val + v.val) = 64 * (2 * t.val + h.val) + v.val; omega
  refine Eq.trans ?_ (congrArg _ e.symm)
  rw [Ref.v119_eq _ _ _ _ G p S hG hp hS]
  show outRow (iblk m c 0 t) (iblk m c 1 t) (iblk m c 2 t) (iblk m c 3 t) (iblk m c 4 t) (iblk m c 5 t) (iblk m c 6 t)
    ⟨(tok T b).val / 128, _⟩ ⟨(tok T b).val % 128, _⟩ (rowOf h v) = _
  have eT : (⟨(tok T b).val / 128, by have := (tok T b).isLt; omega⟩ : Fin 8) = T := Fin.ext (by show (128 * T.val + b.val) / 128 = T.val; omega)
  have eb : (⟨(tok T b).val % 128, Nat.mod_lt _ (by decide)⟩ : Fin 128) = b := Fin.ext (by show (128 * T.val + b.val) % 128 = b.val; omega)
  have eh : headOf (rowOf h v) = h := Fin.ext (by show (64 * h.val + v.val) / 64 = h.val; omega)
  have ev : chanOf (rowOf h v) = v := Fin.ext (by show (64 * h.val + v.val) % 64 = v.val; omega)
  rw [eT, eb]
  unfold outRow
  rw [eh, ev, nn_eq _ _ _ _ _ G p S (pair t) (fun i r => (queries_apply m c t i r).trans (hG _ _))
    (fun i r => (gates_apply m c t i r).trans (hG _ _)) (fun i r => (values_apply m c t i r).trans (hG _ _))
    (fun l r => (bounds_apply m c t l r).trans (hp _ _)) (fun h k v b => (states_apply m c t h k v b).trans (hS _ _ _ _)),
    gains_apply m c t, outGates_apply m c t, chan_gh]

/-- The second result array is the reference's: the first layer's states as the call finds them, the second layer's new. -/
theorem final8 : (dats m 0 c).arrAt 8 cfg0.N = Cert.ReferenceIdeal.Read.val_main_v123 (argX m c) (argP m c) (argS m c) := by
  refine (dats m 0 c).arrAt_eq_of_coversWhere_of_agree 8 _ (fun β => 1 ≤ β (0 : Fin _)) (by decide +kernel) (fun t hf y => ?_) (fun j hj => ?_)
  · blk_simp
    rw [after0_8]
    have hy : y = ix5 (0 : Fin 1) (y 1) (y 2) (y 3) (y 4) := Ref.idx_ext fun a => match a with
      | ⟨0, _⟩ => Nat.lt_one_iff.1 (y 0).isLt
      | ⟨1, _⟩ => rfl
      | ⟨2, _⟩ => rfl
      | ⟨3, _⟩ => rfl
      | ⟨4, _⟩ => rfl
    generalize y 1 = h, y 2 = k, y 3 = v, y 4 = b at hy
    subst hy
    have e : (win0_8.blk t).view.emb (ix5 (0 : Fin 1) h k v b) = ix5 (1 : Fin 2) (gh (pair t) h) k v b := by
      refine Ref.idx_ext fun a => ?_
      match a with
      | ⟨0, _⟩ => blk_simp [index8]; rfl
      | ⟨1, _⟩ => blk_simp [index8]; show t.val * 2 + h.val = 2 * t.val + h.val; omega
      | ⟨2, _⟩ => blk_simp [index8]
      | ⟨3, _⟩ => blk_simp [index8]
      | ⟨4, _⟩ => blk_simp [index8]
    refine Eq.trans ?_ (congrArg _ e.symm)
    refine Eq.trans ?_ (Ref.v123_new _ _ _ G p S hG hp hS _ k v b).symm
    exact ss_eq _ _ _ _ G p S (pair t) (fun i r => (gates_apply m c t i r).trans (hG _ _)) (fun i r => (values_apply m c t i r).trans (hG _ _))
      (fun l r => (bounds_apply m c t l r).trans (hp _ _)) (fun h k v b => (states_apply m c t h k v b).trans (hS _ _ _ _)) h k v b 8 le_rfl
  · blk_simp [Pipeline.Window.cell_apply] at hj ⊢
    rw [A_eq]
    have hj0 : j = ix5 (0 : Fin 2) (j 1) (j 2) (j 3) (j 4) := Ref.idx_ext fun a => match a with
      | ⟨0, _⟩ => by show (j 0).val = 0; have hj : ¬ 1 ≤ (j 0).val / 1 := hj; omega
      | ⟨1, _⟩ => rfl
      | ⟨2, _⟩ => rfl
      | ⟨3, _⟩ => rfl
      | ⟨4, _⟩ => rfl
    generalize j 1 = h, j 2 = k, j 3 = v, j 4 = b at hj0
    subst hj0
    refine Eq.trans ?_ (Ref.v123_old _ _ _ G p S hG hp hS h k v b).symm
    entry_read
    rfl

end Cert.Hgrn

end
-- ==== Proof.Hgrn.Claim.lean ====
/-
  The recurrence's claims: from finite arguments the launch and the reference end with the same two arrays.
-/
module

public import proofs.«01_k».proof.Defs
public import proofs.«01_k».proof.Proof.Hgrn.Final
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import Idealize.ShloMosaic.Lib.ReduceAll

@[expose] public section

set_option maxRecDepth 16384

noncomputable section

namespace Cert.Hgrn

open Idealize.ShloMosaic Idealize.ShloMosaic.TcCoe Idealize.SL.Sem

/-- A number whose size is below infinity is a real number. -/
theorem real_of_abs_lt {s : Shape} (x B : FVec Ideal s .f32) (i : s.Idx) (hB : B i = Ideal.ofBits .f32 0x7F800000#32)
    (h : cmpf .olt (Host.absf x) B i = 1#1) : x i = ((EReal.toReal (x i) : ℝ) : EReal) := by
  have hi : Ideal.ofBits .f32 0x7F800000#32 = ⊤ := by simp [Ideal.ofBits, Ideal.ieee]
  have h' : FloatOps.cmpf .olt (max (x i) (-(x i))) (B i) = 1#1 := h
  rw [hB, hi, Ideal.cmpf_def] at h'
  have hlt : max (x i : EReal) (-(x i)) < ⊤ := by
    by_contra hc
    have : BitVec.ofBool (decide (max (x i : EReal) (-(x i)) < ⊤)) = 1#1 := h'
    rw [decide_eq_false hc] at this
    exact absurd this (by decide)
  refine (EReal.coe_toReal ?_ ?_).symm
  · intro e; rw [e] at hlt; exact absurd hlt (by simp)
  · intro e; rw [e] at hlt; exact absurd hlt (by simp)

instance : Subsingleton Cert.Pre_finite.S_.Idx := ⟨fun i j => funext fun a => a.elim0⟩

/-- So are all numbers of an array that is tested so as a whole. -/
theorem all_real {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel)
    (e : Host.reduce IntOp.andi (cmpf .olt (Host.absf x) (broadcastInDim s ![] hb (constant Cert.Pre_finite.S_ .f32 0x7F800000#32)))
      (constantI Cert.Pre_finite.S_ 1 1#1) hr hu = (fun _ => 1#1)) (i : s.Idx) : x i = ((EReal.toReal (x i) : ℝ) : EReal) :=
  real_of_abs_lt x _ i rfl (Host.reduce_andi_all _ _ hr hu ix0 (congrFun e ix0) i)

theorem finite_real (x0 : Vec Ideal Cert.Pre_finite.S1024x1024 .f32) (x1 x2 : Vec Ideal Cert.Pre_finite.S2x256 .f32) (x3 : Vec Ideal Cert.Pre_finite.S2x4x64x64x128 .f32)
    (h : (Cert.Pre_finite.fn (F := Ideal) x0 x1 x2 x3).1 = (fun _ => 1#1) ∧ (Cert.Pre_finite.fn (F := Ideal) x0 x1 x2 x3).2.1 = (fun _ => 1#1)
      ∧ (Cert.Pre_finite.fn (F := Ideal) x0 x1 x2 x3).2.2 = (fun _ => 1#1)) :
    (∀ i, x0 i = ((x0 i).toReal : EReal)) ∧ (∀ i, x1 i = ((x1 i).toReal : EReal)) ∧ (∀ i, x3 i = ((x3 i).toReal : EReal)) := by
  simp only [Cert.Pre_finite.fn] at h
  obtain ⟨h0, h1, h3⟩ := h
  exact ⟨all_real x0 Cert.Pre_finite.Facts.bcast_S_S1024x1024 Cert.Pre_finite.Facts.reducesTo_S1024x1024_S_d0_1 Cert.Pre_finite.Facts.h_S_ h0,
    all_real x1 Cert.Pre_finite.Facts.bcast_S_S2x256 Cert.Pre_finite.Facts.reducesTo_S2x256_S_d0_1 Cert.Pre_finite.Facts.h_S_ h1,
    all_real x3 Cert.Pre_finite.Facts.bcast_S_S2x4x64x64x128 Cert.Pre_finite.Facts.reducesTo_S2x4x64x64x128_S_d0_1_2_3_4 Cert.Pre_finite.Facts.h_S_ h3⟩

/-- The reference runs and leaves its arguments and the counters as they were. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem agree : Cert.algebraic_KernelIdeal_ReferenceIdeal_pre_finite := by
  intro m ρ m' ρ' hpre hargs
  have key : ∀ c, (dats m 0 c).arrAt 7 Cert.KernelIdeal.cfg0.N = Cert.ReferenceIdeal.Read.val_main_v119 (argX m c) (argP m c) (argW m c) (argS m c)
      ∧ (dats m 0 c).arrAt 8 Cert.KernelIdeal.cfg0.N = Cert.ReferenceIdeal.Read.val_main_v123 (argX m c) (argP m c) (argS m c) := fun c => by
    obtain ⟨f0, f1, f3⟩ := finite_real _ _ _ _ (hpre c)
    exact ⟨final7 m c (fun r k => (argX m c (ix2 r k)).toReal) (fun l d => (argP m c (ix2 l d)).toReal) (fun h k v b => (argS m c (ix5 (1 : Fin 2) h k v b)).toReal)
        (fun r k => f0 _) (fun l d => f1 _) (fun h k v b => f3 _),
      final8 m c (fun r k => (argX m c (ix2 r k)).toReal) (fun l d => (argP m c (ix2 l d)).toReal) (fun h k v b => (argS m c (ix5 (1 : Fin 2) h k v b)).toReal)
        (fun r k => f0 _) (fun l d => f1 _) (fun h k v b => f3 _)⟩
  refine ⟨fun c => (dats m 0 c).arrAt 7 Cert.KernelIdeal.cfg0.N, fun c => (dats m 0 c).arrAt 8 Cert.KernelIdeal.cfg0.N, run_blocks m ρ, ?_⟩
  refine (θ_run Cert.ReferenceIdeal.defs _ _).mono (fun r h c => ⟨?_, ?_, (h c).2.2⟩) (Cert.ReferenceIdeal.Value.run (F := Ideal) m' ρ')
  · refine ((h c).1.trans (Cert.ReferenceIdeal.Read.val_main_v119_eq m' c)).trans ?_
    rw [(hargs c).1, (hargs c).2.1, (hargs c).2.2.1, (hargs c).2.2.2]
    exact (key c).1.symm
  · refine ((h c).2.1.trans (Cert.ReferenceIdeal.Read.val_main_v123_eq m' c)).trans ?_
    rw [(hargs c).1, (hargs c).2.1, (hargs c).2.2.2]
    exact (key c).2.symm

end Cert.Hgrn

end
-- ==== Proof.Ffn.Cells.lean ====
/-
  The scratch buffer that holds a block of columns behind two rows of history: what a window of its rows reads.
-/
module

public import proofs.«01_k».proof.Proof.Gen.Kernel2Ideal.Frame
public import Idealize.ShloMosaic.Lib.Pointwise

@[expose] public section

set_option maxRecDepth 16384

noncomputable section

namespace Cert.Ffn

open Idealize.ShloMosaic Idealize.ShloMosaic.TcCoe
open Cert.Kernel2Ideal Cert.Kernel2Ideal.Gen

/-- One column of the rows a tile reads: two rows of history, then the tile's own 512 rows. -/
def ext (H : Fin 2 → EReal) (U : Fin 512 → EReal) (r : ℕ) : EReal :=
  if h : r < 2 then H ⟨r, h⟩ else if h' : r - 2 < 512 then U ⟨r - 2, h'⟩ else 0

/-- A window of a buffer held whole, read at an index. -/
theorem window_at {s : Shape} {e : EltTy} {sp : Space} {A : Memref sig .tc sp s e} (hA : A.IsWhole) (x : s.Idx → Elt Ideal e)
    {off size : Fin s.rank → ℕ} (inb : ∀ a, off a + size a ≤ s.size a) (i : (⟨s.rank, size⟩ : Shape).Idx) (j : s.Idx)
    (hj : ∀ a, (j a).val = off a + (i a).val) :
    A.view.readAt (Elt Ideal) (Rect.unit off size inb).toLoadRect (hA.unread x) i = x j := by
  rw [View.readAt_apply, hA.read_unread]
  refine congrArg x (funext fun a => Fin.ext ?_)
  rw [hj a, ← Nat.one_mul (i a).val]
  rfl

/-- Buffer `b` after the tile's rows are stored behind the history: a window of `n` rows from row `o`. -/
theorem rows_load {sp : Space} (v : View sig .tc sp S4x520x256 .f32) {b : ℕ}
    (ib : ∀ a, (![b, 0, 0] : Fin 3 → ℕ) a + S1x520x256.size a ≤ S4x520x256.size a)
    (i8 : ∀ a, (![8, 0] : Fin 2 → ℕ) a + S512x256.size a ≤ S520x256.size a)
    (i6 : ∀ a, (![6, 0] : Fin 2 → ℕ) a + S2x256.size a ≤ S520x256.size a)
    {o n : ℕ} (io : ∀ a, (![o, 0] : Fin 2 → ℕ) a + (![n, 256] : Fin 2 → ℕ) a ≤ S520x256.size a)
    (h0 : (![1, 520, 256] : Fin 3 → ℕ) 0 = 1) (hs : ∀ i : Fin 2, (![1, 520, 256] : Fin 3 → ℕ) i.succ = S520x256.size i)
    (hst : ∀ a, (Rect.unit (s := S4x520x256) ![b, 0, 0] S1x520x256.size ib).stride a = 1)
    (U : S512x256.Idx → EReal) (H : S2x256.Idx → EReal) (L : List (View.Piece (Elt Ideal) S4x520x256 .f32))
    (hR8 : ((Rect.unit (s := S520x256) ![8, 0] S512x256.size i8).consLift ![1, 520, 256] h0 hs).shape.numel = (Rect.unit (s := S520x256) ![8, 0] S512x256.size i8).shape.numel)
    (hR6 : ((Rect.unit (s := S520x256) ![6, 0] S2x256.size i6).consLift ![1, 520, 256] h0 hs).shape.numel = (Rect.unit (s := S520x256) ![6, 0] S2x256.size i6).shape.numel)
    (hR : (Rect.unit (s := S520x256) ![o, 0] ![n, 256] io).toLoadRect.shape.numel
      = ((Rect.unit (s := S4x520x256) ![b, 0, 0] S1x520x256.size ib).withinL
          ((Rect.unit (s := S520x256) ![o, 0] ![n, 256] io).toLoadRect.consLift ![1, 520, 256] h0 hs) hst).shape.numel)
    (ho : 6 ≤ o) (i : (⟨2, ![n, 256]⟩ : Shape).Idx) :
    (LoadRect.valAlong hR (v.readCov (Val := Elt Ideal)
        (⟨(Rect.unit (s := S4x520x256) ![b, 0, 0] S1x520x256.size ib).within
            ((Rect.unit (s := S520x256) ![8, 0] S512x256.size i8).consLift ![1, 520, 256] h0 hs) hst, Rect.payAlong hR8 U⟩
          :: ⟨(Rect.unit (s := S4x520x256) ![b, 0, 0] S1x520x256.size ib).within
            ((Rect.unit (s := S520x256) ![6, 0] S2x256.size i6).consLift ![1, 520, 256] h0 hs) hst, Rect.payAlong hR6 H⟩ :: L)
        ((Rect.unit (s := S4x520x256) ![b, 0, 0] S1x520x256.size ib).withinL
          ((Rect.unit (s := S520x256) ![o, 0] ![n, 256] io).toLoadRect.consLift ![1, 520, 256] h0 hs) hst)) :
        (⟨2, ![n, 256]⟩ : Shape).Idx → EReal) i
      = ext (fun k => H (ix2 k (i 1))) (fun r => U (ix2 r (i 1))) (o + (i 0).val - 6) := by
  have hn : o + n ≤ 520 := io 0
  have hi0 : (i 0).val < n := (i 0).isLt
  have hi1 : (i 1).val < 256 := (i 1).isLt
  -- the window's index, lifted over the leading axis
  obtain ⟨y, hy⟩ : ∃ y, y = Shape.reshapeEquiv hR i := ⟨_, rfl⟩
  have hback : Shape.reshapeEquiv ((Rect.unit (s := S520x256) ![o, 0] ![n, 256] io).numel_consLift ![1, 520, 256] h0 hs) y = i := by
    subst hy; exact (Shape.reshapeEquiv_reshapeEquiv _ hR i).trans (Shape.reshapeEquiv_self _ i)
  have hc : ∀ a : Fin 2, (y a.succ).val = (i a).val := fun a => by
    have := (Rect.unit (s := S520x256) ![o, 0] ![n, 256] io).reshapeEquiv_consLift_succ ![1, 520, 256] h0 hs y a
    rw [this]; exact congrArg (fun z : (⟨2, ![n, 256]⟩ : Shape).Idx => (z a).val) hback
  have hc1 : (y 1).val = (i 0).val := hc 0
  have hc2 : (y 2).val = (i 1).val := hc 1
  have hc0 : (y 0).val = 0 := by have : (y 0).val < 1 := (y 0).isLt; omega
  show v.read (Elt Ideal) (v.writes (Elt Ideal) v.junk _) (((Rect.unit (s := S4x520x256) ![b, 0, 0] S1x520x256.size ib).withinL
    ((Rect.unit (s := S520x256) ![o, 0] ![n, 256] io).toLoadRect.consLift ![1, 520, 256] h0 hs) hst).idx (Shape.reshapeEquiv hR i)) = _
  rw [← hy]
  obtain ⟨z, hz⟩ : ∃ z, z = (((Rect.unit (s := S4x520x256) ![b, 0, 0] S1x520x256.size ib).withinL
    ((Rect.unit (s := S520x256) ![o, 0] ![n, 256] io).toLoadRect.consLift ![1, 520, 256] h0 hs) hst).idx y) := ⟨_, rfl⟩
  have z0 : (z 0).val = b := by
    rw [hz, LoadRect.idx_apply]; show (b + 0) + 1 * (y 0).val = b; omega
  have z1 : (z 1).val = o + (i 0).val := by
    rw [hz, LoadRect.idx_apply]; show (0 + o) + 1 * (y 1).val = _; omega
  have z2 : (z 2).val = (i 1).val := by
    rw [hz, LoadRect.idx_apply]; show (0 + 0) + 1 * (y 2).val = _; omega
  rw [← hz]
  by_cases hlt : o + (i 0).val < 8
  · rw [View.read_writes_cons_miss_of_axis v _ _ _ z (1 : Fin 3) 8 512 rfl rfl rfl (.inl (by rw [z1]; exact hlt))]
    have hx : ∀ a : Fin 3, (z a).val = ((Rect.unit (s := S4x520x256) ![b, 0, 0] S1x520x256.size ib).within
        ((Rect.unit (s := S520x256) ![6, 0] S2x256.size i6).consLift ![1, 520, 256] h0 hs) hst).off a
        + ((Rect.unit (s := S4x520x256) ![b, 0, 0] S1x520x256.size ib).within
        ((Rect.unit (s := S520x256) ![6, 0] S2x256.size i6).consLift ![1, 520, 256] h0 hs) hst).stride a
        * ((ix3 (0 : Fin 1) (⟨o + (i 0).val - 6, by omega⟩ : Fin 2) (⟨(i 1).val, hi1⟩ : Fin 256) : (⟨3, ![1, 2, 256]⟩ : Shape).Idx) a).val := by
      intro a
      match a with
      | ⟨0, _⟩ => show (z 0).val = (b + 0) + 1 * 0; omega
      | ⟨1, _⟩ => show (z 1).val = (0 + 6) + 1 * (o + (i 0).val - 6); omega
      | ⟨2, _⟩ => show (z 2).val = (0 + 0) + 1 * (i 1).val; omega
    refine (View.read_writes_cons_hit_of_coords v _ _ _ _ (ix3 (0 : Fin 1) (⟨o + (i 0).val - 6, by omega⟩ : Fin 2) (⟨(i 1).val, hi1⟩ : Fin 256)) z hx).trans ?_
    unfold ext
    rw [dif_pos (by omega)]
    exact Rect.payAlong_consLift _ _ h0 hs H hR6 _ (ix2 (⟨o + (i 0).val - 6, by omega⟩ : Fin 2) (i 1)) (Fin.forall_fin_two.mpr ⟨rfl, rfl⟩)
  · have hx : ∀ a : Fin 3, (z a).val = ((Rect.unit (s := S4x520x256) ![b, 0, 0] S1x520x256.size ib).within
        ((Rect.unit (s := S520x256) ![8, 0] S512x256.size i8).consLift ![1, 520, 256] h0 hs) hst).off a
        + ((Rect.unit (s := S4x520x256) ![b, 0, 0] S1x520x256.size ib).within
        ((Rect.unit (s := S520x256) ![8, 0] S512x256.size i8).consLift ![1, 520, 256] h0 hs) hst).stride a
        * ((ix3 (0 : Fin 1) (⟨o + (i 0).val - 6 - 2, by omega⟩ : Fin 512) (⟨(i 1).val, hi1⟩ : Fin 256) : (⟨3, ![1, 512, 256]⟩ : Shape).Idx) a).val := by
      intro a
      match a with
      | ⟨0, _⟩ => show (z 0).val = (b + 0) + 1 * 0; omega
      | ⟨1, _⟩ => show (z 1).val = (0 + 8) + 1 * (o + (i 0).val - 6 - 2); omega
      | ⟨2, _⟩ => show (z 2).val = (0 + 0) + 1 * (i 1).val; omega
    refine (View.read_writes_cons_hit_of_coords v _ _ _ _ (ix3 (0 : Fin 1) (⟨o + (i 0).val - 6 - 2, by omega⟩ : Fin 512) (⟨(i 1).val, hi1⟩ : Fin 256)) z hx).trans ?_
    unfold ext
    rw [dif_neg (by omega), dif_pos (by omega)]
    exact Rect.payAlong_consLift _ _ h0 hs U hR8 _ (ix2 (⟨o + (i 0).val - 6 - 2, by omega⟩ : Fin 512) (i 1)) (Fin.forall_fin_two.mpr ⟨rfl, rfl⟩)

end Cert.Ffn

end
-- ==== Proof.Ffn.Stage.lean ====
/-
  One step's vectors read at an index: the mixers' projection, the norm, a block of the up projection with its causal
  convolution, the gate, the down projection and the last norm.
-/
module

public import proofs.«01_k».proof.Proof.Ffn.Cells
public import Idealize.ShloMosaic.PureOps.Ideal.Laws

@[expose] public section

set_option maxRecDepth 16384

noncomputable section

namespace Cert.Ffn

open Idealize.ShloMosaic Idealize.ShloMosaic.TcCoe
open Cert.Kernel2Ideal Cert.Kernel2Ideal.Gen

/-- The root-mean-square norm of a row with its weights. -/
def rms (x w : Fin 1024 → EReal) (e : Fin 1024) : EReal :=
  x e * Ideal.rsqrt (Ideal.div (∑ k : Fin 1024, x k * x k) (Ideal.ofBits .f32 0x44800000#32) + Ideal.ofBits .f32 0x358637BD#32) * w e

/-- The three mixers' outputs side by side. -/
def side {n : ℕ} (x1 x2 : (⟨2, ![n, 384]⟩ : Shape).Idx → EReal) (x3 : (⟨2, ![n, 256]⟩ : Shape).Idx → EReal) (r : Fin n) (k : Fin 1024) : EReal :=
  if h : k.val < 384 then x1 (ix2 r ⟨k.val, h⟩)
  else if h' : k.val - 384 < 384 then x2 (ix2 r ⟨k.val - 384, h'⟩) else x3 (ix2 r ⟨k.val - 384 - 384, by omega⟩)

/-- The convolution of one column over the rows. -/
def conv (H : Fin 2 → EReal) (U : Fin 512 → EReal) (b w0 w1 w2 : EReal) (r : Fin 512) : EReal :=
  b + w2 * U r + w1 * ext H U (r.val + 1) + w0 * ext H U r.val

/-- Column `q` of the block of columns from `c`. -/
def col {c : ℕ} (hc : c + 256 ≤ 2816) (q : Fin 256) : Fin 2816 := ⟨c + q.val, by omega⟩

theorem mix_at (x0 : Vec Ideal S512x1024 .f32) (x1 x2 : Vec Ideal S512x384 .bf16) (x3 : Vec Ideal S512x256 .bf16) (x4 : Vec Ideal S1x1024x1024 .bf16)
    (r : Fin 512) (e : Fin 1024) :
    k0_pay3 x0 x1 x2 x3 x4 (ix2 r e) = x0 (ix2 r e) + ∑ k : Fin 1024, side x1 x2 x3 r k * x4 (ix3 0 k e) := by
  unfold k0_pay3
  pointwise
  rfl

theorem norm_at (x0 : Vec Ideal S512x1024 .f32) (x1 x2 : Vec Ideal S512x384 .bf16) (x3 : Vec Ideal S512x256 .bf16) (x4 : Vec Ideal S1x1024x1024 .bf16)
    (x5 : Vec Ideal S1x1x1024 .f32) (r : Fin 512) (e : Fin 1024) :
    k0_pay5 x0 x1 x2 x3 x4 x5 (ix2 r e) = rms (fun k => k0_pay3 x0 x1 x2 x3 x4 (ix2 r k)) (fun k => x5 (ix3 0 0 k)) e := by
  unfold k0_pay5
  generalize k0_pay3 x0 x1 x2 x3 x4 = X
  pointwise
  rfl

theorem down_at (a : Vec Ideal S512x2816 .bf16) (w : Vec Ideal S1x2816x1024 .bf16) (x : Vec Ideal S512x1024 .f32)
    (r : Fin 512) (e : Fin 1024) : k0_pay160 a w x (ix2 r e) = x (ix2 r e) + ∑ d : Fin 2816, a (ix2 r d) * w (ix3 0 d e) := by
  unfold k0_pay160
  pointwise

theorem last_at (x : FVec Ideal S512x1024 .f32) (w : Vec Ideal S1x1024 .f32)
    (r : Fin 512) (e : Fin 1024) : k0_pay161 x w (ix2 r e) = rms (fun k => x (ix2 r k)) (fun k => w (ix2 0 k)) e := by
  unfold k0_pay161
  pointwise
  rfl

/-- A block of the up projection. -/
theorem up_at (h2 : Vec Ideal S512x1024 .bf16) (w : Vec Ideal S1x1024x256 .bf16) (r : Fin 512) (q : Fin 256) :
    k0_pay7 h2 w (ix2 r q) = ∑ k : Fin 1024, h2 (ix2 r k) * w (ix3 0 k q) := by
  unfold k0_pay7
  pointwise

/-- The convolution of one block of columns, from the tile's rows and the rows one and two before. -/
abbrev convV (cb k2 k1 k0 : Vec Ideal S1x1x256 .f32) (u p1 p0 : FVec Ideal S512x256 .f32) : FVec Ideal S512x256 .f32 :=
  addf (addf (addf (broadcastTo S512x256 (shapeCast S1x256 cb shapeCasts_S1x1x256_S1x256) broadcasts_S1x256_S512x256)
      (mulf (broadcastTo S512x256 (shapeCast S1x256 k2 shapeCasts_S1x1x256_S1x256) broadcasts_S1x256_S512x256) u))
      (mulf (broadcastTo S512x256 (shapeCast S1x256 k1 shapeCasts_S1x1x256_S1x256) broadcasts_S1x256_S512x256) p1))
      (mulf (broadcastTo S512x256 (shapeCast S1x256 k0 shapeCasts_S1x1x256_S1x256) broadcasts_S1x256_S512x256) p0)

theorem convV_at (cb k2 k1 k0 : Vec Ideal S1x1x256 .f32) (u p1 p0 : FVec Ideal S512x256 .f32) (r : Fin 512) (q : Fin 256) :
    convV cb k2 k1 k0 u p1 p0 (ix2 r q)
    = cb (ix3 0 0 q) + k2 (ix3 0 0 q) * u (ix2 r q) + k1 (ix3 0 0 q) * p1 (ix2 r q) + k0 (ix3 0 0 q) * p0 (ix2 r q) := by
  unfold convV
  pointwise

/-- The gate of one block of columns. -/
abbrev gateV (g v : FVec Ideal S512x256 .f32) : FVec Ideal S512x256 .bf16 :=
  shapeCast S512x256 (truncf .bf16 (mulf (mulf g (logistic g)) v) bitsLt_bf16_f32) shapeCasts_S512x256_S512x256

theorem gate_at (g v : FVec Ideal S512x256 .f32) (r : Fin 512) (q : Fin 256) :
    gateV g v (ix2 r q) = g (ix2 r q) * Ideal.logistic (g (ix2 r q)) * v (ix2 r q) := by
  unfold gateV
  pointwise

section Block
variable {sp : Space} (V : View sig .tc sp S4x520x256 .f32) {b : ℕ}
    (ib : ∀ a, (![b, 0, 0] : Fin 3 → ℕ) a + S1x520x256.size a ≤ S4x520x256.size a)
    (hst : ∀ a, (Rect.unit (s := S4x520x256) ![b, 0, 0] S1x520x256.size ib).stride a = 1)
    (i8 : ∀ a, (![8, 0] : Fin 2 → ℕ) a + S512x256.size a ≤ S520x256.size a)
    (i6 : ∀ a, (![6, 0] : Fin 2 → ℕ) a + S2x256.size a ≤ S520x256.size a)
    (h0 : (![1, 520, 256] : Fin 3 → ℕ) 0 = 1) (hs : ∀ i : Fin 2, (![1, 520, 256] : Fin 3 → ℕ) i.succ = S520x256.size i)
    (hR8 : ((Rect.unit (s := S520x256) ![8, 0] S512x256.size i8).consLift ![1, 520, 256] h0 hs).shape.numel = (Rect.unit (s := S520x256) ![8, 0] S512x256.size i8).shape.numel)
    (hR6 : ((Rect.unit (s := S520x256) ![6, 0] S2x256.size i6).consLift ![1, 520, 256] h0 hs).shape.numel = (Rect.unit (s := S520x256) ![6, 0] S2x256.size i6).shape.numel)
    (L : List (View.Piece (Elt Ideal) S4x520x256 .f32))

/-- The stores of a block: its rows behind the history. -/
abbrev bufL (U : FVec Ideal S512x256 .f32) (H : FVec Ideal S2x256 .f32) : List (View.Piece (Elt Ideal) S4x520x256 .f32) :=
  ⟨(Rect.unit (s := S4x520x256) ![b, 0, 0] S1x520x256.size ib).within
      ((Rect.unit (s := S520x256) ![8, 0] S512x256.size i8).consLift ![1, 520, 256] h0 hs) hst,
      Rect.payAlong hR8 (shapeCast S512x256 U shapeCasts_S512x256_S512x256)⟩
    :: ⟨(Rect.unit (s := S4x520x256) ![b, 0, 0] S1x520x256.size ib).within
      ((Rect.unit (s := S520x256) ![6, 0] S2x256.size i6).consLift ![1, 520, 256] h0 hs) hst,
      Rect.payAlong hR6 H⟩ :: L

/-- `n` rows from row `o` of the block's buffer. -/
abbrev bufRows (M : List (View.Piece (Elt Ideal) S4x520x256 .f32)) (o n : ℕ)
    (io : ∀ a, (![o, 0] : Fin 2 → ℕ) a + (![n, 256] : Fin 2 → ℕ) a ≤ S520x256.size a)
    (hR : (Rect.unit (s := S520x256) ![o, 0] ![n, 256] io).toLoadRect.shape.numel
      = ((Rect.unit (s := S4x520x256) ![b, 0, 0] S1x520x256.size ib).withinL
          ((Rect.unit (s := S520x256) ![o, 0] ![n, 256] io).toLoadRect.consLift ![1, 520, 256] h0 hs) hst).shape.numel) :
    (⟨2, ![n, 256]⟩ : Shape).Idx → EReal :=
  LoadRect.valAlong hR (V.readCov (Val := Elt Ideal) M ((Rect.unit (s := S4x520x256) ![b, 0, 0] S1x520x256.size ib).withinL
          ((Rect.unit (s := S520x256) ![o, 0] ![n, 256] io).toLoadRect.consLift ![1, 520, 256] h0 hs) hst))

theorem bufRows_at (U : FVec Ideal S512x256 .f32) (H : FVec Ideal S2x256 .f32) (o n : ℕ)
    (io : ∀ a, (![o, 0] : Fin 2 → ℕ) a + (![n, 256] : Fin 2 → ℕ) a ≤ S520x256.size a)
    (hR : (Rect.unit (s := S520x256) ![o, 0] ![n, 256] io).toLoadRect.shape.numel
      = ((Rect.unit (s := S4x520x256) ![b, 0, 0] S1x520x256.size ib).withinL
          ((Rect.unit (s := S520x256) ![o, 0] ![n, 256] io).toLoadRect.consLift ![1, 520, 256] h0 hs) hst).shape.numel)
    (ho : 6 ≤ o) (r : Fin n) (q : Fin 256) :
    bufRows V ib hst h0 hs (bufL ib hst i8 i6 h0 hs hR8 hR6 L U H) o n io hR (ix2 r q)
      = ext (fun k => H (ix2 k q)) (fun r => U (ix2 r q)) (o + r.val - 6) := by
  refine (rows_load V ib i8 i6 io h0 hs hst _ _ L hR8 hR6 hR ho (ix2 r q)).trans ?_
  congr 1
  funext k
  pointwise

variable {A9 : Memref sig .tc .vmem S1x1024x2816 .bf16} (h9 : A9.IsWhole) {A11 : Memref sig .tc .vmem S1x3x2816 .f32} (h11 : A11.IsWhole)
    {A13 : Memref sig .tc .vmem S1x1x2816 .f32} (h13 : A13.IsWhole) {c : ℕ} (hc : c + 256 ≤ 2816)
    (n9 : ∀ a, (![0, 0, c] : Fin 3 → ℕ) a + S1x1024x256.size a ≤ S1x1024x2816.size a)
    (n11_2 : ∀ a, (![0, 2, c] : Fin 3 → ℕ) a + S1x1x256.size a ≤ S1x3x2816.size a)
    (n11_1 : ∀ a, (![0, 1, c] : Fin 3 → ℕ) a + S1x1x256.size a ≤ S1x3x2816.size a)
    (n11_0 : ∀ a, (![0, 0, c] : Fin 3 → ℕ) a + S1x1x256.size a ≤ S1x3x2816.size a)
    (n13 : ∀ a, (![0, 0, c] : Fin 3 → ℕ) a + S1x1x256.size a ≤ S1x1x2816.size a)
    (h2 : Vec Ideal S512x1024 .bf16) (w : Vec Ideal S1x1024x2816 .bf16) (cw : Vec Ideal S1x3x2816 .f32) (cb : Vec Ideal S1x1x2816 .f32)
    (H : FVec Ideal S2x256 .f32) (Hs : Fin 2 → Fin 2816 → EReal) (hH : ∀ k q, H (ix2 k q) = Hs k (col hc q))

/-- The up projection at a row and a column. -/
def up (h2 : Vec Ideal S512x1024 .bf16) (w : Vec Ideal S1x1024x2816 .bf16) (r : Fin 512) (d : Fin 2816) : EReal :=
  ∑ k : Fin 1024, h2 (ix2 r k) * w (ix3 0 k d)

/-- The convolved up projection at a row and a column. -/
def half (h2 : Vec Ideal S512x1024 .bf16) (w : Vec Ideal S1x1024x2816 .bf16) (cw : Vec Ideal S1x3x2816 .f32) (cb : Vec Ideal S1x1x2816 .f32)
    (Hs : Fin 2 → Fin 2816 → EReal) (r : Fin 512) (d : Fin 2816) : EReal :=
  conv (fun k => Hs k d) (fun r => up h2 w r d) (cb (ix3 0 0 d)) (cw (ix3 0 0 d)) (cw (ix3 0 1 d)) (cw (ix3 0 2 d)) r

/-- The block's up projection, its weights read from their window. -/
abbrev blockU : FVec Ideal S512x256 .f32 :=
  k0_pay7 h2 (A9.view.readAt (Elt Ideal) (Rect.unit (s := S1x1024x2816) ![0, 0, c] S1x1024x256.size n9).toLoadRect (h9.unread w))

theorem blockU_at (r : Fin 512) (q : Fin 256) : blockU h9 n9 h2 w (ix2 r q) = up h2 w r (col hc q) := by
  refine (up_at _ _ r q).trans (Finset.sum_congr rfl fun k _ => congrArg (h2 (ix2 r k) * ·) ?_)
  exact window_at h9 w n9 (ix3 0 k q) (ix3 0 k (col hc q)) (fun a => match a with
    | ⟨0, _⟩ => rfl
    | ⟨1, _⟩ => (Nat.zero_add _).symm
    | ⟨2, _⟩ => rfl)

/-- The last two rows of the block, as the history of the next tile. -/
theorem keep_at (i518 : ∀ a, (![518, 0] : Fin 2 → ℕ) a + (![2, 256] : Fin 2 → ℕ) a ≤ S520x256.size a)
    (hR : (Rect.unit (s := S520x256) ![518, 0] ![2, 256] i518).toLoadRect.shape.numel
      = ((Rect.unit (s := S4x520x256) ![b, 0, 0] S1x520x256.size ib).withinL
          ((Rect.unit (s := S520x256) ![518, 0] ![2, 256] i518).toLoadRect.consLift ![1, 520, 256] h0 hs) hst).shape.numel)
    (k : Fin 2) (q : Fin 256) :
    (shapeCast S1x2x256 (bufRows V ib hst h0 hs (bufL ib hst i8 i6 h0 hs hR8 hR6 L (blockU h9 n9 h2 w) H) 518 2 i518 hR : Vec Ideal S2x256 .f32)
      shapeCasts_S2x256_S1x2x256 : Vec Ideal S1x2x256 .f32) (ix3 0 k q) = up h2 w ⟨510 + k.val, by omega⟩ (col hc q) := by
  have h := bufRows_at V ib hst i8 i6 h0 hs hR8 hR6 L (blockU h9 n9 h2 w) H 518 2 i518 hR (by omega) k q
  revert h
  generalize bufRows V ib hst h0 hs (bufL ib hst i8 i6 h0 hs hR8 hR6 L (blockU h9 n9 h2 w) H) 518 2 i518 hR = X
  intro h
  have h' : (shapeCast S1x2x256 (X : Vec Ideal S2x256 .f32) shapeCasts_S2x256_S1x2x256 : Vec Ideal S1x2x256 .f32) (ix3 0 k q) = X (ix2 k q) := by
    pointwise
  rw [h', h]
  unfold ext
  rw [dif_neg (by omega), dif_pos (by omega)]
  refine (blockU_at h9 hc n9 h2 w _ q).trans (congrArg (fun r => up h2 w r (col hc q)) (Fin.ext ?_))
  show 518 + k.val - 6 - 2 = 510 + k.val
  omega

/-- The block's convolution, everything read from where it is kept. -/
abbrev blockC (i7 : ∀ a, (![7, 0] : Fin 2 → ℕ) a + (![512, 256] : Fin 2 → ℕ) a ≤ S520x256.size a)
    (i6' : ∀ a, (![6, 0] : Fin 2 → ℕ) a + (![512, 256] : Fin 2 → ℕ) a ≤ S520x256.size a)
    (hR7 : (Rect.unit (s := S520x256) ![7, 0] ![512, 256] i7).toLoadRect.shape.numel
      = ((Rect.unit (s := S4x520x256) ![b, 0, 0] S1x520x256.size ib).withinL
          ((Rect.unit (s := S520x256) ![7, 0] ![512, 256] i7).toLoadRect.consLift ![1, 520, 256] h0 hs) hst).shape.numel)
    (hR6' : (Rect.unit (s := S520x256) ![6, 0] ![512, 256] i6').toLoadRect.shape.numel
      = ((Rect.unit (s := S4x520x256) ![b, 0, 0] S1x520x256.size ib).withinL
          ((Rect.unit (s := S520x256) ![6, 0] ![512, 256] i6').toLoadRect.consLift ![1, 520, 256] h0 hs) hst).shape.numel) : FVec Ideal S512x256 .f32 :=
  convV (A13.view.readAt (Elt Ideal) (Rect.unit (s := S1x1x2816) ![0, 0, c] S1x1x256.size n13).toLoadRect (h13.unread cb))
    (A11.view.readAt (Elt Ideal) (Rect.unit (s := S1x3x2816) ![0, 2, c] S1x1x256.size n11_2).toLoadRect (h11.unread cw))
    (A11.view.readAt (Elt Ideal) (Rect.unit (s := S1x3x2816) ![0, 1, c] S1x1x256.size n11_1).toLoadRect (h11.unread cw))
    (A11.view.readAt (Elt Ideal) (Rect.unit (s := S1x3x2816) ![0, 0, c] S1x1x256.size n11_0).toLoadRect (h11.unread cw))
    (blockU h9 n9 h2 w)
    (bufRows V ib hst h0 hs (bufL ib hst i8 i6 h0 hs hR8 hR6 L (blockU h9 n9 h2 w) H) 7 512 i7 hR7)
    (bufRows V ib hst h0 hs (bufL ib hst i8 i6 h0 hs hR8 hR6 L (blockU h9 n9 h2 w) H) 6 512 i6' hR6')

include hH in
theorem blockC_at (i7 : ∀ a, (![7, 0] : Fin 2 → ℕ) a + (![512, 256] : Fin 2 → ℕ) a ≤ S520x256.size a)
    (i6' : ∀ a, (![6, 0] : Fin 2 → ℕ) a + (![512, 256] : Fin 2 → ℕ) a ≤ S520x256.size a)
    (hR7 : (Rect.unit (s := S520x256) ![7, 0] ![512, 256] i7).toLoadRect.shape.numel
      = ((Rect.unit (s := S4x520x256) ![b, 0, 0] S1x520x256.size ib).withinL
          ((Rect.unit (s := S520x256) ![7, 0] ![512, 256] i7).toLoadRect.consLift ![1, 520, 256] h0 hs) hst).shape.numel)
    (hR6' : (Rect.unit (s := S520x256) ![6, 0] ![512, 256] i6').toLoadRect.shape.numel
      = ((Rect.unit (s := S4x520x256) ![b, 0, 0] S1x520x256.size ib).withinL
          ((Rect.unit (s := S520x256) ![6, 0] ![512, 256] i6').toLoadRect.consLift ![1, 520, 256] h0 hs) hst).shape.numel)
    (r : Fin 512) (q : Fin 256) :
    blockC V ib hst i8 i6 h0 hs hR8 hR6 L h9 h11 h13 n9 n11_2 n11_1 n11_0 n13 h2 w cw cb H i7 i6' hR7 hR6' (ix2 r q)
      = half h2 w cw cb Hs r (col hc q) := by
  refine (convV_at _ _ _ _ _ _ _ r q).trans ?_
  rw [bufRows_at V ib hst i8 i6 h0 hs hR8 hR6 L (blockU h9 n9 h2 w) H 7 512 i7 hR7 (by omega) r q,
    bufRows_at V ib hst i8 i6 h0 hs hR8 hR6 L (blockU h9 n9 h2 w) H 6 512 i6' hR6' (by omega) r q]
  have e3 : ∀ k : Fin 3, ∀ a, ((ix3 0 k (col hc q) : S1x3x2816.Idx) a).val = (![0, k.val, c] : Fin 3 → ℕ) a + ((ix3 0 0 q : S1x1x256.Idx) a).val :=
    fun k a => match a with
    | ⟨0, _⟩ => rfl
    | ⟨1, _⟩ => rfl
    | ⟨2, _⟩ => rfl
  have eb : ∀ a, ((ix3 0 0 (col hc q) : S1x1x2816.Idx) a).val = (![0, 0, c] : Fin 3 → ℕ) a + ((ix3 0 0 q : S1x1x256.Idx) a).val :=
    fun a => match a with
    | ⟨0, _⟩ => rfl
    | ⟨1, _⟩ => rfl
    | ⟨2, _⟩ => rfl
  rw [window_at h13 cb n13 (ix3 0 0 q) (ix3 0 0 (col hc q)) eb, window_at h11 cw n11_2 (ix3 0 0 q) (ix3 0 2 (col hc q)) (e3 2),
    window_at h11 cw n11_1 (ix3 0 0 q) (ix3 0 1 (col hc q)) (e3 1), window_at h11 cw n11_0 (ix3 0 0 q) (ix3 0 0 (col hc q)) (e3 0)]
  unfold half conv
  simp only [hH, blockU_at h9 hc]
  rw [show 7 + r.val - 6 = r.val + 1 by omega, show 6 + r.val - 6 = r.val by omega]

end Block

end Cert.Ffn

end
-- ==== Proof.Ffn.Spec.lean ====
/-
  The feed-forward block over the whole prompt: its rows, the convolved up projection of every batch entry behind two
  rows of zeros, the gated product, and what the reference's operations are at an index in these terms.
-/
module

public import proofs.«01_k».proof.Proof.Gen.Reference2Ideal.Read
public import proofs.«01_k».proof.Proof.Ffn.Stage

@[expose] public section

set_option maxRecDepth 16384

noncomputable section

namespace Cert.Ffn.Ref

open Idealize.ShloMosaic Idealize.ShloMosaic.TcCoe
open Cert.Reference2Ideal Cert.Reference2Ideal.Gen Cert.Reference2Ideal.Read

/-- Indices with the same coordinates are the same. -/
theorem at_eq {s : Shape} {i j : s.Idx} (h : ∀ a, (i a).val = (j a).val) : i = j := funext fun a => Fin.ext (h a)

/-- The float 1.0. -/
theorem one_eq : Ideal.ofBits .f32 0x3F800000#32 = 1 := by
  simp [Ideal.ofBits, Ideal.ieee]
  rw [← EReal.coe_mul, ← EReal.coe_one]
  norm_num

variable (x0 : (⟨S16384x1024, .f32⟩ : BufTy).Contents (Elt Ideal)) (x1 x2 : (⟨S16384x384, .bf16⟩ : BufTy).Contents (Elt Ideal))
  (x3 : (⟨S16384x256, .bf16⟩ : BufTy).Contents (Elt Ideal)) (x4 : (⟨S2x1024x1024, .f32⟩ : BufTy).Contents (Elt Ideal))
  (x5 : (⟨S2x1024, .f32⟩ : BufTy).Contents (Elt Ideal)) (x6 : (⟨S2x1024x5632, .f32⟩ : BufTy).Contents (Elt Ideal))
  (x7 : (⟨S2x3x5632, .f32⟩ : BufTy).Contents (Elt Ideal)) (x8 : (⟨S2x5632, .f32⟩ : BufTy).Contents (Elt Ideal))
  (x9 : (⟨S2x2816x1024, .f32⟩ : BufTy).Contents (Elt Ideal)) (x10 : (⟨S1024, .f32⟩ : BufTy).Contents (Elt Ideal))

/-- The token `t` of batch entry `b`. -/
def tok (b : Fin 8) (t : Fin 2048) : Fin 16384 := ⟨2048 * b.val + t.val, by omega⟩

/-- A row of the stream after the mixers. -/
def row (R : Fin 16384) (e : Fin 1024) : EReal := x0 (ix2 R e) + ∑ k : Fin 1024, side x1 x2 x3 R k * x4 (ix3 1 k e)

/-- Its norm. -/
def nrow (R : Fin 16384) (e : Fin 1024) : EReal := rms (row x0 x1 x2 x3 x4 R) (fun k => x5 (ix2 1 k)) e

/-- Its up projection. -/
def ups (R : Fin 16384) (d : Fin 5632) : EReal := ∑ k : Fin 1024, nrow x0 x1 x2 x3 x4 x5 R k * x6 (ix3 1 k d)

/-- Row `n` of a batch entry's up projections behind two rows of zeros. -/
def padded (b : Fin 8) (n : ℕ) (d : Fin 5632) : EReal :=
  if h : 2 ≤ n ∧ n - 2 < 2048 then ups x0 x1 x2 x3 x4 x5 x6 (tok b ⟨n - 2, h.2⟩) d else 0

/-- The convolution. -/
def mixed (b : Fin 8) (t : Fin 2048) (d : Fin 5632) : EReal :=
  x8 (ix2 1 d) + padded x0 x1 x2 x3 x4 x5 x6 b t.val d * x7 (ix3 1 0 d) + padded x0 x1 x2 x3 x4 x5 x6 b (t.val + 1) d * x7 (ix3 1 1 d)
    + padded x0 x1 x2 x3 x4 x5 x6 b (t.val + 2) d * x7 (ix3 1 2 d)

/-- The gated product. -/
def gated (b : Fin 8) (t : Fin 2048) (d : Fin 2816) : EReal :=
  mixed x0 x1 x2 x3 x4 x5 x6 x7 x8 b t ⟨d.val, by omega⟩ * Ideal.logistic (mixed x0 x1 x2 x3 x4 x5 x6 x7 x8 b t ⟨d.val, by omega⟩)
    * mixed x0 x1 x2 x3 x4 x5 x6 x7 x8 b t ⟨2816 + d.val, by omega⟩

theorem v3_at (R : Fin 16384) (k : Fin 1024) : val_main_v3 x1 x2 x3 (ix2 R k) = side x1 x2 x3 R k := by
  have h0 : val_main_v0 x1 = x1 := rfl
  have h1 : val_main_v1 x2 = x2 := rfl
  have h2 : val_main_v2 x3 = x3 := rfl
  unfold val_main_v3
  rw [h0, h1, h2]
  pointwise
  rfl

theorem v5_at (k e : Fin 1024) : val_main_v5 x4 (ix2 k e) = x4 (ix3 1 k e) := by
  rw [val_main_v5_apply, val_main_v4_apply]
  refine congrArg x4 (at_eq fun a => ?_)
  match a with
  | ⟨0, _⟩ => rfl
  | ⟨1, _⟩ => show (k.val * 1024 + e.val) / 1024 % 1024 = k.val; omega
  | ⟨2, _⟩ => show (k.val * 1024 + e.val) % 1024 = e.val; omega

theorem v7_at (R : Fin 16384) (e : Fin 1024) : val_main_v7 x0 x1 x2 x3 x4 (ix2 R e) = row x0 x1 x2 x3 x4 R e := by
  rw [val_main_v7_apply, val_main_v6_apply, Ideal.addf_def]
  refine congrArg (_ + ·) (Finset.sum_congr rfl fun k _ => ?_)
  rw [show lidx_main_v6 (ix2 R e) k = ix2 R k from at_eq fun a => match a with | ⟨0, _⟩ => rfl | ⟨1, _⟩ => rfl,
    show ridx_main_v6 (ix2 R e) k = ix2 k e from at_eq fun a => match a with | ⟨0, _⟩ => rfl | ⟨1, _⟩ => rfl, v3_at, v5_at]

theorem v22_at (R : Fin 16384) (e : Fin 1024) : val_main_v22 x0 x1 x2 x3 x4 x5 (ix2 R e) = nrow x0 x1 x2 x3 x4 x5 R e := by
  have e1 : ∀ k, idx_main_v11 (idx_main_v12 (idx_main_v18 (ix2 R e))) k = ix2 R k := fun k =>
    at_eq fun a => match a with | ⟨0, _⟩ => rfl | ⟨1, _⟩ => rfl
  have e2 : idx_main_v8 (idx_main_v9 (idx_main_v20 (idx_main_v21 (ix2 R e)))) = ix2 1 e := at_eq fun a => match a with
    | ⟨0, _⟩ => rfl
    | ⟨1, _⟩ => by show e.val % 1024 = e.val; omega
  rw [val_main_v22_apply, val_main_v19_apply, val_main_v18_apply, val_main_v17_apply, val_main_v16_apply, val_main_v14_apply,
    val_main_v12_apply, val_main_v11_apply, val_main_cst_apply, val_main_v13_apply, val_main_cst_0_apply, val_main_v15_apply,
    val_main_cst_1_apply, val_main_v21_apply, val_main_v20_apply, val_main_v9_apply, val_main_v8_apply, e2, v7_at]
  simp only [e1, val_main_v10_apply, v7_at, Ideal.mulf_def, Ideal.addf_def, Ideal.hostDivf_def, Ideal.hostUnary_rsqrt_def, Ideal.ofBits_def,
    Ideal.ofBits_zero_f32, zero_add]
  rfl

theorem v24_at (k : Fin 1024) (d : Fin 5632) : val_main_v24 x6 (ix2 k d) = x6 (ix3 1 k d) := by
  rw [val_main_v24_apply, val_main_v23_apply]
  refine congrArg x6 (at_eq fun a => ?_)
  match a with
  | ⟨0, _⟩ => rfl
  | ⟨1, _⟩ => show (k.val * 5632 + d.val) / 5632 % 1024 = k.val; omega
  | ⟨2, _⟩ => show (k.val * 5632 + d.val) % 5632 = d.val; omega

theorem v25_at (R : Fin 16384) (d : Fin 5632) : val_main_v25 x0 x1 x2 x3 x4 x5 x6 (ix2 R d) = ups x0 x1 x2 x3 x4 x5 x6 R d := by
  rw [val_main_v25_apply]
  refine Finset.sum_congr rfl fun k _ => ?_
  rw [show lidx_main_v25 (ix2 R d) k = ix2 R k from at_eq fun a => match a with | ⟨0, _⟩ => rfl | ⟨1, _⟩ => rfl,
    show ridx_main_v25 (ix2 R d) k = ix2 k d from at_eq fun a => match a with | ⟨0, _⟩ => rfl | ⟨1, _⟩ => rfl, v22_at, v24_at]

theorem v26_at (b : Fin 8) (t : Fin 2048) (d : Fin 5632) :
    val_main_v26 x0 x1 x2 x3 x4 x5 x6 (ix3 b t d) = ups x0 x1 x2 x3 x4 x5 x6 (tok b t) d := by
  rw [val_main_v26_apply, show idx_main_v26 (ix3 b t d) = ix2 (tok b t) d from at_eq fun a => match a with
    | ⟨0, _⟩ => by show ((b.val * 2048 + t.val) * 5632 + d.val) / 5632 = 2048 * b.val + t.val; omega
    | ⟨1, _⟩ => by show ((b.val * 2048 + t.val) * 5632 + d.val) % 5632 = d.val; omega, v25_at]

theorem v32_at (b : Fin 8) (n : Fin 2050) (d : Fin 5632) :
    val_main_v32 x0 x1 x2 x3 x4 x5 x6 (ix3 b n d) = padded x0 x1 x2 x3 x4 x5 x6 b n.val d := by
  unfold val_main_v32
  by_cases hn : n.val < 2
  · refine (concatenate_pair_apply_left (s₁ := S8x2x5632) (s₂ := S8x2048x5632) (t := S8x2050x5632) 1 _ _ _ (ix3 b n d) rfl (ix3 b ⟨n.val, hn⟩ d) fun a => ?_).trans ?_
    · match a with
      | ⟨0, _⟩ => rfl
      | ⟨1, _⟩ => rfl
      | ⟨2, _⟩ => rfl
    · rw [val_main_v31_apply, val_main_cst_2_apply, Ideal.ofBits_def, Ideal.ofBits_zero_f32]
      unfold padded
      rw [dif_neg (show ¬(2 ≤ n.val ∧ n.val - 2 < 2048) by omega)]
  · have h2 : 2 ≤ n.val ∧ n.val - 2 < 2048 := by omega
    refine (concatenate_pair_apply_right (s₁ := S8x2x5632) (s₂ := S8x2048x5632) (t := S8x2050x5632) 1 _ _ _ (ix3 b n d) rfl rfl (ix3 b ⟨n.val - 2, h2.2⟩ d) (fun a ha => ?_) ?_).trans ?_
    · match a with
      | ⟨0, _⟩ => rfl
      | ⟨1, _⟩ => exact absurd rfl ha
      | ⟨2, _⟩ => rfl
    · show n.val - 2 + 2 = n.val
      omega
    · rw [v26_at]
      unfold padded
      rw [dif_pos h2]

/-- The second result: the last two rows of every batch entry. -/
theorem v56_at (b : Fin 8) (k : Fin 2) (d : Fin 5632) :
    val_main_v56 x0 x1 x2 x3 x4 x5 x6 (ix3 b k d) = ups x0 x1 x2 x3 x4 x5 x6 (tok b ⟨2046 + k.val, by omega⟩) d := by
  rw [val_main_v56_apply, show idx_main_v56 (ix3 b k d) = ix3 b (⟨2048 + k.val, by omega⟩ : Fin 2050) d from
    at_eq fun a => match a with | ⟨0, _⟩ => rfl | ⟨1, _⟩ => rfl | ⟨2, _⟩ => rfl, v32_at]
  unfold padded
  refine (dif_pos (show 2 ≤ 2048 + k.val ∧ 2048 + k.val - 2 < 2048 by omega)).trans ?_
  exact congrArg (fun t => ups x0 x1 x2 x3 x4 x5 x6 (tok b t) d) (Fin.ext (by show 2048 + k.val - 2 = 2046 + k.val; omega))

/-- The filter of one tap, at a column. -/
theorem v28_at (j : Fin 3) (d : Fin 5632) : val_main_v28 x7 (ix2 j d) = x7 (ix3 1 j d) := by
  rw [val_main_v28_apply, val_main_v27_apply]
  refine congrArg x7 (at_eq fun a => ?_)
  match a with
  | ⟨0, _⟩ => rfl
  | ⟨1, _⟩ => show (j.val * 5632 + d.val) / 5632 % 3 = j.val; omega
  | ⟨2, _⟩ => show (j.val * 5632 + d.val) % 5632 = d.val; omega

theorem v55_at (b : Fin 8) (t : Fin 2048) (d : Fin 5632) :
    val_main_v55 x0 x1 x2 x3 x4 x5 x6 x7 x8 (ix3 b t d) = mixed x0 x1 x2 x3 x4 x5 x6 x7 x8 b t d := by
  have hd := d.isLt
  have w0 : idx_main_v34 (idx_main_v35 (idx_main_v36 (idx_main_v37 (ix3 b t d)))) = ix2 0 d := at_eq fun a => match a with
    | ⟨0, _⟩ => rfl
    | ⟨1, _⟩ => by show d.val % 5632 = d.val; omega
  have w1 : idx_main_v43 (idx_main_v44 (idx_main_v45 (idx_main_v46 (ix3 b t d)))) = ix2 1 d := at_eq fun a => match a with
    | ⟨0, _⟩ => rfl
    | ⟨1, _⟩ => by show d.val % 5632 = d.val; omega
  have w2 : idx_main_v50 (idx_main_v51 (idx_main_v52 (idx_main_v53 (ix3 b t d)))) = ix2 2 d := at_eq fun a => match a with
    | ⟨0, _⟩ => rfl
    | ⟨1, _⟩ => by show d.val % 5632 = d.val; omega
  have hb : idx_main_v29 (idx_main_v30 (idx_main_v39 (idx_main_v40 (ix3 b t d)))) = ix2 1 d := at_eq fun a => match a with
    | ⟨0, _⟩ => rfl
    | ⟨1, _⟩ => by show d.val % 5632 = d.val; omega
  have u0 : idx_main_v33 (ix3 b t d) = ix3 b (⟨t.val, by omega⟩ : Fin 2050) d := at_eq fun a => match a with
    | ⟨0, _⟩ => rfl | ⟨1, _⟩ => rfl | ⟨2, _⟩ => rfl
  have u1 : idx_main_v42 (ix3 b t d) = ix3 b (⟨t.val + 1, by omega⟩ : Fin 2050) d := at_eq fun a => match a with
    | ⟨0, _⟩ => rfl | ⟨1, _⟩ => Nat.add_comm 1 t.val | ⟨2, _⟩ => rfl
  have u2 : idx_main_v49 (ix3 b t d) = ix3 b (⟨t.val + 2, by omega⟩ : Fin 2050) d := at_eq fun a => match a with
    | ⟨0, _⟩ => rfl | ⟨1, _⟩ => Nat.add_comm 2 t.val | ⟨2, _⟩ => rfl
  rw [val_main_v55_apply, val_main_v54_apply, val_main_v53_apply, val_main_v52_apply, val_main_v51_apply, val_main_v50_apply, w2, v28_at,
    val_main_v49_apply, u2, v32_at, val_main_v48_apply, val_main_v47_apply, val_main_v46_apply, val_main_v45_apply, val_main_v44_apply,
    val_main_v43_apply, w1, v28_at, val_main_v42_apply, u1, v32_at, val_main_v41_apply, val_main_v40_apply, val_main_v39_apply,
    val_main_v30_apply, val_main_v29_apply, hb, val_main_v38_apply, val_main_v37_apply, val_main_v36_apply, val_main_v35_apply,
    val_main_v34_apply, w0, v28_at, val_main_v33_apply, u0, v32_at]
  rfl

theorem v60_at (b : Fin 8) (t : Fin 2048) (d : Fin 2816) :
    val_main_v60 x0 x1 x2 x3 x4 x5 x6 x7 x8 (ix3 b t d) = gated x0 x1 x2 x3 x4 x5 x6 x7 x8 b t d := by
  have g : idx_main_v57 (ix3 b t d) = ix3 b t (⟨d.val, by omega⟩ : Fin 5632) := at_eq fun a => match a with
    | ⟨0, _⟩ => rfl | ⟨1, _⟩ => rfl | ⟨2, _⟩ => rfl
  have v : idx_main_v58 (ix3 b t d) = ix3 b t (⟨2816 + d.val, by omega⟩ : Fin 5632) := at_eq fun a => match a with
    | ⟨0, _⟩ => rfl | ⟨1, _⟩ => rfl | ⟨2, _⟩ => rfl
  rw [val_main_v60_apply, val_main_v59_apply, val_main_v58_apply, v, v55_at, val_main_call0_v5_apply, val_main_call0_v4_apply,
    val_main_call0_cst_0_apply, val_main_call0_v3_apply, val_main_call0_v2_apply, val_main_call0_cst_apply, val_main_call0_v1_apply,
    val_main_call0_v0_apply, val_main_v57_apply, g, v55_at]
  simp only [Ideal.mulf_def, Ideal.addf_def, Ideal.hostDivf_def, Ideal.hostNegf_def, Ideal.negf_def, Ideal.hostUnary_exp_def, Ideal.ofBits_def, one_eq]
  rfl

theorem v61_at (b : Fin 8) (t : Fin 2048) (d : Fin 2816) :
    val_main_v61 x0 x1 x2 x3 x4 x5 x6 x7 x8 (ix2 (tok b t) d) = gated x0 x1 x2 x3 x4 x5 x6 x7 x8 b t d := by
  rw [val_main_v61_apply, show idx_main_v61 (ix2 (tok b t) d) = ix3 b t d from at_eq fun a => match a with
    | ⟨0, _⟩ => by show ((2048 * b.val + t.val) * 2816 + d.val) / 5767168 = b.val; omega
    | ⟨1, _⟩ => by show ((2048 * b.val + t.val) * 2816 + d.val) / 2816 % 2048 = t.val; omega
    | ⟨2, _⟩ => by show ((2048 * b.val + t.val) * 2816 + d.val) % 2816 = d.val; omega, v60_at]

theorem v63_at (d : Fin 2816) (e : Fin 1024) : val_main_v63 x9 (ix2 d e) = x9 (ix3 1 d e) := by
  rw [val_main_v63_apply, val_main_v62_apply]
  refine congrArg x9 (at_eq fun a => ?_)
  match a with
  | ⟨0, _⟩ => rfl
  | ⟨1, _⟩ => show (d.val * 1024 + e.val) / 1024 % 2816 = d.val; omega
  | ⟨2, _⟩ => show (d.val * 1024 + e.val) % 1024 = e.val; omega

theorem v65_at (b : Fin 8) (t : Fin 2048) (e : Fin 1024) :
    val_main_v65 x0 x1 x2 x3 x4 x5 x6 x7 x8 x9 (ix2 (tok b t) e)
      = row x0 x1 x2 x3 x4 (tok b t) e + ∑ d : Fin 2816, gated x0 x1 x2 x3 x4 x5 x6 x7 x8 b t d * x9 (ix3 1 d e) := by
  rw [val_main_v65_apply, val_main_v64_apply, v7_at, Ideal.addf_def]
  refine congrArg (row x0 x1 x2 x3 x4 (tok b t) e + ·) (Finset.sum_congr rfl fun d _ => ?_)
  rw [show lidx_main_v64 (ix2 (tok b t) e) d = ix2 (tok b t) d from at_eq fun a => match a with | ⟨0, _⟩ => rfl | ⟨1, _⟩ => rfl,
    show ridx_main_v64 (ix2 (tok b t) e) d = ix2 d e from at_eq fun a => match a with | ⟨0, _⟩ => rfl | ⟨1, _⟩ => rfl, v61_at, v63_at]

/-- The first result. -/
theorem v78_at (b : Fin 8) (t : Fin 2048) (e : Fin 1024) :
    val_main_v78 x0 x1 x2 x3 x4 x5 x6 x7 x8 x9 x10 (ix2 (tok b t) e)
      = rms (fun e => row x0 x1 x2 x3 x4 (tok b t) e + ∑ d : Fin 2816, gated x0 x1 x2 x3 x4 x5 x6 x7 x8 b t d * x9 (ix3 1 d e))
          (fun k => x10 (ix1 k)) e := by
  have e1 : ∀ k, idx_main_v67 (idx_main_v68 (idx_main_v74 (ix2 (tok b t) e))) k = ix2 (tok b t) k := fun k =>
    at_eq fun a => match a with | ⟨0, _⟩ => rfl | ⟨1, _⟩ => rfl
  have e2 : idx_main_v76 (idx_main_v77 (ix2 (tok b t) e)) = ix1 e := at_eq fun a => match a with | ⟨0, _⟩ => rfl
  rw [val_main_v78_apply, val_main_v75_apply, val_main_v74_apply, val_main_v73_apply, val_main_v72_apply, val_main_v70_apply,
    val_main_v68_apply, val_main_v67_apply, val_main_cst_3_apply, val_main_v69_apply, val_main_cst_4_apply, val_main_v71_apply,
    val_main_cst_5_apply, val_main_v77_apply, val_main_v76_apply, e2, v65_at]
  simp only [e1, val_main_v66_apply, v65_at, Ideal.mulf_def, Ideal.addf_def, Ideal.hostDivf_def, Ideal.hostUnary_rsqrt_def, Ideal.ofBits_def,
    Ideal.ofBits_zero_f32, zero_add]
  rfl

end Cert.Ffn.Ref

end
-- ==== Proof.Ffn.Blocks.lean ====
/-
  The blocks a tile is given: which elements of the arguments its windows hold.
-/
module

public import proofs.«01_k».proof.Proof.Gen.Kernel2Ideal.Value
public import proofs.«01_k».proof.Proof.Ffn.Spec
public import Idealize.ShloMosaic.Lib.Pipeline.ValueKit

@[expose] public section

set_option maxRecDepth 16384

noncomputable section

namespace Cert.Ffn

open Cert.Kernel2Ideal Cert.Kernel2Ideal.Gen
open Idealize.ShloMosaic Idealize.ShloMosaic.TcCoe Idealize.ShloMosaic.Tactic

variable (m : (ℓ : Loc nD τ Cert.Kernel2Ideal.sig) → Buf (Elt Ideal) ℓ) (c : Dev nD)

/-- The eleven arguments of the call. -/
def a0 : Vec Ideal S16384x1024 .f32 := m ((c : Thread nD τ).loc main_arg0)
def a1 : Vec Ideal S16384x384 .bf16 := m ((c : Thread nD τ).loc main_arg1)
def a2 : Vec Ideal S16384x384 .bf16 := m ((c : Thread nD τ).loc main_arg2)
def a3 : Vec Ideal S16384x256 .bf16 := m ((c : Thread nD τ).loc main_arg3)
def a4 : Vec Ideal S2x1024x1024 .f32 := m ((c : Thread nD τ).loc main_arg4)
def a5 : Vec Ideal S2x1024 .f32 := m ((c : Thread nD τ).loc main_arg5)
def a6 : Vec Ideal S2x1024x5632 .f32 := m ((c : Thread nD τ).loc main_arg6)
def a7 : Vec Ideal S2x3x5632 .f32 := m ((c : Thread nD τ).loc main_arg7)
def a8 : Vec Ideal S2x5632 .f32 := m ((c : Thread nD τ).loc main_arg8)
def a9 : Vec Ideal S2x2816x1024 .f32 := m ((c : Thread nD τ).loc main_arg9)
def a10 : Vec Ideal S1024 .f32 := m ((c : Thread nD τ).loc main_arg10)

/-- Row `r` of tile `t` among all rows. -/
def line (t : Fin cfg0.N) (r : Fin 512) : Fin 16384 := ⟨512 * t.val + r.val, by have : t.val < 32 := t.isLt; omega⟩

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![1, 0, 0] := (by decide +kernel : ∀ t : Fin grid0.N, _)
theorem index5 : ∀ t : Fin cfg0.N, win0_5.index t = ![1, 0, 0] := (by decide +kernel : ∀ t : Fin grid0.N, _)
theorem index6 : ∀ t : Fin cfg0.N, win0_6.index t = ![1, 0, 0] := (by decide +kernel : ∀ t : Fin grid0.N, _)
theorem index7 : ∀ t : Fin cfg0.N, win0_7.index t = ![1, 0, 1] := (by decide +kernel : ∀ t : Fin grid0.N, _)
theorem index8 : ∀ t : Fin cfg0.N, win0_8.index t = ![1, 0, 0] := (by decide +kernel : ∀ t : Fin grid0.N, _)
theorem index9 : ∀ t : Fin cfg0.N, win0_9.index t = ![1, 0, 1] := (by decide +kernel : ∀ t : Fin grid0.N, _)
theorem index10 : ∀ t : Fin cfg0.N, win0_10.index t = ![1, 0, 0] := (by decide +kernel : ∀ t : Fin grid0.N, _)
theorem index11 : ∀ t : Fin cfg0.N, win0_11.index t = ![1, 0, 1] := (by decide +kernel : ∀ t : Fin grid0.N, _)
theorem index12 : ∀ t : Fin cfg0.N, win0_12.index t = ![1, 0, 0] := (by decide +kernel : ∀ t : Fin grid0.N, _)
theorem index15 : ∀ t : Fin cfg0.N, win0_15.index t = ![0, 0] := (by decide +kernel : ∀ t : Fin grid0.N, _)
theorem index16 : ∀ t : Fin cfg0.N, win0_16.index t = ![t.val, 0] := (by decide +kernel : ∀ t : Fin grid0.N, _)
theorem index17 : ∀ t : Fin cfg0.N, win0_17.index t = ![t.val / 4, 0, 0] := (by decide +kernel : ∀ t : Fin grid0.N, _)

theorem block0 (t : Fin cfg0.N) (r : Fin 512) (e : Fin 1024) : (iblk m c 0 t : Vec Ideal S512x1024 .f32) (ix2 r e) = a0 m c (ix2 (line t r) e) := by
  unfold a0
  blk_simp [iblk]
  rw [V_main_arg0]
  congr 1
  refine Ref.at_eq fun a => ?_
  match a with
  | ⟨0, _⟩ => blk_simp [index0]; show t.val * 512 + r.val = 512 * t.val + r.val; omega
  | ⟨1, _⟩ => blk_simp [index0]

theorem block1 (t : Fin cfg0.N) (r : Fin 512) (e : Fin 384) : (iblk m c 1 t : Vec Ideal S512x384 .bf16) (ix2 r e) = a1 m c (ix2 (line t r) e) := by
  unfold a1
  blk_simp [iblk]
  rw [V_main_arg1]
  congr 1
  refine Ref.at_eq fun a => ?_
  match a with
  | ⟨0, _⟩ => blk_simp [index1]; show t.val * 512 + r.val = 512 * t.val + r.val; omega
  | ⟨1, _⟩ => blk_simp [index1]

theorem block2 (t : Fin cfg0.N) (r : Fin 512) (e : Fin 384) : (iblk m c 2 t : Vec Ideal S512x384 .bf16) (ix2 r e) = a2 m c (ix2 (line t r) e) := by
  unfold a2
  blk_simp [iblk]
  rw [V_main_arg2]
  congr 1
  refine Ref.at_eq fun a => ?_
  match a with
  | ⟨0, _⟩ => blk_simp [index2]; show t.val * 512 + r.val = 512 * t.val + r.val; omega
  | ⟨1, _⟩ => blk_simp [index2]

theorem block3 (t : Fin cfg0.N) (r : Fin 512) (e : Fin 256) : (iblk m c 3 t : Vec Ideal S512x256 .bf16) (ix2 r e) = a3 m c (ix2 (line t r) e) := by
  unfold a3
  blk_simp [iblk]
  rw [V_main_arg3]
  congr 1
  refine Ref.at_eq fun a => ?_
  match a with
  | ⟨0, _⟩ => blk_simp [index3]; show t.val * 512 + r.val = 512 * t.val + r.val; omega
  | ⟨1, _⟩ => blk_simp [index3]

theorem block4 (t : Fin cfg0.N) (k e : Fin 1024) : (iblk m c 4 t : Vec Ideal S1x1024x1024 .bf16) (ix3 0 k e) = a4 m c (ix3 1 k e) := by
  unfold a4
  blk_simp [iblk]
  entry_read
  have h : (((View.whole main_v2).slice (win0_4.rect t)).emb (ix3 0 k e)) = ix3 1 k e := Ref.at_eq fun a => by
    match a with
    | ⟨0, _⟩ => blk_simp [index4]; rfl
    | ⟨1, _⟩ => blk_simp [index4]
    | ⟨2, _⟩ => blk_simp [index4]
  exact congrArg _ h

theorem block5 (t : Fin cfg0.N) (k : Fin 1024) : (iblk m c 5 t : Vec Ideal S1x1x1024 .f32) (ix3 0 0 k) = a5 m c (ix2 1 k) := by
  unfold a5
  blk_simp [iblk]
  entry_read
  have h : (((View.whole main_v5).slice (win0_5.rect t)).emb (ix3 0 0 k)) = ix3 1 0 k := Ref.at_eq fun a => by
    match a with
    | ⟨0, _⟩ => blk_simp [index5]; rfl
    | ⟨1, _⟩ => blk_simp [index5]
    | ⟨2, _⟩ => blk_simp [index5]
  refine (congrArg _ h).trans ?_
  pointwise

theorem block6 (t : Fin cfg0.N) (k : Fin 1024) (d : Fin 2816) :
    (iblk m c 6 t : Vec Ideal S1x1024x2816 .bf16) (ix3 0 k d) = a6 m c (ix3 1 k (⟨d.val, by omega⟩ : Fin 5632)) := by
  unfold a6
  blk_simp [iblk]
  entry_read
  have h : (((View.whole main_v3).slice (win0_6.rect t)).emb (ix3 0 k d)) = ix3 1 k (⟨d.val, by omega⟩ : Fin 5632) := Ref.at_eq fun a => by
    match a with
    | ⟨0, _⟩ => blk_simp [index6]; rfl
    | ⟨1, _⟩ => blk_simp [index6]
    | ⟨2, _⟩ => blk_simp [index6]
  exact congrArg _ h

theorem block7 (t : Fin cfg0.N) (k : Fin 1024) (d : Fin 2816) :
    (iblk m c 7 t : Vec Ideal S1x1024x2816 .bf16) (ix3 0 k d) = a6 m c (ix3 1 k (⟨2816 + d.val, by omega⟩ : Fin 5632)) := by
  unfold a6
  blk_simp [iblk]
  entry_read
  have h : (((View.whole main_v3).slice (win0_7.rect t)).emb (ix3 0 k d)) = ix3 1 k (⟨2816 + d.val, by omega⟩ : Fin 5632) := Ref.at_eq fun a => by
    match a with
    | ⟨0, _⟩ => blk_simp [index7]; rfl
    | ⟨1, _⟩ => blk_simp [index7]
    | ⟨2, _⟩ => blk_simp [index7]
  exact congrArg _ h

theorem block8 (t : Fin cfg0.N) (j : Fin 3) (d : Fin 2816) :
    (iblk m c 8 t : Vec Ideal S1x3x2816 .f32) (ix3 0 j d) = a7 m c (ix3 1 j (⟨d.val, by omega⟩ : Fin 5632)) := by
  unfold a7
  blk_simp [iblk]
  rw [V_main_arg7]
  congr 1
  refine Ref.at_eq fun a => ?_
  match a with
  | ⟨0, _⟩ => blk_simp [index8]; rfl
  | ⟨1, _⟩ => blk_simp [index8]
  | ⟨2, _⟩ => blk_simp [index8]

theorem block9 (t : Fin cfg0.N) (j : Fin 3) (d : Fin 2816) :
    (iblk m c 9 t : Vec Ideal S1x3x2816 .f32) (ix3 0 j d) = a7 m c (ix3 1 j (⟨2816 + d.val, by omega⟩ : Fin 5632)) := by
  unfold a7
  blk_simp [iblk]
  rw [V_main_arg7]
  congr 1
  refine Ref.at_eq fun a => ?_
  match a with
  | ⟨0, _⟩ => blk_simp [index9]; rfl
  | ⟨1, _⟩ => blk_simp [index9]
  | ⟨2, _⟩ => blk_simp [index9]

theorem block10 (t : Fin cfg0.N) (d : Fin 2816) :
    (iblk m c 10 t : Vec Ideal S1x1x2816 .f32) (ix3 0 0 d) = a8 m c (ix2 1 (⟨d.val, by omega⟩ : Fin 5632)) := by
  unfold a8
  blk_simp [iblk]
  entry_read
  have h : (((View.whole main_v6).slice (win0_10.rect t)).emb (ix3 0 0 d)) = ix3 1 0 (⟨d.val, by omega⟩ : Fin 5632) := Ref.at_eq fun a => by
    match a with
    | ⟨0, _⟩ => blk_simp [index10]; rfl
    | ⟨1, _⟩ => blk_simp [index10]
    | ⟨2, _⟩ => blk_simp [index10]
  refine (congrArg _ h).trans ?_
  pointwise

theorem block11 (t : Fin cfg0.N) (d : Fin 2816) :
    (iblk m c 11 t : Vec Ideal S1x1x2816 .f32) (ix3 0 0 d) = a8 m c (ix2 1 (⟨2816 + d.val, by omega⟩ : Fin 5632)) := by
  unfold a8
  blk_simp [iblk]
  entry_read
  have h : (((View.whole main_v6).slice (win0_11.rect t)).emb (ix3 0 0 d)) = ix3 1 0 (⟨2816 + d.val, by omega⟩ : Fin 5632) := Ref.at_eq fun a => by
    match a with
    | ⟨0, _⟩ => blk_simp [index11]; rfl
    | ⟨1, _⟩ => blk_simp [index11]
    | ⟨2, _⟩ => blk_simp [index11]
  refine (congrArg _ h).trans ?_
  pointwise

theorem block12 (t : Fin cfg0.N) (d : Fin 2816) (e : Fin 1024) :
    (iblk m c 12 t : Vec Ideal S1x2816x1024 .bf16) (ix3 0 d e) = a9 m c (ix3 1 d e) := by
  unfold a9
  blk_simp [iblk]
  entry_read
  have h : (((View.whole main_v4).slice (win0_12.rect t)).emb (ix3 0 d e)) = ix3 1 d e := Ref.at_eq fun a => by
    match a with
    | ⟨0, _⟩ => blk_simp [index12]; rfl
    | ⟨1, _⟩ => blk_simp [index12]
    | ⟨2, _⟩ => blk_simp [index12]
  exact congrArg _ h

/-- The history a group starts from is zero. -/
theorem block13 (t : Fin cfg0.N) (y : S1x2x2816.Idx) : (iblk m c 13 t : Vec Ideal S1x2x2816 .f32) y = (0 : EReal) := by
  blk_simp [iblk]
  entry_read
  exact Ideal.ofBits_zero_f32

theorem block14 (t : Fin cfg0.N) (y : S1x2x2816.Idx) : (iblk m c 14 t : Vec Ideal S1x2x2816 .f32) y = (0 : EReal) := by
  blk_simp [iblk]
  entry_read
  exact Ideal.ofBits_zero_f32

theorem block15 (t : Fin cfg0.N) (k : Fin 1024) : (iblk m c 15 t : Vec Ideal S1x1024 .f32) (ix2 0 k) = a10 m c (ix1 k) := by
  unfold a10
  blk_simp [iblk]
  entry_read
  have h : (((View.whole main_v0).slice (win0_15.rect t)).emb (ix2 0 k)) = ix2 0 k := Ref.at_eq fun a => by
    match a with
    | ⟨0, _⟩ => blk_simp [index15]
    | ⟨1, _⟩ => blk_simp [index15]
  refine (congrArg _ h).trans ?_
  pointwise

end Cert.Ffn

end
-- ==== Proof.Ffn.Piece.lean ====
/-
  The gated product of a block of columns, and windows of buffers held whole.
-/
module

public import proofs.«01_k».proof.Proof.Ffn.Stage
public import Idealize.ShloMosaic.Lib.Pipeline.Value

@[expose] public section

set_option maxRecDepth 16384
set_option maxHeartbeats 400000

noncomputable section

namespace Cert.Ffn

open Idealize.ShloMosaic Idealize.ShloMosaic.TcCoe
open Cert.Kernel2Ideal Cert.Kernel2Ideal.Gen

/-- The gated product at a row and a column. -/
def act (h2 : Vec Ideal S512x1024 .bf16) (x6 x7 : Vec Ideal S1x1024x2816 .bf16) (x8 x9 : Vec Ideal S1x3x2816 .f32) (x10 x11 : Vec Ideal S1x1x2816 .f32)
    (Hg Hv : Fin 2 → Fin 2816 → EReal) (r : Fin 512) (d : Fin 2816) : EReal :=
  half h2 x6 x8 x10 Hg r d * Ideal.logistic (half h2 x6 x8 x10 Hg r d) * half h2 x7 x9 x11 Hv r d

/-- The gated product as a vector. -/
def actV (h2 : Vec Ideal S512x1024 .bf16) (x6 x7 : Vec Ideal S1x1024x2816 .bf16) (x8 x9 : Vec Ideal S1x3x2816 .f32) (x10 x11 : Vec Ideal S1x1x2816 .f32)
    (Hg Hv : Fin 2 → Fin 2816 → EReal) (y : S512x2816.Idx) : EReal :=
  act h2 x6 x7 x8 x9 x10 x11 Hg Hv (y 0) (y 1)

theorem actV_at (h2 : Vec Ideal S512x1024 .bf16) (x6 x7 : Vec Ideal S1x1024x2816 .bf16) (x8 x9 : Vec Ideal S1x3x2816 .f32) (x10 x11 : Vec Ideal S1x1x2816 .f32)
    (Hg Hv : Fin 2 → Fin 2816 → EReal) (r : Fin 512) (d : Fin 2816) :
    actV h2 x6 x7 x8 x9 x10 x11 Hg Hv (ix2 r d) = act h2 x6 x7 x8 x9 x10 x11 Hg Hv r d := rfl

/-- The columns from `base` of a block of history. -/
def hist (x : Vec Ideal S1x2x5632 .f32) (base : ℕ) (hb : base + 2816 ≤ 5632) (k : Fin 2) (d : Fin 2816) : EReal :=
  x (ix3 0 k ⟨base + d.val, by omega⟩)

/-- The history a group starts from. -/
def first (x : Vec Ideal S1x2x2816 .f32) (k : Fin 2) (d : Fin 2816) : EReal := x (ix3 0 k d)

/-- The tile before the last norm. -/
def body (X : Vec Ideal S512x1024 .f32) (h2 : Vec Ideal S512x1024 .bf16) (x6 x7 : Vec Ideal S1x1024x2816 .bf16) (x8 x9 : Vec Ideal S1x3x2816 .f32)
    (x10 x11 : Vec Ideal S1x1x2816 .f32) (x12 : Vec Ideal S1x2816x1024 .bf16) (Hg Hv : Fin 2 → Fin 2816 → EReal) (r : Fin 512) (e : Fin 1024) : EReal :=
  X (ix2 r e) + ∑ d : Fin 2816, act h2 x6 x7 x8 x9 x10 x11 Hg Hv r d * x12 (ix3 0 d e)

/-- The tile's output. -/
def tile (X : Vec Ideal S512x1024 .f32) (h2 : Vec Ideal S512x1024 .bf16) (x6 x7 : Vec Ideal S1x1024x2816 .bf16) (x8 x9 : Vec Ideal S1x3x2816 .f32)
    (x10 x11 : Vec Ideal S1x1x2816 .f32) (x12 : Vec Ideal S1x2816x1024 .bf16) (x15 : Vec Ideal S1x1024 .f32)
    (Hg Hv : Fin 2 → Fin 2816 → EReal) (r : Fin 512) (e : Fin 1024) : EReal :=
  rms (fun e => body X h2 x6 x7 x8 x9 x10 x11 x12 Hg Hv r e) (fun k => x15 (ix2 0 k)) e

/-- A whole window of a buffer held whole. -/
theorem whole_at {s : Shape} {e : EltTy} {sp : Space} {A : Memref sig .tc sp s e} (hA : A.IsWhole) (x : s.Idx → Elt Ideal e)
    {off : Fin s.rank → ℕ} (inb : ∀ a, off a + s.size a ≤ s.size a) (h0 : ∀ a, off a = 0) :
    A.view.readAt (Elt Ideal) (Rect.unit off s.size inb).toLoadRect (hA.unread x) = x := by
  funext i
  exact window_at hA x inb i i fun a => by rw [h0 a, Nat.zero_add]

/-- The history of a block of columns, read from the block before. -/
theorem halo_at {A : Memref sig .tc .vmem S1x2x5632 .f32} (hA : A.IsWhole) (x : Vec Ideal S1x2x5632 .f32) {o c : ℕ} (base : ℕ) (hb : base + 2816 ≤ 5632)
    (hc : c + 256 ≤ 2816) (ho : o = base + c) (inb : ∀ a, (![0, 0, o] : Fin 3 → ℕ) a + S1x2x256.size a ≤ S1x2x5632.size a) (k : Fin 2) (q : Fin 256) :
    A.view.readAt (Elt Ideal) (Rect.unit (s := S1x2x5632) ![0, 0, o] S1x2x256.size inb).toLoadRect (hA.unread x) (ix3 0 k q)
      = hist x base hb k (col hc q) := by
  subst ho
  exact window_at hA x inb (ix3 0 k q) (ix3 0 k ⟨base + (col hc q).val, by have := (col hc q).isLt; omega⟩) (fun a => match a with
    | ⟨0, _⟩ => rfl
    | ⟨1, _⟩ => (Nat.zero_add _).symm
    | ⟨2, _⟩ => (Nat.add_assoc _ _ _).symm)

/-- A block of history stored as a buffer's first two rows. -/
theorem cast_rows (H : Vec Ideal S1x2x256 .f32) (k : Fin 2) (q : Fin 256) :
    (shapeCast S2x256 (shapeCast S2x256 H shapeCasts_S1x2x256_S2x256) shapeCasts_S2x256_S2x256 : FVec Ideal S2x256 .f32) (ix2 k q) = H (ix3 0 k q) := by
  pointwise

/-- A block of history held whole, stored as a buffer's first two rows. -/
theorem halo_rows {A : Memref sig .tc .vmem S1x2x5632 .f32} (hA : A.IsWhole) (x : Vec Ideal S1x2x5632 .f32) {c base : ℕ} {hb : base + 2816 ≤ 5632}
    {hc : c + 256 ≤ 2816} {inb : ∀ a, (![0, 0, base + c] : Fin 3 → ℕ) a + S1x2x256.size a ≤ S1x2x5632.size a} (k : Fin 2) (q : Fin 256) :
    hist x base hb k (col hc q)
      = (shapeCast S2x256 (shapeCast S2x256 (A.view.readAt (Elt Ideal) (Rect.unit (s := S1x2x5632) ![0, 0, base + c] S1x2x256.size inb).toLoadRect (hA.unread x) : Vec Ideal S1x2x256 .f32)
          shapeCasts_S1x2x256_S2x256) shapeCasts_S2x256_S2x256 : FVec Ideal S2x256 .f32) (ix2 k q) :=
  ((cast_rows _ k q).trans (halo_at hA x base hb hc rfl inb k q)).symm

/-- The gated product of one block of columns, from its two convolved halves. -/
theorem act_piece {sp : Space} (V : View sig .tc sp S4x520x256 .f32) {b b' : ℕ}
    {ib : ∀ a, (![b, 0, 0] : Fin 3 → ℕ) a + S1x520x256.size a ≤ S4x520x256.size a}
    {hst : ∀ a, (Rect.unit (s := S4x520x256) ![b, 0, 0] S1x520x256.size ib).stride a = 1}
    {ib' : ∀ a, (![b', 0, 0] : Fin 3 → ℕ) a + S1x520x256.size a ≤ S4x520x256.size a}
    {hst' : ∀ a, (Rect.unit (s := S4x520x256) ![b', 0, 0] S1x520x256.size ib').stride a = 1}
    {i8 : ∀ a, (![8, 0] : Fin 2 → ℕ) a + S512x256.size a ≤ S520x256.size a}
    {i6 : ∀ a, (![6, 0] : Fin 2 → ℕ) a + S2x256.size a ≤ S520x256.size a}
    {h0 : (![1, 520, 256] : Fin 3 → ℕ) 0 = 1} {hs : ∀ i : Fin 2, (![1, 520, 256] : Fin 3 → ℕ) i.succ = S520x256.size i}
    {hR8 : ((Rect.unit (s := S520x256) ![8, 0] S512x256.size i8).consLift ![1, 520, 256] h0 hs).shape.numel = (Rect.unit (s := S520x256) ![8, 0] S512x256.size i8).shape.numel}
    {hR6 : ((Rect.unit (s := S520x256) ![6, 0] S2x256.size i6).consLift ![1, 520, 256] h0 hs).shape.numel = (Rect.unit (s := S520x256) ![6, 0] S2x256.size i6).shape.numel}
    {L L' : List (View.Piece (Elt Ideal) S4x520x256 .f32)}
    {A9 A10 : Memref sig .tc .vmem S1x1024x2816 .bf16} (h9 : A9.IsWhole) (h10 : A10.IsWhole)
    {A11 A12 : Memref sig .tc .vmem S1x3x2816 .f32} (h11 : A11.IsWhole) (h12 : A12.IsWhole)
    {A13 A14 : Memref sig .tc .vmem S1x1x2816 .f32} (h13 : A13.IsWhole) (h14 : A14.IsWhole) {c : ℕ} (hc : c + 256 ≤ 2816)
    {n9 : ∀ a, (![0, 0, c] : Fin 3 → ℕ) a + S1x1024x256.size a ≤ S1x1024x2816.size a}
    {n11_2 : ∀ a, (![0, 2, c] : Fin 3 → ℕ) a + S1x1x256.size a ≤ S1x3x2816.size a}
    {n11_1 : ∀ a, (![0, 1, c] : Fin 3 → ℕ) a + S1x1x256.size a ≤ S1x3x2816.size a}
    {n11_0 : ∀ a, (![0, 0, c] : Fin 3 → ℕ) a + S1x1x256.size a ≤ S1x3x2816.size a}
    {n13 : ∀ a, (![0, 0, c] : Fin 3 → ℕ) a + S1x1x256.size a ≤ S1x1x2816.size a}
    (h2 : Vec Ideal S512x1024 .bf16) (x6 x7 : Vec Ideal S1x1024x2816 .bf16) (x8 x9 : Vec Ideal S1x3x2816 .f32) (x10 x11 : Vec Ideal S1x1x2816 .f32)
    {H H' : FVec Ideal S2x256 .f32} (Hg Hv : Fin 2 → Fin 2816 → EReal)
    {i7 : ∀ a, (![7, 0] : Fin 2 → ℕ) a + (![512, 256] : Fin 2 → ℕ) a ≤ S520x256.size a}
    {i6' : ∀ a, (![6, 0] : Fin 2 → ℕ) a + (![512, 256] : Fin 2 → ℕ) a ≤ S520x256.size a}
    {hR7 : (Rect.unit (s := S520x256) ![7, 0] ![512, 256] i7).toLoadRect.shape.numel
      = ((Rect.unit (s := S4x520x256) ![b, 0, 0] S1x520x256.size ib).withinL
          ((Rect.unit (s := S520x256) ![7, 0] ![512, 256] i7).toLoadRect.consLift ![1, 520, 256] h0 hs) hst).shape.numel}
    {hR6' : (Rect.unit (s := S520x256) ![6, 0] ![512, 256] i6').toLoadRect.shape.numel
      = ((Rect.unit (s := S4x520x256) ![b, 0, 0] S1x520x256.size ib).withinL
          ((Rect.unit (s := S520x256) ![6, 0] ![512, 256] i6').toLoadRect.consLift ![1, 520, 256] h0 hs) hst).shape.numel}
    {hQ7 : (Rect.unit (s := S520x256) ![7, 0] ![512, 256] i7).toLoadRect.shape.numel
      = ((Rect.unit (s := S4x520x256) ![b', 0, 0] S1x520x256.size ib').withinL
          ((Rect.unit (s := S520x256) ![7, 0] ![512, 256] i7).toLoadRect.consLift ![1, 520, 256] h0 hs) hst').shape.numel}
    {hQ6' : (Rect.unit (s := S520x256) ![6, 0] ![512, 256] i6').toLoadRect.shape.numel
      = ((Rect.unit (s := S4x520x256) ![b', 0, 0] S1x520x256.size ib').withinL
          ((Rect.unit (s := S520x256) ![6, 0] ![512, 256] i6').toLoadRect.consLift ![1, 520, 256] h0 hs) hst').shape.numel}
    {ia : ∀ a, (![0, c] : Fin 2 → ℕ) a + S512x256.size a ≤ S512x2816.size a}
    {P : FVec Ideal S512x256 .bf16} (hH : ∀ k q, H (ix2 k q) = Hg k (col hc q)) (hH' : ∀ k q, H' (ix2 k q) = Hv k (col hc q))
    (hP : P = gateV (blockC V ib hst i8 i6 h0 hs hR8 hR6 L h9 h11 h13 n9 n11_2 n11_1 n11_0 n13 h2 x6 x8 x10 H i7 i6' hR7 hR6')
        (blockC V ib' hst' i8 i6 h0 hs hR8 hR6 L' h10 h12 h14 n9 n11_2 n11_1 n11_0 n13 h2 x7 x9 x11 H' i7 i6' hQ7 hQ6'))
    (x : (Rect.unit (s := S512x2816) ![0, c] S512x256.size ia).shape.Idx) :
    P x = actV h2 x6 x7 x8 x9 x10 x11 Hg Hv ((Rect.unit (s := S512x2816) ![0, c] S512x256.size ia).emb x) := by
  subst hP
  obtain ⟨r, q, rfl⟩ : ∃ (r : Fin 512) (q : Fin 256), x = ix2 r q := ⟨x 0, x 1, funext fun a => match a with
    | ⟨0, _⟩ => rfl
    | ⟨1, _⟩ => rfl⟩
  have he : (Rect.unit (s := S512x2816) ![0, c] S512x256.size ia).emb (ix2 r q) = ix2 r (col hc q) := funext fun a => Fin.ext (match a with
    | ⟨0, _⟩ => show 0 + 1 * r.val = r.val by omega
    | ⟨1, _⟩ => show c + 1 * q.val = c + q.val by omega)
  rw [he, actV_at]
  refine (gate_at _ _ r q).trans ?_
  rw [blockC_at V ib hst i8 i6 h0 hs hR8 hR6 L h9 h11 h13 hc n9 n11_2 n11_1 n11_0 n13 h2 x6 x8 x10 H Hg hH i7 i6' hR7 hR6' r q,
    blockC_at V ib' hst' i8 i6 h0 hs hR8 hR6 L' h10 h12 h14 hc n9 n11_2 n11_1 n11_0 n13 h2 x7 x9 x11 H' Hv hH' i7 i6' hQ7 hQ6' r q]
  rfl

/-- The up projection's last two rows, both halves side by side. -/
def keep (h2 : Vec Ideal S512x1024 .bf16) (x6 x7 : Vec Ideal S1x1024x2816 .bf16) (y : S1x2x5632.Idx) : EReal :=
  if h : (y 2).val < 2816 then up h2 x6 ⟨510 + (y 1).val, by have : (y 1).val < 2 := (y 1).isLt; omega⟩ ⟨(y 2).val, h⟩
  else up h2 x7 ⟨510 + (y 1).val, by have : (y 1).val < 2 := (y 1).isLt; omega⟩
    ⟨(y 2).val - 2816, by have : (y 2).val < 5632 := (y 2).isLt; omega⟩

theorem keep_gate (h2 : Vec Ideal S512x1024 .bf16) (x6 x7 : Vec Ideal S1x1024x2816 .bf16) (k : Fin 2) (d : Fin 2816) :
    keep h2 x6 x7 (ix3 0 k ⟨0 + d.val, by omega⟩) = up h2 x6 ⟨510 + k.val, by omega⟩ d := by
  unfold keep
  refine (dif_pos (show 0 + d.val < 2816 by omega)).trans ?_
  exact congrArg (up h2 x6 _) (Fin.ext (Nat.zero_add _))

theorem keep_value (h2 : Vec Ideal S512x1024 .bf16) (x6 x7 : Vec Ideal S1x1024x2816 .bf16) (k : Fin 2) (d : Fin 2816) :
    keep h2 x6 x7 (ix3 0 k ⟨2816 + d.val, by omega⟩) = up h2 x7 ⟨510 + k.val, by omega⟩ d := by
  unfold keep
  refine (dif_neg (show ¬2816 + d.val < 2816 by omega)).trans ?_
  exact congrArg (up h2 x7 _) (Fin.ext (Nat.add_sub_cancel_left _ _))

/-- A store of one block of columns of the history: a cell in another block is what the stores before left. -/
theorem keep_step {sp sp' : Space} {V' : View sig .tc sp' S1x2x5632 .f32} {f : V'.ty.Contents (Elt Ideal)} (V : View sig .tc sp S4x520x256 .f32) {b : ℕ}
    {ib : ∀ a, (![b, 0, 0] : Fin 3 → ℕ) a + S1x520x256.size a ≤ S4x520x256.size a}
    {hst : ∀ a, (Rect.unit (s := S4x520x256) ![b, 0, 0] S1x520x256.size ib).stride a = 1}
    {i8 : ∀ a, (![8, 0] : Fin 2 → ℕ) a + S512x256.size a ≤ S520x256.size a}
    {i6 : ∀ a, (![6, 0] : Fin 2 → ℕ) a + S2x256.size a ≤ S520x256.size a}
    {h0 : (![1, 520, 256] : Fin 3 → ℕ) 0 = 1} {hs : ∀ i : Fin 2, (![1, 520, 256] : Fin 3 → ℕ) i.succ = S520x256.size i}
    {hR8 : ((Rect.unit (s := S520x256) ![8, 0] S512x256.size i8).consLift ![1, 520, 256] h0 hs).shape.numel = (Rect.unit (s := S520x256) ![8, 0] S512x256.size i8).shape.numel}
    {hR6 : ((Rect.unit (s := S520x256) ![6, 0] S2x256.size i6).consLift ![1, 520, 256] h0 hs).shape.numel = (Rect.unit (s := S520x256) ![6, 0] S2x256.size i6).shape.numel}
    {L : List (View.Piece (Elt Ideal) S4x520x256 .f32)} {L' : List (View.Piece (Elt Ideal) S1x2x5632 .f32)}
    {A9 : Memref sig .tc .vmem S1x1024x2816 .bf16} (h9 : A9.IsWhole) {c o base : ℕ} (hc : c + 256 ≤ 2816) (hb : base + 2816 ≤ 5632)
    (ho : o = base + c) (hd : 256 * (o / 256) = o)
    {n9 : ∀ a, (![0, 0, c] : Fin 3 → ℕ) a + S1x1024x256.size a ≤ S1x1024x2816.size a}
    {h2 : Vec Ideal S512x1024 .bf16} {w : Vec Ideal S1x1024x2816 .bf16} {H : FVec Ideal S2x256 .f32} {G : S1x2x5632.Idx → EReal}
    (hG : ∀ (k : Fin 2) (d : Fin 2816), G (ix3 0 k ⟨base + d.val, by omega⟩) = up h2 w ⟨510 + k.val, by omega⟩ d)
    {i518 : ∀ a, (![518, 0] : Fin 2 → ℕ) a + (![2, 256] : Fin 2 → ℕ) a ≤ S520x256.size a}
    {hR : (Rect.unit (s := S520x256) ![518, 0] ![2, 256] i518).toLoadRect.shape.numel
      = ((Rect.unit (s := S4x520x256) ![b, 0, 0] S1x520x256.size ib).withinL
          ((Rect.unit (s := S520x256) ![518, 0] ![2, 256] i518).toLoadRect.consLift ![1, 520, 256] h0 hs) hst).shape.numel}
    {inb : ∀ a, (![0, 0, o] : Fin 3 → ℕ) a + S1x2x256.size a ≤ S1x2x5632.size a} {P : FVec Ideal S1x2x256 .f32}
    (hP : P = shapeCast S1x2x256 (bufRows V ib hst h0 hs (bufL ib hst i8 i6 h0 hs hR8 hR6 L (blockU h9 n9 h2 w) H) 518 2 i518 hR : Vec Ideal S2x256 .f32)
      shapeCasts_S2x256_S1x2x256) (y : S1x2x5632.Idx)
    (hrest : (y 2).val / 256 ≠ o / 256 → V'.read (Elt Ideal) (V'.writes (Elt Ideal) f L') y = G y) :
    V'.read (Elt Ideal) (V'.writes (Elt Ideal) f (⟨Rect.unit (s := S1x2x5632) ![0, 0, o] S1x2x256.size inb, P⟩ :: L')) y = G y := by
  subst hP
  obtain ⟨k, e, rfl⟩ : ∃ (k : Fin 2) (e : Fin 5632), y = ix3 0 k e := ⟨y 1, y 2, funext fun a => match a with
    | ⟨0, _⟩ => Fin.ext (Nat.lt_one_iff.1 (y 0).isLt)
    | ⟨1, _⟩ => rfl
    | ⟨2, _⟩ => rfl⟩
  by_cases hy : e.val / 256 = o / 256
  · have hq : e.val - o < 256 := by omega
    have he : (Rect.unit (s := S1x2x5632) ![0, 0, o] S1x2x256.size inb).emb (ix3 0 k (⟨e.val - o, hq⟩ : Fin 256)) = ix3 0 k e := funext fun a => Fin.ext (match a with
      | ⟨0, _⟩ => rfl
      | ⟨1, _⟩ => show 0 + 1 * k.val = k.val by omega
      | ⟨2, _⟩ => show o + 1 * (e.val - o) = e.val by omega)
    refine (congrArg _ he.symm).trans ?_
    rw [View.read_writes_cons_emb]
    refine (keep_at V ib hst i8 i6 h0 hs hR8 hR6 L h9 hc n9 h2 w H i518 hR k ⟨e.val - o, hq⟩).trans ?_
    rw [← hG k (col hc ⟨e.val - o, hq⟩)]
    exact congrArg G (congrArg (ix3 0 k) (Fin.ext (show base + (c + (e.val - o)) = e.val by omega)))
  · refine Eq.trans ?_ (hrest hy)
    rw [View.writes_cons]
    refine View.read_slice_write_of_not_mem _ _ _ _ ?_
    rw [Rect.map_emb_univ]
    intro hm
    obtain ⟨x, hx⟩ := (Rect.unit (s := S1x2x5632) ![0, 0, o] S1x2x256.size inb).exists_idx_of_mem hm
    have h2 := congrArg (fun z : S1x2x5632.Idx => (z 2).val) hx
    have hx2 : (x 2).val < 256 := (x 2).isLt
    have h3 : o + 1 * (x 2).val = e.val := h2
    exact hy (by omega)

/-- A block of columns read past the store of another block. -/
theorem halo_skip {sp : Space} {V : View sig .tc sp S1x2x5632 .f32} {L : List (View.Piece (Elt Ideal) S1x2x5632 .f32)} {o o' n : ℕ}
    {inb' : ∀ a, (![0, 0, o'] : Fin 3 → ℕ) a + (![1, 2, n] : Fin 3 → ℕ) a ≤ S1x2x5632.size a}
    {inb : ∀ a, (![0, 0, o] : Fin 3 → ℕ) a + S1x2x256.size a ≤ S1x2x5632.size a}
    {P : (Rect.unit (s := S1x2x5632) ![0, 0, o'] ![1, 2, n] inb').shape.Idx → Elt Ideal .f32} (h : o' + n ≤ o ∨ o + 256 ≤ o') (k : Fin 2) (q : Fin 256) :
    V.readCov (Val := Elt Ideal) (⟨Rect.unit (s := S1x2x5632) ![0, 0, o'] ![1, 2, n] inb', P⟩ :: L)
        (Rect.unit (s := S1x2x5632) ![0, 0, o] S1x2x256.size inb).toLoadRect (ix3 0 k q)
      = V.readCov (Val := Elt Ideal) L (Rect.unit (s := S1x2x5632) ![0, 0, o] S1x2x256.size inb).toLoadRect (ix3 0 k q) := by
  show V.read (Elt Ideal) (V.writes (Elt Ideal) V.junk _) ((Rect.unit (s := S1x2x5632) ![0, 0, o] S1x2x256.size inb).toLoadRect.idx (ix3 0 k q)) = V.read (Elt Ideal) (V.writes (Elt Ideal) V.junk _) _
  rw [View.writes_cons]
  refine View.read_slice_write_of_not_mem _ _ _ _ ?_
  rw [Rect.map_emb_univ]
  intro hm
  obtain ⟨x, hx⟩ := (Rect.unit (s := S1x2x5632) ![0, 0, o'] ![1, 2, n] inb').exists_idx_of_mem hm
  have h2 := congrArg (fun z : S1x2x5632.Idx => (z 2).val) hx
  have hx2 : (x 2).val < n := (x 2).isLt
  have h3 : o' + 1 * (x 2).val = o + 1 * q.val := h2
  omega

/-- The history a group starts from, as stored. -/
theorem first_gate {A : Memref sig .tc .vmem S1x2x2816 .f32} (hA : A.IsWhole) (x : Vec Ideal S1x2x2816 .f32)
    (n : ∀ a, (![0, 0, 0] : Fin 3 → ℕ) a + S1x2x2816.size a ≤ S1x2x2816.size a) (k : Fin 2) (d : Fin 2816) :
    k0_pay1 (A.view.readAt (Elt Ideal) (Rect.unit (s := S1x2x2816) ![0, 0, 0] S1x2x2816.size n).toLoadRect (hA.unread x)) (ix3 0 k d) = first x k d := by
  rw [whole_at hA x _ (by decide)]
  unfold k0_pay1 first
  pointwise

theorem first_value {A : Memref sig .tc .vmem S1x2x2816 .f32} (hA : A.IsWhole) (x : Vec Ideal S1x2x2816 .f32)
    (n : ∀ a, (![0, 0, 0] : Fin 3 → ℕ) a + S1x2x2816.size a ≤ S1x2x2816.size a) (k : Fin 2) (d : Fin 2816) :
    k0_pay2 (A.view.readAt (Elt Ideal) (Rect.unit (s := S1x2x2816) ![0, 0, 0] S1x2x2816.size n).toLoadRect (hA.unread x)) (ix3 0 k d) = first x k d := by
  rw [whole_at hA x _ (by decide)]
  unfold k0_pay2 first
  pointwise

/-- A block of columns of the history, read back from the store of a whole half. -/
theorem halo_first {sp : Space} {V : View sig .tc sp S1x2x5632 .f32} {L : List (View.Piece (Elt Ideal) S1x2x5632 .f32)} {c o base : ℕ}
    (hc : c + 256 ≤ 2816) (ho : o = base + c) {inb' : ∀ a, (![0, 0, base] : Fin 3 → ℕ) a + S1x2x2816.size a ≤ S1x2x5632.size a}
    {inb : ∀ a, (![0, 0, o] : Fin 3 → ℕ) a + S1x2x256.size a ≤ S1x2x5632.size a} {x : Vec Ideal S1x2x2816 .f32}
    {P : FVec Ideal S1x2x2816 .f32} (hP : ∀ (k : Fin 2) (d : Fin 2816), P (ix3 0 k d) = first x k d) (k : Fin 2) (q : Fin 256) :
    V.readCov (Val := Elt Ideal) (⟨Rect.unit (s := S1x2x5632) ![0, 0, base] S1x2x2816.size inb', P⟩ :: L)
      (Rect.unit (s := S1x2x5632) ![0, 0, o] S1x2x256.size inb).toLoadRect (ix3 0 k q) = first x k (col hc q) := by
  subst ho
  have he : (Rect.unit (s := S1x2x5632) ![0, 0, base + c] S1x2x256.size inb).toLoadRect.idx (ix3 0 k q)
      = (Rect.unit (s := S1x2x5632) ![0, 0, base] S1x2x2816.size inb').emb (ix3 0 k (col hc q)) := funext fun a => Fin.ext (match a with
    | ⟨0, _⟩ => rfl
    | ⟨1, _⟩ => rfl
    | ⟨2, _⟩ => show base + c + 1 * q.val = base + 1 * (c + q.val) by omega)
  show V.read (Elt Ideal) (V.writes (Elt Ideal) V.junk _) ((Rect.unit (s := S1x2x5632) ![0, 0, base + c] S1x2x256.size inb).toLoadRect.idx (ix3 0 k q)) = _
  rw [he, View.read_writes_cons_emb, hP]

end Cert.Ffn

end
-- ==== Proof.Ffn.Grid.lean ====
/-
  A tile's terms at the blocks it is given are the whole prompt's terms at the tile's rows.
-/
module

public import proofs.«01_k».proof.Proof.Ffn.Blocks
public import proofs.«01_k».proof.Proof.Ffn.Piece

@[expose] public section

set_option maxRecDepth 16384

noncomputable section

namespace Cert.Ffn

open Cert.Kernel2Ideal Cert.Kernel2Ideal.Gen
open Idealize.ShloMosaic Idealize.ShloMosaic.TcCoe

/-- The arguments of a launch, the blocks its tiles are given, and where these lie among the arguments. -/
structure Given where
  a0 : Vec Ideal S16384x1024 .f32
  a1 : Vec Ideal S16384x384 .bf16
  a2 : Vec Ideal S16384x384 .bf16
  a3 : Vec Ideal S16384x256 .bf16
  a4 : Vec Ideal S2x1024x1024 .f32
  a5 : Vec Ideal S2x1024 .f32
  a6 : Vec Ideal S2x1024x5632 .f32
  a7 : Vec Ideal S2x3x5632 .f32
  a8 : Vec Ideal S2x5632 .f32
  a9 : Vec Ideal S2x2816x1024 .f32
  b0 : Fin cfg0.N → Vec Ideal S512x1024 .f32
  b1 : Fin cfg0.N → Vec Ideal S512x384 .bf16
  b2 : Fin cfg0.N → Vec Ideal S512x384 .bf16
  b3 : Fin cfg0.N → Vec Ideal S512x256 .bf16
  b4 : Fin cfg0.N → Vec Ideal S1x1024x1024 .bf16
  b5 : Fin cfg0.N → Vec Ideal S1x1x1024 .f32
  b6 : Fin cfg0.N → Vec Ideal S1x1024x2816 .bf16
  b7 : Fin cfg0.N → Vec Ideal S1x1024x2816 .bf16
  b8 : Fin cfg0.N → Vec Ideal S1x3x2816 .f32
  b9 : Fin cfg0.N → Vec Ideal S1x3x2816 .f32
  b10 : Fin cfg0.N → Vec Ideal S1x1x2816 .f32
  b11 : Fin cfg0.N → Vec Ideal S1x1x2816 .f32
  b12 : Fin cfg0.N → Vec Ideal S1x2816x1024 .bf16
  block0 : ∀ (t : Fin cfg0.N) (r : Fin 512) (e : Fin 1024), b0 t (ix2 r e) = a0 (ix2 (line t r) e)
  block1 : ∀ (t : Fin cfg0.N) (r : Fin 512) (e : Fin 384), b1 t (ix2 r e) = a1 (ix2 (line t r) e)
  block2 : ∀ (t : Fin cfg0.N) (r : Fin 512) (e : Fin 384), b2 t (ix2 r e) = a2 (ix2 (line t r) e)
  block3 : ∀ (t : Fin cfg0.N) (r : Fin 512) (e : Fin 256), b3 t (ix2 r e) = a3 (ix2 (line t r) e)
  block4 : ∀ (t : Fin cfg0.N) (k e : Fin 1024), b4 t (ix3 0 k e) = a4 (ix3 1 k e)
  block5 : ∀ (t : Fin cfg0.N) (k : Fin 1024), b5 t (ix3 0 0 k) = a5 (ix2 1 k)
  block6 : ∀ (t : Fin cfg0.N) (k : Fin 1024) (d : Fin 2816), b6 t (ix3 0 k d) = a6 (ix3 1 k (⟨d.val, by omega⟩ : Fin 5632))
  block7 : ∀ (t : Fin cfg0.N) (k : Fin 1024) (d : Fin 2816), b7 t (ix3 0 k d) = a6 (ix3 1 k (⟨2816 + d.val, by omega⟩ : Fin 5632))
  block8 : ∀ (t : Fin cfg0.N) (j : Fin 3) (d : Fin 2816), b8 t (ix3 0 j d) = a7 (ix3 1 j (⟨d.val, by omega⟩ : Fin 5632))
  block9 : ∀ (t : Fin cfg0.N) (j : Fin 3) (d : Fin 2816), b9 t (ix3 0 j d) = a7 (ix3 1 j (⟨2816 + d.val, by omega⟩ : Fin 5632))
  block10 : ∀ (t : Fin cfg0.N) (d : Fin 2816), b10 t (ix3 0 0 d) = a8 (ix2 1 (⟨d.val, by omega⟩ : Fin 5632))
  block11 : ∀ (t : Fin cfg0.N) (d : Fin 2816), b11 t (ix3 0 0 d) = a8 (ix2 1 (⟨2816 + d.val, by omega⟩ : Fin 5632))
  block12 : ∀ (t : Fin cfg0.N) (d : Fin 2816) (e : Fin 1024), b12 t (ix3 0 d e) = a9 (ix3 1 d e)

variable (G : Given)

/-- The batch entry of a tile. -/
def entry (t : Fin cfg0.N) : Fin 8 := ⟨t.val / 4, by have : t.val < 32 := t.isLt; omega⟩

/-- The token of a tile's row. -/
def token (t : Fin cfg0.N) (r : Fin 512) : Fin 2048 := ⟨512 * (t.val % 4) + r.val, by omega⟩

theorem line_eq (t : Fin cfg0.N) (r : Fin 512) : line t r = Ref.tok (entry t) (token t r) :=
  Fin.ext (by show 512 * t.val + r.val = 2048 * (t.val / 4) + (512 * (t.val % 4) + r.val); omega)

/-- The stream after the mixers, and its norm, at a tile. -/
def mixT (t : Fin cfg0.N) : Vec Ideal S512x1024 .f32 := k0_pay3 (G.b0 t) (G.b1 t) (G.b2 t) (G.b3 t) (G.b4 t)
def normT (t : Fin cfg0.N) : Vec Ideal S512x1024 .bf16 := k0_pay5 (G.b0 t) (G.b1 t) (G.b2 t) (G.b3 t) (G.b4 t) (G.b5 t)

/-- The whole prompt's terms at the arguments. -/
abbrev upsM : Fin 16384 → Fin 5632 → EReal := Ref.ups (G.a0) (G.a1) (G.a2) (G.a3) (G.a4) (G.a5) (G.a6)
abbrev paddedM : Fin 8 → ℕ → Fin 5632 → EReal := Ref.padded (G.a0) (G.a1) (G.a2) (G.a3) (G.a4) (G.a5) (G.a6)
abbrev mixedM : Fin 8 → Fin 2048 → Fin 5632 → EReal := Ref.mixed (G.a0) (G.a1) (G.a2) (G.a3) (G.a4) (G.a5) (G.a6) (G.a7) (G.a8)
abbrev gatedM : Fin 8 → Fin 2048 → Fin 2816 → EReal := Ref.gated (G.a0) (G.a1) (G.a2) (G.a3) (G.a4) (G.a5) (G.a6) (G.a7) (G.a8)

theorem side_line (t : Fin cfg0.N) (r : Fin 512) (k : Fin 1024) :
    side (n := 512) (G.b1 t : Vec Ideal S512x384 .bf16) (G.b2 t : Vec Ideal S512x384 .bf16) (G.b3 t : Vec Ideal S512x256 .bf16) r k
      = side (n := 16384) (G.a1) (G.a2) (G.a3) (line t r) k := by
  unfold side
  split_ifs
  · exact G.block1 t r _
  · exact G.block2 t r _
  · exact G.block3 t r _

theorem mix_line (t : Fin cfg0.N) (r : Fin 512) (e : Fin 1024) :
    mixT G t (ix2 r e) = Ref.row (G.a0) (G.a1) (G.a2) (G.a3) (G.a4) (line t r) e := by
  unfold mixT Ref.row
  refine (mix_at _ _ _ _ _ r e).trans (congrArg₂ (· + ·) (G.block0 t r e) (Finset.sum_congr rfl fun k _ => ?_))
  exact congrArg₂ (· * ·) (side_line G t r k) (G.block4 t k e)

theorem norm_line (t : Fin cfg0.N) (r : Fin 512) (e : Fin 1024) :
    normT G t (ix2 r e) = Ref.nrow (G.a0) (G.a1) (G.a2) (G.a3) (G.a4) (G.a5) (line t r) e := by
  unfold normT Ref.nrow
  refine (norm_at _ _ _ _ _ _ r e).trans ?_
  exact congrArg₂ (fun x w => rms x w e) (funext fun k => mix_line G t r k) (funext fun k => G.block5 t k)

/-- The up projection's columns: `D` among all columns is column `d` of the half. -/
theorem up_line (t : Fin cfg0.N) (w : Vec Ideal S1x1024x2816 .bf16) (d : Fin 2816) (D : Fin 5632)
    (hw : ∀ k, w (ix3 0 k d) = G.a6 (ix3 1 k D)) (r : Fin 512) : up (normT G t) w r d = upsM G (line t r) D := by
  unfold up upsM Ref.ups
  exact Finset.sum_congr rfl fun k _ => congrArg₂ (· * ·) (norm_line G t r k) (hw k)

theorem padded_tok (b : Fin 8) (n : ℕ) (s : Fin 2048) (hs : n = s.val + 2) (D : Fin 5632) :
    paddedM G b n D = upsM G (Ref.tok b s) D := by
  subst hs
  unfold paddedM Ref.padded
  rw [dif_pos ⟨Nat.le_add_left 2 _, s.isLt⟩]
  rfl

theorem padded_zero (b : Fin 8) (n : ℕ) (hn : n < 2) (D : Fin 5632) : paddedM G b n D = 0 := by
  unfold paddedM Ref.padded
  rw [dif_neg (by omega)]

/-- The tile's rows behind its history are rows of the padded up projections. -/
theorem ext_line (t : Fin cfg0.N) (H : Fin 2 → EReal) (U : Fin 512 → EReal) (D : Fin 5632)
    (hH : ∀ k : Fin 2, H k = paddedM G (entry t) (512 * (t.val % 4) + k.val) D) (hU : ∀ r, U r = upsM G (line t r) D)
    (n : ℕ) (hn : n < 514) : ext H U n = paddedM G (entry t) (512 * (t.val % 4) + n) D := by
  unfold ext
  by_cases h : n < 2
  · rw [dif_pos h, hH]
  · rw [dif_neg h, dif_pos (show n - 2 < 512 by omega), hU, line_eq]
    exact (padded_tok G _ _ _ (by show 512 * (t.val % 4) + n = 512 * (t.val % 4) + (n - 2) + 2; omega) D).symm

/-- The three taps in either order. -/
theorem taps (b w0 w1 w2 p0 p1 p2 : EReal) : b + w2 * p2 + w1 * p1 + w0 * p0 = b + p0 * w0 + p1 * w1 + p2 * w2 := by
  ac_rfl

theorem half_line (t : Fin cfg0.N) (w : Vec Ideal S1x1024x2816 .bf16) (cw : Vec Ideal S1x3x2816 .f32) (cb : Vec Ideal S1x1x2816 .f32)
    (Hs : Fin 2 → Fin 2816 → EReal) (d : Fin 2816) (D : Fin 5632) (hw : ∀ k, w (ix3 0 k d) = G.a6 (ix3 1 k D))
    (hcw : ∀ j, cw (ix3 0 j d) = G.a7 (ix3 1 j D)) (hcb : cb (ix3 0 0 d) = G.a8 (ix2 1 D))
    (hH : ∀ k : Fin 2, Hs k d = paddedM G (entry t) (512 * (t.val % 4) + k.val) D) (r : Fin 512) :
    half (normT G t) w cw cb Hs r d = mixedM G (entry t) (token t r) D := by
  have hU : ∀ r, up (normT G t) w r d = upsM G (line t r) D := up_line G t w d D hw
  unfold half conv
  rw [ext_line G t _ _ D hH hU _ (by omega), ext_line G t _ _ D hH hU _ (by omega)]
  beta_reduce
  rw [hU, hcw, hcw, hcw, hcb, line_eq, ← padded_tok G (entry t) ((token t r).val + 2) (token t r) rfl]
  exact taps _ _ _ _ _ _ _

theorem act_line (t : Fin cfg0.N) (Hg Hv : Fin 2 → Fin 2816 → EReal)
    (hg : ∀ (k : Fin 2) (d : Fin 2816), Hg k d = paddedM G (entry t) (512 * (t.val % 4) + k.val) ⟨d.val, by omega⟩)
    (hv : ∀ (k : Fin 2) (d : Fin 2816), Hv k d = paddedM G (entry t) (512 * (t.val % 4) + k.val) ⟨2816 + d.val, by omega⟩)
    (r : Fin 512) (d : Fin 2816) :
    act (normT G t) (G.b6 t) (G.b7 t) (G.b8 t) (G.b9 t) (G.b10 t) (G.b11 t) Hg Hv r d
      = gatedM G (entry t) (token t r) d := by
  unfold act gatedM Ref.gated
  rw [half_line G t _ _ _ Hg d ⟨d.val, by omega⟩ (fun k => G.block6 t k d) (fun j => G.block8 t j d) (G.block10 t d) (fun k => hg k d),
    half_line G t _ _ _ Hv d ⟨2816 + d.val, by omega⟩ (fun k => G.block7 t k d) (fun j => G.block9 t j d) (G.block11 t d) (fun k => hv k d)]

/-- A tile's rows behind the feed-forward part are the whole prompt's. -/
theorem body_line (t : Fin cfg0.N) (Hg Hv : Fin 2 → Fin 2816 → EReal)
    (hg : ∀ (k : Fin 2) (d : Fin 2816), Hg k d = paddedM G (entry t) (512 * (t.val % 4) + k.val) ⟨d.val, by omega⟩)
    (hv : ∀ (k : Fin 2) (d : Fin 2816), Hv k d = paddedM G (entry t) (512 * (t.val % 4) + k.val) ⟨2816 + d.val, by omega⟩)
    (r : Fin 512) (e : Fin 1024) :
    body (mixT G t) (normT G t) (G.b6 t) (G.b7 t) (G.b8 t) (G.b9 t) (G.b10 t) (G.b11 t) (G.b12 t) Hg Hv r e
      = Ref.row G.a0 G.a1 G.a2 G.a3 G.a4 (Ref.tok (entry t) (token t r)) e
        + ∑ d : Fin 2816, gatedM G (entry t) (token t r) d * G.a9 (ix3 1 d e) := by
  unfold body
  rw [← line_eq]
  exact congrArg₂ (· + ·) (mix_line G t r e) (Finset.sum_congr rfl fun d _ =>
    congrArg₂ (· * ·) (act_line G t Hg Hv hg hv r d) (G.block12 t d e))

/-- The tile's output is the whole prompt's at its rows. -/
theorem tile_line (a10 : Vec Ideal S1024 .f32) (b15 : Vec Ideal S1x1024 .f32) (h15 : ∀ k : Fin 1024, b15 (ix2 0 k) = a10 (ix1 k))
    (t : Fin cfg0.N) (Hg Hv : Fin 2 → Fin 2816 → EReal)
    (hg : ∀ (k : Fin 2) (d : Fin 2816), Hg k d = paddedM G (entry t) (512 * (t.val % 4) + k.val) ⟨d.val, by omega⟩)
    (hv : ∀ (k : Fin 2) (d : Fin 2816), Hv k d = paddedM G (entry t) (512 * (t.val % 4) + k.val) ⟨2816 + d.val, by omega⟩)
    (r : Fin 512) (e : Fin 1024) :
    tile (mixT G t) (normT G t) (G.b6 t) (G.b7 t) (G.b8 t) (G.b9 t) (G.b10 t) (G.b11 t) (G.b12 t) b15 Hg Hv r e
      = Cert.Reference2Ideal.Read.val_main_v78 G.a0 G.a1 G.a2 G.a3 G.a4 G.a5 G.a6 G.a7 G.a8 G.a9 a10 (ix2 (line t r) e) := by
  rw [line_eq, Ref.v78_at]
  unfold tile
  exact congrArg₂ (fun x w => rms x w e) (funext fun e => body_line G t Hg Hv hg hv r e) (funext fun k => h15 k)

/-- What a tile leaves as history is the last two rows of its up projections. -/
theorem keep_line (t : Fin cfg0.N) (k : Fin 2) (D : Fin 5632) :
    keep (normT G t) (G.b6 t) (G.b7 t) (ix3 0 k D) = upsM G (line t ⟨510 + k.val, by omega⟩) D := by
  unfold keep
  by_cases h : D.val < 2816
  · refine (dif_pos h).trans ?_
    exact up_line G t _ ⟨D.val, h⟩ D (fun j => G.block6 t j ⟨D.val, h⟩) _
  · refine (dif_neg h).trans ?_
    refine up_line G t _ ⟨D.val - 2816, by omega⟩ D (fun j => (G.block7 t j ⟨D.val - 2816, by omega⟩).trans ?_) _
    exact congrArg (fun D => G.a6 (ix3 1 j D)) (Fin.ext (by show 2816 + (D.val - 2816) = D.val; omega))

/-- The history a tile finds after another of its batch entry. -/
theorem keep_before (t s : Fin cfg0.N) (hs : s.val + 1 = t.val) (h0 : ¬t.val % 4 = 0) (k : Fin 2) (D : Fin 5632) :
    keep (normT G s) (G.b6 s) (G.b7 s) (ix3 0 k D) = paddedM G (entry t) (512 * (t.val % 4) + k.val) D := by
  rw [keep_line, padded_tok G (entry t) _ ⟨512 * (t.val % 4) + k.val - 2, by omega⟩ (by show _ = 512 * (t.val % 4) + k.val - 2 + 2; omega)]
  exact congrArg (fun R => upsM G R D) (Fin.ext (by
    show 512 * s.val + (510 + k.val) = 2048 * (t.val / 4) + (512 * (t.val % 4) + k.val - 2)
    omega))

end Cert.Ffn

end
-- ==== Proof.Ffn.NormA.lean ====
/-
  A group's first grid point: its rows after the first norm.
-/
module

public import proofs.«01_k».proof.Proof.Ffn.Piece

@[expose] public section

set_option maxRecDepth 16384
set_option maxHeartbeats 400000

noncomputable section

namespace Cert.Ffn

open Idealize.ShloMosaic Idealize.ShloMosaic.TcCoe
open Cert.Kernel2Ideal Cert.Kernel2Ideal.Gen

/-- What is read back of the normed rows is what was stored of them. -/
theorem v33_A (c : Dev nD) (i : grid0.Coords) (arg3 : Memref sig .tc .vmem S512x1024 .f32) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x256 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1024x2816 .bf16) (harg9 : arg9.IsWhole) (arg10 : Memref sig .tc .vmem S1x1024x2816 .bf16) (harg10 : arg10.IsWhole) (arg11 : Memref sig .tc .vmem S1x3x2816 .f32) (harg11 : arg11.IsWhole) (arg12 : Memref sig .tc .vmem S1x3x2816 .f32) (harg12 : arg12.IsWhole) (arg13 : Memref sig .tc .vmem S1x1x2816 .f32) (harg13 : arg13.IsWhole) (arg14 : Memref sig .tc .vmem S1x1x2816 .f32) (harg14 : arg14.IsWhole) (arg15 : Memref sig .tc .vmem S1x2816x1024 .bf16) (harg15 : arg15.IsWhole) (arg16 : Memref sig .tc .vmem S1x2x2816 .f32) (harg16 : arg16.IsWhole) (arg17 : Memref sig .tc .vmem S1x2x2816 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x2x5632 .f32) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S8x1024 .f32) (harg23 : arg23.IsWhole) (arg24 : Memref sig .tc .vmem S512x2816 .bf16) (harg24 : arg24.IsWhole) (arg25 : Memref sig .tc .vmem S4x520x256 .f32) (harg25 : arg25.IsWhole) (hc0 : cond0_0 i)
    (x0 : Vec Ideal S512x1024 .f32) (x1 : Vec Ideal S512x384 .bf16) (x2 : Vec Ideal S512x384 .bf16) (x3 : Vec Ideal S512x256 .bf16) (x4 : Vec Ideal S1x1024x1024 .bf16) (x5 : Vec Ideal S1x1x1024 .f32) (x6 : Vec Ideal S1x1024x2816 .bf16) (x7 : Vec Ideal S1x1024x2816 .bf16) (x8 : Vec Ideal S1x3x2816 .f32) (x9 : Vec Ideal S1x3x2816 .f32) (x10 : Vec Ideal S1x1x2816 .f32) (x11 : Vec Ideal S1x1x2816 .f32) (x12 : Vec Ideal S1x2816x1024 .bf16) (x13 : Vec Ideal S1x2x2816 .f32) (x14 : Vec Ideal S1x2x2816 .f32) (x15 : Vec Ideal S1x1024 .f32)  :
    kernelRun0_A.sl.v33 (F := Ideal) c arg3 harg3 arg4 harg4 arg5 harg5 arg6 harg6 arg7 harg7 arg8 harg8 arg22 x0 x1 x2 x3 x4 x5 = k0_pay5 x0 x1 x2 x3 x4 x5 := by
  refine (View.readCov_unit_zero _ (by funext a; match a with | ⟨0, _⟩ => rfl | ⟨1, _⟩ => rfl) _ _).trans ?_
  unfold kernelRun0_A.sl.r
  rw [whole_at harg3 x0 _ (by decide), whole_at harg4 x1 _ (by decide), whole_at harg5 x2 _ (by decide), whole_at harg6 x3 _ (by decide),
    whole_at harg7 x4 _ (by decide), whole_at harg8 x5 _ (by decide)]
  unfold k0_pay6
  funext i
  obtain ⟨r, q, rfl⟩ : ∃ (r : Fin 512) (q : Fin 1024), i = ix2 r q := ⟨i 0, i 1, funext fun a => match a with
    | ⟨0, _⟩ => rfl
    | ⟨1, _⟩ => rfl⟩
  generalize k0_pay5 x0 x1 x2 x3 x4 x5 = Z
  pointwise

end Cert.Ffn

end
-- ==== Proof.Ffn.TileA.lean ====
/-
  A group's first grid point: what it leaves in the output block.
-/
module

public import proofs.«01_k».proof.Proof.Ffn.NormA

@[expose] public section

set_option maxRecDepth 16384
set_option maxHeartbeats 400000

noncomputable section

namespace Cert.Ffn

open Idealize.ShloMosaic Idealize.ShloMosaic.TcCoe
open Cert.Kernel2Ideal Cert.Kernel2Ideal.Gen

/-- The residual with the down projection is the tile before the last norm. -/
theorem downA (c : Dev nD) (i : grid0.Coords) (arg3 : Memref sig .tc .vmem S512x1024 .f32) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x256 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1024x2816 .bf16) (harg9 : arg9.IsWhole) (arg10 : Memref sig .tc .vmem S1x1024x2816 .bf16) (harg10 : arg10.IsWhole) (arg11 : Memref sig .tc .vmem S1x3x2816 .f32) (harg11 : arg11.IsWhole) (arg12 : Memref sig .tc .vmem S1x3x2816 .f32) (harg12 : arg12.IsWhole) (arg13 : Memref sig .tc .vmem S1x1x2816 .f32) (harg13 : arg13.IsWhole) (arg14 : Memref sig .tc .vmem S1x1x2816 .f32) (harg14 : arg14.IsWhole) (arg15 : Memref sig .tc .vmem S1x2816x1024 .bf16) (harg15 : arg15.IsWhole) (arg16 : Memref sig .tc .vmem S1x2x2816 .f32) (harg16 : arg16.IsWhole) (arg17 : Memref sig .tc .vmem S1x2x2816 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x2x5632 .f32) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S8x1024 .f32) (harg23 : arg23.IsWhole) (arg24 : Memref sig .tc .vmem S512x2816 .bf16) (harg24 : arg24.IsWhole) (arg25 : Memref sig .tc .vmem S4x520x256 .f32) (harg25 : arg25.IsWhole) (hc0 : cond0_0 i)
    (x0 : Vec Ideal S512x1024 .f32) (x1 : Vec Ideal S512x384 .bf16) (x2 : Vec Ideal S512x384 .bf16) (x3 : Vec Ideal S512x256 .bf16) (x4 : Vec Ideal S1x1024x1024 .bf16) (x5 : Vec Ideal S1x1x1024 .f32) (x6 : Vec Ideal S1x1024x2816 .bf16) (x7 : Vec Ideal S1x1024x2816 .bf16) (x8 : Vec Ideal S1x3x2816 .f32) (x9 : Vec Ideal S1x3x2816 .f32) (x10 : Vec Ideal S1x1x2816 .f32) (x11 : Vec Ideal S1x1x2816 .f32) (x12 : Vec Ideal S1x2816x1024 .bf16) (x13 : Vec Ideal S1x2x2816 .f32) (x14 : Vec Ideal S1x2x2816 .f32) (x15 : Vec Ideal S1x1024 .f32)  (r : Fin 512) (e : Fin 1024) :
    kernelRun0_A.sl.r_74 (F := Ideal) c arg3 harg3 arg4 harg4 arg5 harg5 arg6 harg6 arg7 harg7 arg8 harg8 arg9 harg9 arg10 harg10 arg11 harg11 arg12 harg12 arg13 harg13 arg14 harg14 arg15 harg15 arg16 harg16 arg17 harg17 arg20 arg21 arg22 arg24 arg25 x0 x1 x2 x3 x4 x5 x6 x7 x8 x9 x10 x11 x12 x13 x14 (ix2 r e)
      = body (k0_pay3 x0 x1 x2 x3 x4) (k0_pay5 x0 x1 x2 x3 x4 x5) x6 x7 x8 x9 x10 x11 x12
          (first x13) (first x14) r e := by
  have h33 := v33_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15
  unfold kernelRun0_A.sl.r_74 body
  refine (down_at _ _ _ r e).trans (congrArg₂ (· + ·) ?_ (Finset.sum_congr rfl fun d _ => congrArg₂ (· * ·) ?_ ?_))
  · refine (congrFun (View.readCov_unit_zero _ (by funext a; match a with | ⟨0, _⟩ => rfl | ⟨1, _⟩ => rfl) _ _) _).trans ?_
    rw [whole_at harg3 x0 _ (by decide), whole_at harg4 x1 _ (by decide), whole_at harg5 x2 _ (by decide), whole_at harg6 x3 _ (by decide),
      whole_at harg7 x4 _ (by decide)]
    unfold k0_pay4
    generalize k0_pay3 x0 x1 x2 x3 x4 = Z
    pointwise
  · rw [← h33, ← actV_at]
    refine (View.read_writes_apply_of_pieces (Val := Elt Ideal) arg24.view _ (actV _ x6 x7 x8 x9 x10 x11 (first x13) (first x14)) _ ?_ _ ?_).trans (congrArg (actV _ x6 x7 x8 x9 x10 x11 (first x13) (first x14)) ?_)
    · unfold kernelRun0_A.sl.HS3_11
      refine List.forall_mem_cons.2 ⟨?_, List.forall_mem_cons.2 ⟨?_, List.forall_mem_cons.2 ⟨?_, List.forall_mem_cons.2 ⟨?_, List.forall_mem_cons.2 ⟨?_,
        List.forall_mem_cons.2 ⟨?_, List.forall_mem_cons.2 ⟨?_, List.forall_mem_cons.2 ⟨?_, List.forall_mem_cons.2 ⟨?_, List.forall_mem_cons.2 ⟨?_,
        List.forall_mem_singleton.2 ?_⟩⟩⟩⟩⟩⟩⟩⟩⟩⟩
      all_goals
        intro x
        refine act_piece (ia := by decide) arg25.view harg9 harg10 harg11 harg12 harg13 harg14 (by decide) _ x6 x7 x8 x9 x10 x11 _ _ ?_ ?_ rfl x
      all_goals
        intro k q
        dsimp only [k0_pay8, kernelRun0_A.sl.v37, k0_pay16, kernelRun0_A.sl.r_6, k0_pay15, kernelRun0_A.sl.v82, k0_pay23, kernelRun0_A.sl.v134, k0_pay28,
          kernelRun0_A.sl.v179, k0_pay36, kernelRun0_A.sl.r_15, k0_pay35, kernelRun0_A.sl.v231, k0_pay43, kernelRun0_A.sl.v276, k0_pay50,
          kernelRun0_A.sl.v328, k0_pay58, kernelRun0_A.sl.r_26, k0_pay57, kernelRun0_A.sl.v373, k0_pay65, kernelRun0_A.sl.v425, k0_pay70,
          kernelRun0_A.sl.v470, k0_pay78, kernelRun0_A.sl.r_35, k0_pay77, kernelRun0_A.sl.v522, k0_pay85, kernelRun0_A.sl.v567, k0_pay92,
          kernelRun0_A.sl.v619, k0_pay100, kernelRun0_A.sl.r_46, k0_pay99, kernelRun0_A.sl.v664, k0_pay107, kernelRun0_A.sl.v716, k0_pay112,
          kernelRun0_A.sl.v761, k0_pay120, kernelRun0_A.sl.r_55, k0_pay119, kernelRun0_A.sl.v813, k0_pay127, kernelRun0_A.sl.v858, k0_pay134,
          kernelRun0_A.sl.v910, k0_pay142, kernelRun0_A.sl.r_66, k0_pay141, kernelRun0_A.sl.v955, k0_pay149, kernelRun0_A.sl.v1007, k0_pay154,
          kernelRun0_A.sl.v1052]
        refine (cast_rows _ k q).trans ?_
        repeat refine (halo_skip (by decide) k q).trans ?_
      iterate 11
        exact halo_first (by decide) (by decide) (first_gate harg16 _ _) k q
        exact halo_first (by decide) (by decide) (first_value harg17 _ _) k q
    · refine View.cover_of_tiled (s := S512x2816) _ S512x256.size ?_ _
      rfl
    · funext a
      refine Fin.ext ?_
      match a with
      | ⟨0, _⟩ => show 0 + 1 * r.val = r.val; omega
      | ⟨1, _⟩ => show 0 + 1 * d.val = d.val; omega
  · exact congrFun (whole_at harg15 x12 _ (by decide)) _

/-- The output block is the tile of the history blocks that the group starts from. -/
theorem outA16 (c : Dev nD) (i : grid0.Coords) (arg3 : Memref sig .tc .vmem S512x1024 .f32) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x256 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1024x2816 .bf16) (harg9 : arg9.IsWhole) (arg10 : Memref sig .tc .vmem S1x1024x2816 .bf16) (harg10 : arg10.IsWhole) (arg11 : Memref sig .tc .vmem S1x3x2816 .f32) (harg11 : arg11.IsWhole) (arg12 : Memref sig .tc .vmem S1x3x2816 .f32) (harg12 : arg12.IsWhole) (arg13 : Memref sig .tc .vmem S1x1x2816 .f32) (harg13 : arg13.IsWhole) (arg14 : Memref sig .tc .vmem S1x1x2816 .f32) (harg14 : arg14.IsWhole) (arg15 : Memref sig .tc .vmem S1x2816x1024 .bf16) (harg15 : arg15.IsWhole) (arg16 : Memref sig .tc .vmem S1x2x2816 .f32) (harg16 : arg16.IsWhole) (arg17 : Memref sig .tc .vmem S1x2x2816 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x2x5632 .f32) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S8x1024 .f32) (harg23 : arg23.IsWhole) (arg24 : Memref sig .tc .vmem S512x2816 .bf16) (harg24 : arg24.IsWhole) (arg25 : Memref sig .tc .vmem S4x520x256 .f32) (harg25 : arg25.IsWhole) (hc0 : cond0_0 i)
    (x0 : Vec Ideal S512x1024 .f32) (x1 : Vec Ideal S512x384 .bf16) (x2 : Vec Ideal S512x384 .bf16) (x3 : Vec Ideal S512x256 .bf16) (x4 : Vec Ideal S1x1024x1024 .bf16) (x5 : Vec Ideal S1x1x1024 .f32) (x6 : Vec Ideal S1x1024x2816 .bf16) (x7 : Vec Ideal S1x1024x2816 .bf16) (x8 : Vec Ideal S1x3x2816 .f32) (x9 : Vec Ideal S1x3x2816 .f32) (x10 : Vec Ideal S1x1x2816 .f32) (x11 : Vec Ideal S1x1x2816 .f32) (x12 : Vec Ideal S1x2816x1024 .bf16) (x13 : Vec Ideal S1x2x2816 .f32) (x14 : Vec Ideal S1x2x2816 .f32) (x15 : Vec Ideal S1x1024 .f32)  (r : Fin 512) (e : Fin 1024) :
    (out0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 : S512x1024.Idx → EReal) (ix2 r e)
      = tile (k0_pay3 x0 x1 x2 x3 x4) (k0_pay5 x0 x1 x2 x3 x4 x5) x6 x7 x8 x9 x10 x11 x12 x15
          (first x13) (first x14) r e := by
  unfold out0_A_16 kernelRun0_A
  dsimp only
  obtain ⟨G, hG⟩ : ∃ G : S512x1024.Idx → EReal, ∀ r e, G (ix2 r e) = tile (k0_pay3 x0 x1 x2 x3 x4) (k0_pay5 x0 x1 x2 x3 x4 x5) x6 x7 x8 x9 x10 x11 x12 x15
          (first x13) (first x14) r e :=
    ⟨fun y => tile (k0_pay3 x0 x1 x2 x3 x4) (k0_pay5 x0 x1 x2 x3 x4 x5) x6 x7 x8 x9 x10 x11 x12 x15
          (first x13) (first x14) (y 0) (y 1), fun _ _ => rfl⟩
  rw [← hG]
  refine (View.read_writes_apply_of_pieces (Val := Elt Ideal) VO0_16 _ G _ ?_ (ix2 r e) ?_)
  case refine_2 => exact View.cover_of_tiled _ S512x1024.size rfl _
  refine List.forall_mem_singleton.2 fun y => ?_
  obtain ⟨r, e, rfl⟩ : ∃ (r : Fin 512) (e : Fin 1024), y = ix2 r e := ⟨y 0, y 1, funext fun a => match a with
    | ⟨0, _⟩ => rfl
    | ⟨1, _⟩ => rfl⟩
  have he : (Rect.unit (s := S512x1024) ![0, 0] ![512, 1024] inb_S512x1024_S512x1024_0_0).emb (ix2 r e) = ix2 r e := funext fun a => Fin.ext (match a with
    | ⟨0, _⟩ => show 0 + 1 * r.val = r.val by omega
    | ⟨1, _⟩ => show 0 + 1 * e.val = e.val by omega)
  refine Eq.trans ?_ ((congrArg G he).trans (hG r e)).symm
  refine (last_at _ _ r e).trans ?_
  unfold tile
  congr 1
  · funext e
    exact downA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 r e
  · funext k
    exact congrFun (whole_at harg18 x15 _ (by decide)) _

end Cert.Ffn

end
-- ==== Proof.Ffn.TileB.lean ====
/-
  One grid point after a group's first: what it leaves in the output block.
-/
module

public import proofs.«01_k».proof.Proof.Ffn.Piece

@[expose] public section

set_option maxRecDepth 16384
set_option maxHeartbeats 400000

noncomputable section

namespace Cert.Ffn

open Idealize.ShloMosaic Idealize.ShloMosaic.TcCoe
open Cert.Kernel2Ideal Cert.Kernel2Ideal.Gen

/-- What is read back of the normed rows is what was stored of them. -/
theorem v33_B (c : Dev nD) (i : grid0.Coords) (arg3 : Memref sig .tc .vmem S512x1024 .f32) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x256 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1024x2816 .bf16) (harg9 : arg9.IsWhole) (arg10 : Memref sig .tc .vmem S1x1024x2816 .bf16) (harg10 : arg10.IsWhole) (arg11 : Memref sig .tc .vmem S1x3x2816 .f32) (harg11 : arg11.IsWhole) (arg12 : Memref sig .tc .vmem S1x3x2816 .f32) (harg12 : arg12.IsWhole) (arg13 : Memref sig .tc .vmem S1x1x2816 .f32) (harg13 : arg13.IsWhole) (arg14 : Memref sig .tc .vmem S1x1x2816 .f32) (harg14 : arg14.IsWhole) (arg15 : Memref sig .tc .vmem S1x2816x1024 .bf16) (harg15 : arg15.IsWhole) (arg16 : Memref sig .tc .vmem S1x2x2816 .f32) (harg16 : arg16.IsWhole) (arg17 : Memref sig .tc .vmem S1x2x2816 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x2x5632 .f32) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S8x1024 .f32) (harg23 : arg23.IsWhole) (arg24 : Memref sig .tc .vmem S512x2816 .bf16) (harg24 : arg24.IsWhole) (arg25 : Memref sig .tc .vmem S4x520x256 .f32) (harg25 : arg25.IsWhole) (hc0 : ¬cond0_0 i)
    (x0 : Vec Ideal S512x1024 .f32) (x1 : Vec Ideal S512x384 .bf16) (x2 : Vec Ideal S512x384 .bf16) (x3 : Vec Ideal S512x256 .bf16) (x4 : Vec Ideal S1x1024x1024 .bf16) (x5 : Vec Ideal S1x1x1024 .f32) (x6 : Vec Ideal S1x1024x2816 .bf16) (x7 : Vec Ideal S1x1024x2816 .bf16) (x8 : Vec Ideal S1x3x2816 .f32) (x9 : Vec Ideal S1x3x2816 .f32) (x10 : Vec Ideal S1x1x2816 .f32) (x11 : Vec Ideal S1x1x2816 .f32) (x12 : Vec Ideal S1x2816x1024 .bf16) (x13 : Vec Ideal S1x2x2816 .f32) (x14 : Vec Ideal S1x2x2816 .f32) (x15 : Vec Ideal S1x1024 .f32) (xo17 : Vec Ideal S1x2x5632 .f32) :
    kernelRun0_B.sl.v33 (F := Ideal) c arg3 harg3 arg4 harg4 arg5 harg5 arg6 harg6 arg7 harg7 arg8 harg8 arg22 x0 x1 x2 x3 x4 x5 = k0_pay5 x0 x1 x2 x3 x4 x5 := by
  refine (View.readCov_unit_zero _ (by funext a; match a with | ⟨0, _⟩ => rfl | ⟨1, _⟩ => rfl) _ _).trans ?_
  unfold kernelRun0_B.sl.r
  rw [whole_at harg3 x0 _ (by decide), whole_at harg4 x1 _ (by decide), whole_at harg5 x2 _ (by decide), whole_at harg6 x3 _ (by decide),
    whole_at harg7 x4 _ (by decide), whole_at harg8 x5 _ (by decide)]
  unfold k0_pay6
  funext i
  obtain ⟨r, q, rfl⟩ : ∃ (r : Fin 512) (q : Fin 1024), i = ix2 r q := ⟨i 0, i 1, funext fun a => match a with
    | ⟨0, _⟩ => rfl
    | ⟨1, _⟩ => rfl⟩
  generalize k0_pay5 x0 x1 x2 x3 x4 x5 = Z
  pointwise

/-- The residual with the down projection is the tile before the last norm. -/
theorem downB (c : Dev nD) (i : grid0.Coords) (arg3 : Memref sig .tc .vmem S512x1024 .f32) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x256 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1024x2816 .bf16) (harg9 : arg9.IsWhole) (arg10 : Memref sig .tc .vmem S1x1024x2816 .bf16) (harg10 : arg10.IsWhole) (arg11 : Memref sig .tc .vmem S1x3x2816 .f32) (harg11 : arg11.IsWhole) (arg12 : Memref sig .tc .vmem S1x3x2816 .f32) (harg12 : arg12.IsWhole) (arg13 : Memref sig .tc .vmem S1x1x2816 .f32) (harg13 : arg13.IsWhole) (arg14 : Memref sig .tc .vmem S1x1x2816 .f32) (harg14 : arg14.IsWhole) (arg15 : Memref sig .tc .vmem S1x2816x1024 .bf16) (harg15 : arg15.IsWhole) (arg16 : Memref sig .tc .vmem S1x2x2816 .f32) (harg16 : arg16.IsWhole) (arg17 : Memref sig .tc .vmem S1x2x2816 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x2x5632 .f32) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S8x1024 .f32) (harg23 : arg23.IsWhole) (arg24 : Memref sig .tc .vmem S512x2816 .bf16) (harg24 : arg24.IsWhole) (arg25 : Memref sig .tc .vmem S4x520x256 .f32) (harg25 : arg25.IsWhole) (hc0 : ¬cond0_0 i)
    (x0 : Vec Ideal S512x1024 .f32) (x1 : Vec Ideal S512x384 .bf16) (x2 : Vec Ideal S512x384 .bf16) (x3 : Vec Ideal S512x256 .bf16) (x4 : Vec Ideal S1x1024x1024 .bf16) (x5 : Vec Ideal S1x1x1024 .f32) (x6 : Vec Ideal S1x1024x2816 .bf16) (x7 : Vec Ideal S1x1024x2816 .bf16) (x8 : Vec Ideal S1x3x2816 .f32) (x9 : Vec Ideal S1x3x2816 .f32) (x10 : Vec Ideal S1x1x2816 .f32) (x11 : Vec Ideal S1x1x2816 .f32) (x12 : Vec Ideal S1x2816x1024 .bf16) (x13 : Vec Ideal S1x2x2816 .f32) (x14 : Vec Ideal S1x2x2816 .f32) (x15 : Vec Ideal S1x1024 .f32) (xo17 : Vec Ideal S1x2x5632 .f32) (r : Fin 512) (e : Fin 1024) :
    kernelRun0_B.sl.r_74 (F := Ideal) c arg3 harg3 arg4 harg4 arg5 harg5 arg6 harg6 arg7 harg7 arg8 harg8 arg9 harg9 arg10 harg10 arg11 harg11 arg12 harg12 arg13 harg13 arg14 harg14 arg15 harg15 arg20 harg20 arg21 arg22 arg24 arg25 x0 x1 x2 x3 x4 x5 x6 x7 x8 x9 x10 x11 x12 xo17 (ix2 r e)
      = body (k0_pay3 x0 x1 x2 x3 x4) (k0_pay5 x0 x1 x2 x3 x4 x5) x6 x7 x8 x9 x10 x11 x12
          (hist xo17 0 (by omega)) (hist xo17 2816 (by omega)) r e := by
  have h33 := v33_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xo17
  unfold kernelRun0_B.sl.r_74 body
  refine (down_at _ _ _ r e).trans (congrArg₂ (· + ·) ?_ (Finset.sum_congr rfl fun d _ => congrArg₂ (· * ·) ?_ ?_))
  · refine (congrFun (View.readCov_unit_zero _ (by funext a; match a with | ⟨0, _⟩ => rfl | ⟨1, _⟩ => rfl) _ _) _).trans ?_
    rw [whole_at harg3 x0 _ (by decide), whole_at harg4 x1 _ (by decide), whole_at harg5 x2 _ (by decide), whole_at harg6 x3 _ (by decide),
      whole_at harg7 x4 _ (by decide)]
    unfold k0_pay4
    generalize k0_pay3 x0 x1 x2 x3 x4 = Z
    pointwise
  · rw [← h33, ← actV_at]
    refine (View.read_writes_apply_of_pieces (Val := Elt Ideal) arg24.view _ (actV _ x6 x7 x8 x9 x10 x11 (hist xo17 0 (by omega)) (hist xo17 2816 (by omega))) _ ?_ _ ?_).trans (congrArg (actV _ x6 x7 x8 x9 x10 x11 (hist xo17 0 (by omega)) (hist xo17 2816 (by omega))) ?_)
    · unfold kernelRun0_B.sl.HS3_11
      refine List.forall_mem_cons.2 ⟨?_, List.forall_mem_cons.2 ⟨?_, List.forall_mem_cons.2 ⟨?_, List.forall_mem_cons.2 ⟨?_, List.forall_mem_cons.2 ⟨?_,
        List.forall_mem_cons.2 ⟨?_, List.forall_mem_cons.2 ⟨?_, List.forall_mem_cons.2 ⟨?_, List.forall_mem_cons.2 ⟨?_, List.forall_mem_cons.2 ⟨?_,
        List.forall_mem_singleton.2 ?_⟩⟩⟩⟩⟩⟩⟩⟩⟩⟩
      all_goals
        intro x
        refine act_piece (ia := by decide) arg25.view harg9 harg10 harg11 harg12 harg13 harg14 (by decide) _ x6 x7 x8 x9 x10 x11 _ _ ?_ ?_ rfl x
      all_goals
        intro k q
        refine Eq.symm ?_
        exact halo_rows harg20 xo17 k q
    · refine View.cover_of_tiled (s := S512x2816) _ S512x256.size ?_ _
      rfl
    · funext a
      refine Fin.ext ?_
      match a with
      | ⟨0, _⟩ => show 0 + 1 * r.val = r.val; omega
      | ⟨1, _⟩ => show 0 + 1 * d.val = d.val; omega
  · exact congrFun (whole_at harg15 x12 _ (by decide)) _

/-- The output block is the tile of the history that the grid point before has left. -/
theorem outB16 (c : Dev nD) (i : grid0.Coords) (arg3 : Memref sig .tc .vmem S512x1024 .f32) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x256 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1024x2816 .bf16) (harg9 : arg9.IsWhole) (arg10 : Memref sig .tc .vmem S1x1024x2816 .bf16) (harg10 : arg10.IsWhole) (arg11 : Memref sig .tc .vmem S1x3x2816 .f32) (harg11 : arg11.IsWhole) (arg12 : Memref sig .tc .vmem S1x3x2816 .f32) (harg12 : arg12.IsWhole) (arg13 : Memref sig .tc .vmem S1x1x2816 .f32) (harg13 : arg13.IsWhole) (arg14 : Memref sig .tc .vmem S1x1x2816 .f32) (harg14 : arg14.IsWhole) (arg15 : Memref sig .tc .vmem S1x2816x1024 .bf16) (harg15 : arg15.IsWhole) (arg16 : Memref sig .tc .vmem S1x2x2816 .f32) (harg16 : arg16.IsWhole) (arg17 : Memref sig .tc .vmem S1x2x2816 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x2x5632 .f32) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S8x1024 .f32) (harg23 : arg23.IsWhole) (arg24 : Memref sig .tc .vmem S512x2816 .bf16) (harg24 : arg24.IsWhole) (arg25 : Memref sig .tc .vmem S4x520x256 .f32) (harg25 : arg25.IsWhole) (hc0 : ¬cond0_0 i)
    (x0 : Vec Ideal S512x1024 .f32) (x1 : Vec Ideal S512x384 .bf16) (x2 : Vec Ideal S512x384 .bf16) (x3 : Vec Ideal S512x256 .bf16) (x4 : Vec Ideal S1x1024x1024 .bf16) (x5 : Vec Ideal S1x1x1024 .f32) (x6 : Vec Ideal S1x1024x2816 .bf16) (x7 : Vec Ideal S1x1024x2816 .bf16) (x8 : Vec Ideal S1x3x2816 .f32) (x9 : Vec Ideal S1x3x2816 .f32) (x10 : Vec Ideal S1x1x2816 .f32) (x11 : Vec Ideal S1x1x2816 .f32) (x12 : Vec Ideal S1x2816x1024 .bf16) (x13 : Vec Ideal S1x2x2816 .f32) (x14 : Vec Ideal S1x2x2816 .f32) (x15 : Vec Ideal S1x1024 .f32) (xo17 : Vec Ideal S1x2x5632 .f32) (r : Fin 512) (e : Fin 1024) :
    (out0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xo17 : S512x1024.Idx → EReal) (ix2 r e)
      = tile (k0_pay3 x0 x1 x2 x3 x4) (k0_pay5 x0 x1 x2 x3 x4 x5) x6 x7 x8 x9 x10 x11 x12 x15
          (hist xo17 0 (by omega)) (hist xo17 2816 (by omega)) r e := by
  unfold out0_B_16 kernelRun0_B
  dsimp only
  obtain ⟨G, hG⟩ : ∃ G : S512x1024.Idx → EReal, ∀ r e, G (ix2 r e) = tile (k0_pay3 x0 x1 x2 x3 x4) (k0_pay5 x0 x1 x2 x3 x4 x5) x6 x7 x8 x9 x10 x11 x12 x15
          (hist xo17 0 (by omega)) (hist xo17 2816 (by omega)) r e :=
    ⟨fun y => tile (k0_pay3 x0 x1 x2 x3 x4) (k0_pay5 x0 x1 x2 x3 x4 x5) x6 x7 x8 x9 x10 x11 x12 x15
          (hist xo17 0 (by omega)) (hist xo17 2816 (by omega)) (y 0) (y 1), fun _ _ => rfl⟩
  rw [← hG]
  refine (View.read_writes_apply_of_pieces (Val := Elt Ideal) VO0_16 _ G _ ?_ (ix2 r e) ?_)
  case refine_2 => exact View.cover_of_tiled _ S512x1024.size rfl _
  refine List.forall_mem_singleton.2 fun y => ?_
  obtain ⟨r, e, rfl⟩ : ∃ (r : Fin 512) (e : Fin 1024), y = ix2 r e := ⟨y 0, y 1, funext fun a => match a with
    | ⟨0, _⟩ => rfl
    | ⟨1, _⟩ => rfl⟩
  have he : (Rect.unit (s := S512x1024) ![0, 0] ![512, 1024] inb_S512x1024_S512x1024_0_0).emb (ix2 r e) = ix2 r e := funext fun a => Fin.ext (match a with
    | ⟨0, _⟩ => show 0 + 1 * r.val = r.val by omega
    | ⟨1, _⟩ => show 0 + 1 * e.val = e.val by omega)
  refine Eq.trans ?_ ((congrArg G he).trans (hG r e)).symm
  refine (last_at _ _ r e).trans ?_
  unfold tile
  congr 1
  · funext e
    exact downB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xo17 r e
  · funext k
    exact congrFun (whole_at harg18 x15 _ (by decide)) _

end Cert.Ffn

end
-- ==== Proof.Ffn.KeepA.lean ====
/-
  A group's first grid point: what it leaves in the history block.
-/
module

public import proofs.«01_k».proof.Proof.Ffn.NormA

@[expose] public section

set_option maxRecDepth 16384
set_option maxHeartbeats 400000

noncomputable section

namespace Cert.Ffn

open Idealize.ShloMosaic Idealize.ShloMosaic.TcCoe
open Cert.Kernel2Ideal Cert.Kernel2Ideal.Gen

/-- The history block holds the last two rows of the up projection. -/
theorem outA17 (c : Dev nD) (i : grid0.Coords) (arg3 : Memref sig .tc .vmem S512x1024 .f32) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x256 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1024x2816 .bf16) (harg9 : arg9.IsWhole) (arg10 : Memref sig .tc .vmem S1x1024x2816 .bf16) (harg10 : arg10.IsWhole) (arg11 : Memref sig .tc .vmem S1x3x2816 .f32) (harg11 : arg11.IsWhole) (arg12 : Memref sig .tc .vmem S1x3x2816 .f32) (harg12 : arg12.IsWhole) (arg13 : Memref sig .tc .vmem S1x1x2816 .f32) (harg13 : arg13.IsWhole) (arg14 : Memref sig .tc .vmem S1x1x2816 .f32) (harg14 : arg14.IsWhole) (arg15 : Memref sig .tc .vmem S1x2816x1024 .bf16) (harg15 : arg15.IsWhole) (arg16 : Memref sig .tc .vmem S1x2x2816 .f32) (harg16 : arg16.IsWhole) (arg17 : Memref sig .tc .vmem S1x2x2816 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x2x5632 .f32) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S8x1024 .f32) (harg23 : arg23.IsWhole) (arg24 : Memref sig .tc .vmem S512x2816 .bf16) (harg24 : arg24.IsWhole) (arg25 : Memref sig .tc .vmem S4x520x256 .f32) (harg25 : arg25.IsWhole) (hc0 : cond0_0 i)
    (x0 : Vec Ideal S512x1024 .f32) (x1 : Vec Ideal S512x384 .bf16) (x2 : Vec Ideal S512x384 .bf16) (x3 : Vec Ideal S512x256 .bf16) (x4 : Vec Ideal S1x1024x1024 .bf16) (x5 : Vec Ideal S1x1x1024 .f32) (x6 : Vec Ideal S1x1024x2816 .bf16) (x7 : Vec Ideal S1x1024x2816 .bf16) (x8 : Vec Ideal S1x3x2816 .f32) (x9 : Vec Ideal S1x3x2816 .f32) (x10 : Vec Ideal S1x1x2816 .f32) (x11 : Vec Ideal S1x1x2816 .f32) (x12 : Vec Ideal S1x2816x1024 .bf16) (x13 : Vec Ideal S1x2x2816 .f32) (x14 : Vec Ideal S1x2x2816 .f32) (x15 : Vec Ideal S1x1024 .f32)  (y : S1x2x5632.Idx) :
    (out0_A_17 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 : S1x2x5632.Idx → EReal) y = keep (k0_pay5 x0 x1 x2 x3 x4 x5) x6 x7 y := by
  have h33 := v33_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15
  have hy : (y 2).val < 5632 := (y 2).isLt
  unfold out0_A_17 kernelRun0_A
  dsimp only
  rw [← h33]
  iterate 11
    refine keep_step arg25.view harg10 (by decide) (by decide) (by decide) (by decide) (keep_value _ x6 x7) rfl y fun _ => ?_
    refine keep_step arg25.view harg9 (by decide) (by decide) (by decide) (by decide) (keep_gate _ x6 x7) rfl y fun _ => ?_
  have hj : (y 2).val / 256 < 22 := by omega
  generalize (y 2).val / 256 = j at *
  interval_cases j <;> contradiction

end Cert.Ffn

end
-- ==== Proof.Ffn.KeepB.lean ====
/-
  One grid point after a group's first: what it leaves in the history block.
-/
module

public import proofs.«01_k».proof.Proof.Ffn.TileB

@[expose] public section

set_option maxRecDepth 16384
set_option maxHeartbeats 400000

noncomputable section

namespace Cert.Ffn

open Idealize.ShloMosaic Idealize.ShloMosaic.TcCoe
open Cert.Kernel2Ideal Cert.Kernel2Ideal.Gen

/-- The history block holds the last two rows of the up projection. -/
theorem outB17 (c : Dev nD) (i : grid0.Coords) (arg3 : Memref sig .tc .vmem S512x1024 .f32) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x256 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1024x2816 .bf16) (harg9 : arg9.IsWhole) (arg10 : Memref sig .tc .vmem S1x1024x2816 .bf16) (harg10 : arg10.IsWhole) (arg11 : Memref sig .tc .vmem S1x3x2816 .f32) (harg11 : arg11.IsWhole) (arg12 : Memref sig .tc .vmem S1x3x2816 .f32) (harg12 : arg12.IsWhole) (arg13 : Memref sig .tc .vmem S1x1x2816 .f32) (harg13 : arg13.IsWhole) (arg14 : Memref sig .tc .vmem S1x1x2816 .f32) (harg14 : arg14.IsWhole) (arg15 : Memref sig .tc .vmem S1x2816x1024 .bf16) (harg15 : arg15.IsWhole) (arg16 : Memref sig .tc .vmem S1x2x2816 .f32) (harg16 : arg16.IsWhole) (arg17 : Memref sig .tc .vmem S1x2x2816 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x2x5632 .f32) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S8x1024 .f32) (harg23 : arg23.IsWhole) (arg24 : Memref sig .tc .vmem S512x2816 .bf16) (harg24 : arg24.IsWhole) (arg25 : Memref sig .tc .vmem S4x520x256 .f32) (harg25 : arg25.IsWhole) (hc0 : ¬cond0_0 i)
    (x0 : Vec Ideal S512x1024 .f32) (x1 : Vec Ideal S512x384 .bf16) (x2 : Vec Ideal S512x384 .bf16) (x3 : Vec Ideal S512x256 .bf16) (x4 : Vec Ideal S1x1024x1024 .bf16) (x5 : Vec Ideal S1x1x1024 .f32) (x6 : Vec Ideal S1x1024x2816 .bf16) (x7 : Vec Ideal S1x1024x2816 .bf16) (x8 : Vec Ideal S1x3x2816 .f32) (x9 : Vec Ideal S1x3x2816 .f32) (x10 : Vec Ideal S1x1x2816 .f32) (x11 : Vec Ideal S1x1x2816 .f32) (x12 : Vec Ideal S1x2816x1024 .bf16) (x13 : Vec Ideal S1x2x2816 .f32) (x14 : Vec Ideal S1x2x2816 .f32) (x15 : Vec Ideal S1x1024 .f32) (xo17 : Vec Ideal S1x2x5632 .f32) (y : S1x2x5632.Idx) :
    (out0_B_17 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xo17 : S1x2x5632.Idx → EReal) y = keep (k0_pay5 x0 x1 x2 x3 x4 x5) x6 x7 y := by
  have h33 := v33_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xo17
  have hy : (y 2).val < 5632 := (y 2).isLt
  unfold out0_B_17 kernelRun0_B
  dsimp only
  rw [← h33]
  iterate 11
    refine keep_step arg25.view harg10 (by decide) (by decide) (by decide) (by decide) (keep_value _ x6 x7) rfl y fun _ => ?_
    refine keep_step arg25.view harg9 (by decide) (by decide) (by decide) (by decide) (keep_gate _ x6 x7) rfl y fun _ => ?_
  have hj : (y 2).val / 256 < 22 := by omega
  generalize (y 2).val / 256 = j at *
  interval_cases j <;> contradiction

end Cert.Ffn

end
-- ==== Proof.Ffn.Final.lean ====
/-
  The two result arrays of the launch: every element is the reference's.
-/
module

public import proofs.«01_k».proof.Proof.Ffn.Grid
public import proofs.«01_k».proof.Proof.Ffn.TileA
public import proofs.«01_k».proof.Proof.Ffn.TileB
public import proofs.«01_k».proof.Proof.Ffn.KeepA
public import proofs.«01_k».proof.Proof.Ffn.KeepB

@[expose] public section

set_option maxRecDepth 16384

noncomputable section

namespace Cert.Ffn

open Cert.Kernel2Ideal Cert.Kernel2Ideal.Gen
open Idealize.ShloMosaic Idealize.ShloMosaic.TcCoe Idealize.ShloMosaic.Tactic

variable (m : (ℓ : Loc nD τ Cert.Kernel2Ideal.sig) → Buf (Elt Ideal) ℓ) (c : Dev nD)

/-- The launch's arguments and blocks. -/
def given : Given where
  a0 := a0 m c
  a1 := a1 m c
  a2 := a2 m c
  a3 := a3 m c
  a4 := a4 m c
  a5 := a5 m c
  a6 := a6 m c
  a7 := a7 m c
  a8 := a8 m c
  a9 := a9 m c
  b0 := fun t => iblk m c 0 t
  b1 := fun t => iblk m c 1 t
  b2 := fun t => iblk m c 2 t
  b3 := fun t => iblk m c 3 t
  b4 := fun t => iblk m c 4 t
  b5 := fun t => iblk m c 5 t
  b6 := fun t => iblk m c 6 t
  b7 := fun t => iblk m c 7 t
  b8 := fun t => iblk m c 8 t
  b9 := fun t => iblk m c 9 t
  b10 := fun t => iblk m c 10 t
  b11 := fun t => iblk m c 11 t
  b12 := fun t => iblk m c 12 t
  block0 := block0 m c
  block1 := block1 m c
  block2 := block2 m c
  block3 := block3 m c
  block4 := block4 m c
  block5 := block5 m c
  block6 := block6 m c
  block7 := block7 m c
  block8 := block8 m c
  block9 := block9 m c
  block10 := block10 m c
  block11 := block11 m c
  block12 := block12 m c

/-- The tile's output at the launch's blocks. -/
theorem tile_given (t : Fin cfg0.N) (Hg Hv : Fin 2 → Fin 2816 → EReal)
    (hg : ∀ (k : Fin 2) (d : Fin 2816), Hg k d = paddedM (given m c) (entry t) (512 * (t.val % 4) + k.val) ⟨d.val, by omega⟩)
    (hv : ∀ (k : Fin 2) (d : Fin 2816), Hv k d = paddedM (given m c) (entry t) (512 * (t.val % 4) + k.val) ⟨2816 + d.val, by omega⟩)
    (r : Fin 512) (e : Fin 1024) :
    tile (k0_pay3 (iblk m c 0 t) (iblk m c 1 t) (iblk m c 2 t) (iblk m c 3 t) (iblk m c 4 t))
        (k0_pay5 (iblk m c 0 t) (iblk m c 1 t) (iblk m c 2 t) (iblk m c 3 t) (iblk m c 4 t) (iblk m c 5 t))
        (iblk m c 6 t) (iblk m c 7 t) (iblk m c 8 t) (iblk m c 9 t) (iblk m c 10 t) (iblk m c 11 t) (iblk m c 12 t) (iblk m c 15 t) Hg Hv r e
      = Cert.Reference2Ideal.Read.val_main_v78 (a0 m c) (a1 m c) (a2 m c) (a3 m c) (a4 m c) (a5 m c) (a6 m c) (a7 m c) (a8 m c) (a9 m c) (a10 m c)
          (ix2 (line t r) e) :=
  tile_line (given m c) (a10 m c) (iblk m c 15 t) (block15 m c t) t Hg Hv hg hv r e

/-- Every tile leaves the last two rows of its up projections. -/
theorem history (t : Fin cfg0.N) (y : S1x2x5632.Idx) :
    (outsAt0 m c t.val t.isLt).2 y = keep (normT (given m c) t) (iblk m c 6 t) (iblk m c 7 t) y := by
  by_cases h0 : t.val % 4 = 0
  · have h := outA17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) ((hcond0_0 t).mpr h0)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y
    have h1 := congrFun (congrArg Prod.snd (outsAt0_A m c t h0)) y
    dsimp only at h1
    exact (h1.trans h).trans rfl
  · have h := outB17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2 y
    have h1 := congrFun (congrArg Prod.snd (outsAt0_B m c t h0)) y
    dsimp only at h1
    exact (h1.trans h).trans rfl

/-- Every tile's output is the reference's. -/
theorem output (t : Fin cfg0.N) (r : Fin 512) (e : Fin 1024) :
    (outsAt0 m c t.val t.isLt).1 (ix2 r e)
      = Cert.Reference2Ideal.Read.val_main_v78 (a0 m c) (a1 m c) (a2 m c) (a3 m c) (a4 m c) (a5 m c) (a6 m c) (a7 m c) (a8 m c) (a9 m c) (a10 m c)
          (ix2 (line t r) e) := by
  by_cases h0 : t.val % 4 = 0
  · have h := outA16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) ((hcond0_0 t).mpr h0)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r e
    have h1 := congrFun (congrArg Prod.fst (outsAt0_A m c t h0)) (ix2 r e)
    dsimp only at h1
    refine (h1.trans h).trans ?_
    refine tile_given m c t _ _ (fun k d => ?_) (fun k d => ?_) r e
    · exact (block13 m c t _).trans (padded_zero (given m c) _ _ (by omega) _).symm
    · exact (block14 m c t _).trans (padded_zero (given m c) _ _ (by omega) _).symm
  · have h := outB16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2 r e
    have h1 := congrFun (congrArg Prod.fst (outsAt0_B m c t h0)) (ix2 r e)
    dsimp only at h1
    refine (h1.trans h).trans ?_
    have ht : t.val < 32 := t.isLt
    have hs : (⟨t.val - 1, Nat.lt_of_le_of_lt (Nat.sub_le _ _) t.isLt⟩ : Fin cfg0.N).val + 1 = t.val := by
      show t.val - 1 + 1 = t.val
      omega
    have hk : ∀ (k : Fin 2) (D : Fin 5632), (outsAt0 m c (t.val - 1) (Nat.lt_of_le_of_lt (Nat.sub_le _ _) t.isLt)).2 (ix3 0 k D)
        = paddedM (given m c) (entry t) (512 * (t.val % 4) + k.val) D := fun k D =>
      (history m c ⟨t.val - 1, Nat.lt_of_le_of_lt (Nat.sub_le _ _) t.isLt⟩ (ix3 0 k D)).trans (keep_before (given m c) t _ hs h0 k D)
    refine tile_given m c t _ _ (fun k d => ?_) (fun k d => hk k _) r e
    exact (hk k _).trans (congrArg (paddedM (given m c) _ _) (Fin.ext (Nat.zero_add _)))

theorem covers16 : (cfg0.win 16).Covers := by decide +kernel
theorem covers17 : (cfg0.win 17).Covers := by decide +kernel
theorem flush17 : ∀ t : Fin cfg0.N, (cfg0.win 17).flush t = true → t.val % 4 = 3 :=
  (by decide +kernel : ∀ t : Fin grid0.N, (cfg0.win 17).flush t = true → t.val % 4 = 3)

/-- The first result array is the reference's. -/
theorem final16 : (dats m 0 c).arrAt 16 cfg0.N = Cert.Reference2Ideal.Read.val_main_v78 (a0 m c) (a1 m c) (a2 m c) (a3 m c) (a4 m c) (a5 m c) (a6 m c)
    (a7 m c) (a8 m c) (a9 m c) (a10 m c) := by
  refine (dats m 0 c).arrAt_eq_of_covers 16 _ covers16 fun t hf y => ?_
  blk_simp
  rw [after0_16]
  obtain ⟨r, e, rfl⟩ : ∃ (r : Fin 512) (e : Fin 1024), y = ix2 r e := ⟨y 0, y 1, Ref.at_eq fun a => match a with
    | ⟨0, _⟩ => rfl
    | ⟨1, _⟩ => rfl⟩
  have h : (win0_16.blk t).view.emb (ix2 r e) = ix2 (line t r) e := by
    refine Ref.at_eq fun a => ?_
    match a with
    | ⟨0, _⟩ => blk_simp [index16]; show t.val * 512 + r.val = 512 * t.val + r.val; omega
    | ⟨1, _⟩ => blk_simp [index16]
  refine Eq.trans ?_ (congrArg _ h.symm)
  exact output m c t r e

/-- The second result array is the reference's. -/
theorem final17 : (dats m 0 c).arrAt 17 cfg0.N = Cert.Reference2Ideal.Read.val_main_v56 (a0 m c) (a1 m c) (a2 m c) (a3 m c) (a4 m c) (a5 m c) (a6 m c) := by
  refine (dats m 0 c).arrAt_eq_of_covers 17 _ covers17 fun t hf y => ?_
  have h3 := flush17 t hf
  blk_simp
  rw [after0_17]
  obtain ⟨k, D, rfl⟩ : ∃ (k : Fin 2) (D : Fin 5632), y = ix3 0 k D := ⟨y 1, y 2, Ref.at_eq fun a => match a with
    | ⟨0, _⟩ => Nat.lt_one_iff.1 (y 0).isLt
    | ⟨1, _⟩ => rfl
    | ⟨2, _⟩ => rfl⟩
  have h : (win0_17.blk t).view.emb (ix3 0 k D) = ix3 (entry t) k D := by
    refine Ref.at_eq fun a => ?_
    match a with
    | ⟨0, _⟩ => blk_simp [index17]; rfl
    | ⟨1, _⟩ => blk_simp [index17]
    | ⟨2, _⟩ => blk_simp [index17]
  refine Eq.trans ?_ (congrArg _ h.symm)
  refine (history m c t (ix3 0 k D)).trans ((keep_line (given m c) t k D).trans ?_)
  refine Eq.trans ?_ (Ref.v56_at _ _ _ _ _ _ _ (entry t) k D).symm
  rw [line_eq]
  exact congrArg (fun s => upsM (given m c) (Ref.tok (entry t) s) D) (Fin.ext (by
    show 512 * (t.val % 4) + (510 + k.val) = 2046 + k.val
    omega))

end Cert.Ffn

end
-- ==== Proof.Ffn.Claim.lean ====
/-
  The feed-forward part's claims: the launch and the reference end with the same two arrays.
-/
module

public import proofs.«01_k».proof.Defs
public import proofs.«01_k».proof.Proof.Ffn.Final
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read

@[expose] public section

set_option maxRecDepth 16384

noncomputable section

namespace Cert.Ffn

open Idealize.ShloMosaic Idealize.ShloMosaic.TcCoe Idealize.ShloMosaic.StableHlo Idealize.SL.Sem

/-- The reference runs and leaves its arguments and the counters as they were. -/
theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- From the same arguments both end with the same two arrays. -/
theorem agree : Cert.algebraic_Kernel2Ideal_Reference2Ideal := by
  intro m ρ m' ρ' _ hargs
  refine ⟨fun c => (Cert.Kernel2Ideal.Gen.dats m 0 c).arrAt 16 Cert.Kernel2Ideal.cfg0.N, fun c => (Cert.Kernel2Ideal.Gen.dats m 0 c).arrAt 17 Cert.Kernel2Ideal.cfg0.N,
    Cert.Kernel2Ideal.Value.run_blocks m ρ, ?_⟩
  refine (θ_run Cert.Reference2Ideal.defs _ _).mono (fun r h c => ?_) (Cert.Reference2Ideal.Value.run (F := Ideal) m' ρ')
  obtain ⟨e0, e1, e2, e3, e4, e5, e6, e7, e8, e9, e10⟩ := hargs c
  refine ⟨?_, ?_, (h c).2.2⟩
  · refine ((h c).1.trans (Cert.Reference2Ideal.Read.val_main_v78_eq (launchContents m' c))).trans ?_
    rw [(launchContents_devRef m' c _).trans e0, (launchContents_devRef m' c _).trans e1, (launchContents_devRef m' c _).trans e2, (launchContents_devRef m' c _).trans e3, (launchContents_devRef m' c _).trans e4, (launchContents_devRef m' c _).trans e5, (launchContents_devRef m' c _).trans e6, (launchContents_devRef m' c _).trans e7, (launchContents_devRef m' c _).trans e8, (launchContents_devRef m' c _).trans e9, (launchContents_devRef m' c _).trans e10]
    exact (final16 m c).symm
  · refine ((h c).2.1.trans (Cert.Reference2Ideal.Read.val_main_v56_eq (launchContents m' c))).trans ?_
    rw [(launchContents_devRef m' c _).trans e0, (launchContents_devRef m' c _).trans e1, (launchContents_devRef m' c _).trans e2, (launchContents_devRef m' c _).trans e3, (launchContents_devRef m' c _).trans e4, (launchContents_devRef m' c _).trans e5, (launchContents_devRef m' c _).trans e6]
    exact (final17 m c).symm

end Cert.Ffn

end
-- ==== Proof.First.Spec.lean ====
/-
  The reference of the first layer's call is the second layer's at weights whose two layers are both the first.
-/
module

public import proofs.«01_k».proof.Proof.Gen.Reference3Ideal.Read
public import proofs.«01_k».proof.Proof.Ffn.Spec

@[expose] public section

set_option maxRecDepth 16384

noncomputable section

namespace Cert.First

open Idealize.ShloMosaic Idealize.ShloMosaic.TcCoe
open Cert.Reference2Ideal Cert.Ffn.Ref

/-- Weights with the first layer's entries in both layers. -/
def both4 (x : Vec Ideal S2x1024x1024 .f32) : Vec Ideal S2x1024x1024 .f32 := fun i => x (ix3 0 (i 1 : Fin 1024) (i 2 : Fin 1024))
def both5 (x : Vec Ideal S2x1024 .f32) : Vec Ideal S2x1024 .f32 := fun i => x (ix2 0 (i 1 : Fin 1024))
def both6 (x : Vec Ideal S2x1024x5632 .f32) : Vec Ideal S2x1024x5632 .f32 := fun i => x (ix3 0 (i 1 : Fin 1024) (i 2 : Fin 5632))
def both7 (x : Vec Ideal S2x3x5632 .f32) : Vec Ideal S2x3x5632 .f32 := fun i => x (ix3 0 (i 1 : Fin 3) (i 2 : Fin 5632))
def both8 (x : Vec Ideal S2x5632 .f32) : Vec Ideal S2x5632 .f32 := fun i => x (ix2 0 (i 1 : Fin 5632))
def both9 (x : Vec Ideal S2x2816x1024 .f32) : Vec Ideal S2x2816x1024 .f32 := fun i => x (ix3 0 (i 1 : Fin 2816) (i 2 : Fin 1024))

variable (x0 : (⟨S16384x1024, .f32⟩ : BufTy).Contents (Elt Ideal)) (x1 x2 : (⟨S16384x384, .bf16⟩ : BufTy).Contents (Elt Ideal))
  (x3 : (⟨S16384x256, .bf16⟩ : BufTy).Contents (Elt Ideal)) (x4 : (⟨S2x1024x1024, .f32⟩ : BufTy).Contents (Elt Ideal))
  (x5 : (⟨S2x1024, .f32⟩ : BufTy).Contents (Elt Ideal)) (x6 : (⟨S2x1024x5632, .f32⟩ : BufTy).Contents (Elt Ideal))
  (x7 : (⟨S2x3x5632, .f32⟩ : BufTy).Contents (Elt Ideal)) (x8 : (⟨S2x5632, .f32⟩ : BufTy).Contents (Elt Ideal))
  (x9 : (⟨S2x2816x1024, .f32⟩ : BufTy).Contents (Elt Ideal))

open Cert.Reference3Ideal.Read in
theorem v4_same : val_main_v4 x4 = Cert.Reference2Ideal.Read.val_main_v4 (both4 x4) := funext fun i => by
  rw [val_main_v4_apply, Cert.Reference2Ideal.Read.val_main_v4_apply]
  exact congrArg x4 (at_eq fun a => match a with
    | ⟨0, _⟩ => Nat.lt_one_iff.1 (i 0).isLt
    | ⟨1, _⟩ => rfl
    | ⟨2, _⟩ => rfl)

open Cert.Reference3Ideal.Read in
theorem v8_same : val_main_v8 x5 = Cert.Reference2Ideal.Read.val_main_v8 (both5 x5) := funext fun i => by
  rw [val_main_v8_apply, Cert.Reference2Ideal.Read.val_main_v8_apply]
  exact congrArg x5 (at_eq fun a => match a with
    | ⟨0, _⟩ => Nat.lt_one_iff.1 (i 0).isLt
    | ⟨1, _⟩ => rfl)

open Cert.Reference3Ideal.Read in
theorem v23_same : val_main_v23 x6 = Cert.Reference2Ideal.Read.val_main_v23 (both6 x6) := funext fun i => by
  rw [val_main_v23_apply, Cert.Reference2Ideal.Read.val_main_v23_apply]
  exact congrArg x6 (at_eq fun a => match a with
    | ⟨0, _⟩ => Nat.lt_one_iff.1 (i 0).isLt
    | ⟨1, _⟩ => rfl
    | ⟨2, _⟩ => rfl)

open Cert.Reference3Ideal.Read in
theorem v27_same : val_main_v27 x7 = Cert.Reference2Ideal.Read.val_main_v27 (both7 x7) := funext fun i => by
  rw [val_main_v27_apply, Cert.Reference2Ideal.Read.val_main_v27_apply]
  exact congrArg x7 (at_eq fun a => match a with
    | ⟨0, _⟩ => Nat.lt_one_iff.1 (i 0).isLt
    | ⟨1, _⟩ => rfl
    | ⟨2, _⟩ => rfl)

open Cert.Reference3Ideal.Read in
theorem v29_same : val_main_v29 x8 = Cert.Reference2Ideal.Read.val_main_v29 (both8 x8) := funext fun i => by
  rw [val_main_v29_apply, Cert.Reference2Ideal.Read.val_main_v29_apply]
  exact congrArg x8 (at_eq fun a => match a with
    | ⟨0, _⟩ => Nat.lt_one_iff.1 (i 0).isLt
    | ⟨1, _⟩ => rfl)

open Cert.Reference3Ideal.Read in
theorem v62_same : val_main_v62 x9 = Cert.Reference2Ideal.Read.val_main_v62 (both9 x9) := funext fun i => by
  rw [val_main_v62_apply, Cert.Reference2Ideal.Read.val_main_v62_apply]
  exact congrArg x9 (at_eq fun a => match a with
    | ⟨0, _⟩ => Nat.lt_one_iff.1 (i 0).isLt
    | ⟨1, _⟩ => rfl
    | ⟨2, _⟩ => rfl)

open Cert.Reference3Ideal.Read in
theorem v7_same : val_main_v7 x0 x1 x2 x3 x4 = Cert.Reference2Ideal.Read.val_main_v7 x0 x1 x2 x3 (both4 x4) := by
  unfold val_main_v7 val_main_v6 val_main_v5
  rw [v4_same]
  rfl

open Cert.Reference3Ideal.Read in
theorem v22_same : val_main_v22 x0 x1 x2 x3 x4 x5 = Cert.Reference2Ideal.Read.val_main_v22 x0 x1 x2 x3 (both4 x4) (both5 x5) := by
  unfold val_main_v22 val_main_v21 val_main_v20 val_main_v19 val_main_v18 val_main_v17 val_main_v16 val_main_v14 val_main_v12 val_main_v11
    val_main_v10 val_main_v9
  rw [v7_same, v8_same]
  rfl

open Cert.Reference3Ideal.Read in
theorem v32_same : val_main_v32 x0 x1 x2 x3 x4 x5 x6 = Cert.Reference2Ideal.Read.val_main_v32 x0 x1 x2 x3 (both4 x4) (both5 x5) (both6 x6) := by
  unfold val_main_v32 val_main_v26 val_main_v25 val_main_v24
  rw [v22_same, v23_same]
  rfl

open Cert.Reference3Ideal.Read in
/-- The second result. -/
theorem v56_same : val_main_v56 x0 x1 x2 x3 x4 x5 x6 = Cert.Reference2Ideal.Read.val_main_v56 x0 x1 x2 x3 (both4 x4) (both5 x5) (both6 x6) := by
  unfold val_main_v56
  rw [v32_same]
  rfl

open Cert.Reference3Ideal.Read in
theorem v55_same : val_main_v55 x0 x1 x2 x3 x4 x5 x6 x7 x8
    = Cert.Reference2Ideal.Read.val_main_v55 x0 x1 x2 x3 (both4 x4) (both5 x5) (both6 x6) (both7 x7) (both8 x8) := by
  unfold val_main_v55 val_main_v54 val_main_v53 val_main_v52 val_main_v51 val_main_v50 val_main_v49 val_main_v48 val_main_v47 val_main_v46
    val_main_v45 val_main_v44 val_main_v43 val_main_v42 val_main_v41 val_main_v40 val_main_v39 val_main_v38 val_main_v37 val_main_v36
    val_main_v35 val_main_v34 val_main_v33 val_main_v30 val_main_v28
  rw [v32_same, v27_same, v29_same]
  rfl

open Cert.Reference3Ideal.Read in
theorem v61_same : val_main_v61 x0 x1 x2 x3 x4 x5 x6 x7 x8
    = Cert.Reference2Ideal.Read.val_main_v61 x0 x1 x2 x3 (both4 x4) (both5 x5) (both6 x6) (both7 x7) (both8 x8) := by
  unfold val_main_v61 val_main_v60 val_main_v59 val_main_v58 val_main_v57 val_main_call0_v5 val_main_call0_v3 val_main_call0_v1 val_main_call0_v0
    val_main_v57
  rw [v55_same]
  rfl

open Cert.Reference3Ideal.Read in
/-- The first result. -/
theorem v65_same : val_main_v65 x0 x1 x2 x3 x4 x5 x6 x7 x8 x9
    = Cert.Reference2Ideal.Read.val_main_v65 x0 x1 x2 x3 (both4 x4) (both5 x5) (both6 x6) (both7 x7) (both8 x8) (both9 x9) := by
  unfold val_main_v65 val_main_v64 val_main_v63
  rw [v7_same, v61_same, v62_same]
  rfl

end Cert.First

end
-- ==== Proof.First.Blocks.lean ====
/-
  The blocks a tile of the first layer's call is given: as the second layer's, of the first layer's weights.
-/
module

public import proofs.«01_k».proof.Proof.Gen.Kernel3Ideal.Value
public import proofs.«01_k».proof.Proof.Ffn.Grid
public import proofs.«01_k».proof.Proof.First.Spec
public import Idealize.ShloMosaic.Lib.Pipeline.ValueKit

@[expose] public section

set_option maxRecDepth 16384

noncomputable section

namespace Cert.First

open Cert.Kernel3Ideal Cert.Kernel3Ideal.Gen
open Cert.Ffn (Given)
open Cert.Ffn.Ref (at_eq)
open Idealize.ShloMosaic Idealize.ShloMosaic.TcCoe Idealize.ShloMosaic.Tactic

variable (m : (ℓ : Loc nD τ Cert.Kernel3Ideal.sig) → Buf (Elt Ideal) ℓ) (c : Dev nD)

/-- The arguments the call computes with. -/
def a0 : Vec Ideal S16384x1024 .f32 := m ((c : Thread nD τ).loc main_arg0)
def a1 : Vec Ideal S16384x384 .bf16 := m ((c : Thread nD τ).loc main_arg1)
def a2 : Vec Ideal S16384x384 .bf16 := m ((c : Thread nD τ).loc main_arg2)
def a3 : Vec Ideal S16384x256 .bf16 := m ((c : Thread nD τ).loc main_arg3)
def a4 : Vec Ideal S2x1024x1024 .f32 := m ((c : Thread nD τ).loc main_arg4)
def a5 : Vec Ideal S2x1024 .f32 := m ((c : Thread nD τ).loc main_arg5)
def a6 : Vec Ideal S2x1024x5632 .f32 := m ((c : Thread nD τ).loc main_arg6)
def a7 : Vec Ideal S2x3x5632 .f32 := m ((c : Thread nD τ).loc main_arg7)
def a8 : Vec Ideal S2x5632 .f32 := m ((c : Thread nD τ).loc main_arg8)
def a9 : Vec Ideal S2x2816x1024 .f32 := m ((c : Thread nD τ).loc main_arg9)

/-- A tile's number and row as the second layer's call counts them. -/
def tileOf (t : Fin cfg0.N) : Fin Cert.Kernel2Ideal.cfg0.N := ⟨t.val, t.isLt⟩
def line (t : Fin cfg0.N) (r : Fin 512) : Fin 16384 := Cert.Ffn.line (tileOf t) r

theorem line_val (t : Fin cfg0.N) (r : Fin 512) : (line t r).val = 512 * t.val + r.val := rfl

theorem index_rows : ∀ t : Fin cfg0.N, win0_0.index t = ![t.val, 0] ∧ win0_1.index t = ![t.val, 0] ∧ win0_2.index t = ![t.val, 0]
    ∧ win0_3.index t = ![t.val, 0] ∧ win0_16.index t = ![t.val, 0] ∧ win0_17.index t = ![t.val / 4, 0, 0] :=
  (by decide +kernel : ∀ t : Fin grid0.N, _)
theorem index_weights : ∀ t : Fin cfg0.N, win0_4.index t = ![0, 0, 0] ∧ win0_5.index t = ![0, 0, 0] ∧ win0_6.index t = ![0, 0, 0]
    ∧ win0_7.index t = ![0, 0, 1] ∧ win0_8.index t = ![0, 0, 0] ∧ win0_9.index t = ![0, 0, 1] ∧ win0_10.index t = ![0, 0, 0]
    ∧ win0_11.index t = ![0, 0, 1] ∧ win0_12.index t = ![0, 0, 0] := (by decide +kernel : ∀ t : Fin grid0.N, _)

theorem block0 (t : Fin cfg0.N) (r : Fin 512) (e : Fin 1024) : (iblk m c 0 t : Vec Ideal S512x1024 .f32) (ix2 r e) = a0 m c (ix2 (line t r) e) := by
  unfold a0
  blk_simp [iblk]
  rw [V_main_arg0]
  congr 1
  refine at_eq fun a => ?_
  match a with
  | ⟨0, _⟩ => blk_simp [index_rows]; show t.val * 512 + r.val = 512 * t.val + r.val; omega
  | ⟨1, _⟩ => blk_simp [index_rows]

theorem block1 (t : Fin cfg0.N) (r : Fin 512) (e : Fin 384) : (iblk m c 1 t : Vec Ideal S512x384 .bf16) (ix2 r e) = a1 m c (ix2 (line t r) e) := by
  unfold a1
  blk_simp [iblk]
  rw [V_main_arg1]
  congr 1
  refine at_eq fun a => ?_
  match a with
  | ⟨0, _⟩ => blk_simp [index_rows]; show t.val * 512 + r.val = 512 * t.val + r.val; omega
  | ⟨1, _⟩ => blk_simp [index_rows]

theorem block2 (t : Fin cfg0.N) (r : Fin 512) (e : Fin 384) : (iblk m c 2 t : Vec Ideal S512x384 .bf16) (ix2 r e) = a2 m c (ix2 (line t r) e) := by
  unfold a2
  blk_simp [iblk]
  rw [V_main_arg2]
  congr 1
  refine at_eq fun a => ?_
  match a with
  | ⟨0, _⟩ => blk_simp [index_rows]; show t.val * 512 + r.val = 512 * t.val + r.val; omega
  | ⟨1, _⟩ => blk_simp [index_rows]

theorem block3 (t : Fin cfg0.N) (r : Fin 512) (e : Fin 256) : (iblk m c 3 t : Vec Ideal S512x256 .bf16) (ix2 r e) = a3 m c (ix2 (line t r) e) := by
  unfold a3
  blk_simp [iblk]
  rw [V_main_arg3]
  congr 1
  refine at_eq fun a => ?_
  match a with
  | ⟨0, _⟩ => blk_simp [index_rows]; show t.val * 512 + r.val = 512 * t.val + r.val; omega
  | ⟨1, _⟩ => blk_simp [index_rows]

theorem block4 (t : Fin cfg0.N) (k e : Fin 1024) : (iblk m c 4 t : Vec Ideal S1x1024x1024 .bf16) (ix3 0 k e) = a4 m c (ix3 0 k e) := by
  unfold a4
  blk_simp [iblk]
  entry_read
  have h : (((View.whole main_v2).slice (win0_4.rect t)).emb (ix3 0 k e)) = ix3 0 k e := at_eq fun a => by
    match a with
    | ⟨0, _⟩ => blk_simp [index_weights]; rfl
    | ⟨1, _⟩ => blk_simp [index_weights]
    | ⟨2, _⟩ => blk_simp [index_weights]
  exact congrArg _ h

theorem block5 (t : Fin cfg0.N) (k : Fin 1024) : (iblk m c 5 t : Vec Ideal S1x1x1024 .f32) (ix3 0 0 k) = a5 m c (ix2 0 k) := by
  unfold a5
  blk_simp [iblk]
  entry_read
  have h : (((View.whole main_v5).slice (win0_5.rect t)).emb (ix3 0 0 k)) = ix3 0 0 k := at_eq fun a => by
    match a with
    | ⟨0, _⟩ => blk_simp [index_weights]; rfl
    | ⟨1, _⟩ => blk_simp [index_weights]
    | ⟨2, _⟩ => blk_simp [index_weights]
  refine (congrArg _ h).trans ?_
  pointwise

theorem block6 (t : Fin cfg0.N) (k : Fin 1024) (d : Fin 2816) :
    (iblk m c 6 t : Vec Ideal S1x1024x2816 .bf16) (ix3 0 k d) = a6 m c (ix3 0 k (⟨d.val, by omega⟩ : Fin 5632)) := by
  unfold a6
  blk_simp [iblk]
  entry_read
  have h : (((View.whole main_v3).slice (win0_6.rect t)).emb (ix3 0 k d)) = ix3 0 k (⟨d.val, by omega⟩ : Fin 5632) := at_eq fun a => by
    match a with
    | ⟨0, _⟩ => blk_simp [index_weights]; rfl
    | ⟨1, _⟩ => blk_simp [index_weights]
    | ⟨2, _⟩ => blk_simp [index_weights]
  exact congrArg _ h

theorem block7 (t : Fin cfg0.N) (k : Fin 1024) (d : Fin 2816) :
    (iblk m c 7 t : Vec Ideal S1x1024x2816 .bf16) (ix3 0 k d) = a6 m c (ix3 0 k (⟨2816 + d.val, by omega⟩ : Fin 5632)) := by
  unfold a6
  blk_simp [iblk]
  entry_read
  have h : (((View.whole main_v3).slice (win0_7.rect t)).emb (ix3 0 k d)) = ix3 0 k (⟨2816 + d.val, by omega⟩ : Fin 5632) := at_eq fun a => by
    match a with
    | ⟨0, _⟩ => blk_simp [index_weights]; rfl
    | ⟨1, _⟩ => blk_simp [index_weights]
    | ⟨2, _⟩ => blk_simp [index_weights]
  exact congrArg _ h

theorem block8 (t : Fin cfg0.N) (j : Fin 3) (d : Fin 2816) :
    (iblk m c 8 t : Vec Ideal S1x3x2816 .f32) (ix3 0 j d) = a7 m c (ix3 0 j (⟨d.val, by omega⟩ : Fin 5632)) := by
  unfold a7
  blk_simp [iblk]
  rw [V_main_arg7]
  congr 1
  refine at_eq fun a => ?_
  match a with
  | ⟨0, _⟩ => blk_simp [index_weights]; rfl
  | ⟨1, _⟩ => blk_simp [index_weights]
  | ⟨2, _⟩ => blk_simp [index_weights]

theorem block9 (t : Fin cfg0.N) (j : Fin 3) (d : Fin 2816) :
    (iblk m c 9 t : Vec Ideal S1x3x2816 .f32) (ix3 0 j d) = a7 m c (ix3 0 j (⟨2816 + d.val, by omega⟩ : Fin 5632)) := by
  unfold a7
  blk_simp [iblk]
  rw [V_main_arg7]
  congr 1
  refine at_eq fun a => ?_
  match a with
  | ⟨0, _⟩ => blk_simp [index_weights]; rfl
  | ⟨1, _⟩ => blk_simp [index_weights]
  | ⟨2, _⟩ => blk_simp [index_weights]

theorem block10 (t : Fin cfg0.N) (d : Fin 2816) :
    (iblk m c 10 t : Vec Ideal S1x1x2816 .f32) (ix3 0 0 d) = a8 m c (ix2 0 (⟨d.val, by omega⟩ : Fin 5632)) := by
  unfold a8
  blk_simp [iblk]
  entry_read
  have h : (((View.whole main_v6).slice (win0_10.rect t)).emb (ix3 0 0 d)) = ix3 0 0 (⟨d.val, by omega⟩ : Fin 5632) := at_eq fun a => by
    match a with
    | ⟨0, _⟩ => blk_simp [index_weights]; rfl
    | ⟨1, _⟩ => blk_simp [index_weights]
    | ⟨2, _⟩ => blk_simp [index_weights]
  refine (congrArg _ h).trans ?_
  pointwise

theorem block11 (t : Fin cfg0.N) (d : Fin 2816) :
    (iblk m c 11 t : Vec Ideal S1x1x2816 .f32) (ix3 0 0 d) = a8 m c (ix2 0 (⟨2816 + d.val, by omega⟩ : Fin 5632)) := by
  unfold a8
  blk_simp [iblk]
  entry_read
  have h : (((View.whole main_v6).slice (win0_11.rect t)).emb (ix3 0 0 d)) = ix3 0 0 (⟨2816 + d.val, by omega⟩ : Fin 5632) := at_eq fun a => by
    match a with
    | ⟨0, _⟩ => blk_simp [index_weights]; rfl
    | ⟨1, _⟩ => blk_simp [index_weights]
    | ⟨2, _⟩ => blk_simp [index_weights]
  refine (congrArg _ h).trans ?_
  pointwise

theorem block12 (t : Fin cfg0.N) (d : Fin 2816) (e : Fin 1024) :
    (iblk m c 12 t : Vec Ideal S1x2816x1024 .bf16) (ix3 0 d e) = a9 m c (ix3 0 d e) := by
  unfold a9
  blk_simp [iblk]
  entry_read
  have h : (((View.whole main_v4).slice (win0_12.rect t)).emb (ix3 0 d e)) = ix3 0 d e := at_eq fun a => by
    match a with
    | ⟨0, _⟩ => blk_simp [index_weights]; rfl
    | ⟨1, _⟩ => blk_simp [index_weights]
    | ⟨2, _⟩ => blk_simp [index_weights]
  exact congrArg _ h

/-- The history a group starts from is zero. -/
theorem block13 (t : Fin cfg0.N) (y : S1x2x2816.Idx) : (iblk m c 13 t : Vec Ideal S1x2x2816 .f32) y = (0 : EReal) := by
  blk_simp [iblk]
  entry_read
  exact Ideal.ofBits_zero_f32

theorem block14 (t : Fin cfg0.N) (y : S1x2x2816.Idx) : (iblk m c 14 t : Vec Ideal S1x2x2816 .f32) y = (0 : EReal) := by
  blk_simp [iblk]
  entry_read
  exact Ideal.ofBits_zero_f32

/-- A tile of the second layer's call as a tile of this one. -/
def tileIn (t : Fin Cert.Kernel2Ideal.cfg0.N) : Fin cfg0.N := ⟨t.val, t.isLt⟩

/-- The launch's arguments and blocks. -/
def given : Given where
  a0 := a0 m c
  a1 := a1 m c
  a2 := a2 m c
  a3 := a3 m c
  a4 := both4 (a4 m c)
  a5 := both5 (a5 m c)
  a6 := both6 (a6 m c)
  a7 := both7 (a7 m c)
  a8 := both8 (a8 m c)
  a9 := both9 (a9 m c)
  b0 := fun t => iblk m c 0 (tileIn t)
  b1 := fun t => iblk m c 1 (tileIn t)
  b2 := fun t => iblk m c 2 (tileIn t)
  b3 := fun t => iblk m c 3 (tileIn t)
  b4 := fun t => iblk m c 4 (tileIn t)
  b5 := fun t => iblk m c 5 (tileIn t)
  b6 := fun t => iblk m c 6 (tileIn t)
  b7 := fun t => iblk m c 7 (tileIn t)
  b8 := fun t => iblk m c 8 (tileIn t)
  b9 := fun t => iblk m c 9 (tileIn t)
  b10 := fun t => iblk m c 10 (tileIn t)
  b11 := fun t => iblk m c 11 (tileIn t)
  b12 := fun t => iblk m c 12 (tileIn t)
  block0 := fun t => block0 m c (tileIn t)
  block1 := fun t => block1 m c (tileIn t)
  block2 := fun t => block2 m c (tileIn t)
  block3 := fun t => block3 m c (tileIn t)
  block4 := fun t => block4 m c (tileIn t)
  block5 := fun t => block5 m c (tileIn t)
  block6 := fun t => block6 m c (tileIn t)
  block7 := fun t => block7 m c (tileIn t)
  block8 := fun t => block8 m c (tileIn t)
  block9 := fun t => block9 m c (tileIn t)
  block10 := fun t => block10 m c (tileIn t)
  block11 := fun t => block11 m c (tileIn t)
  block12 := fun t => block12 m c (tileIn t)

end Cert.First

end
-- ==== Proof.First.KeepA.lean ====
/-
  The first layer's call leaves in its history block what the second layer's does, at a group's first grid point.
-/
module

public import proofs.«01_k».proof.Proof.Gen.Kernel3Ideal.Frame
public import proofs.«01_k».proof.Proof.Ffn.KeepA

@[expose] public section

set_option maxRecDepth 16384
set_option maxHeartbeats 400000

noncomputable section

namespace Cert.First

open Idealize.ShloMosaic Idealize.ShloMosaic.TcCoe

theorem out_A17 : @Cert.Kernel3Ideal.Gen.out0_A_17 Ideal _ = @Cert.Kernel2Ideal.Gen.out0_A_17 Ideal _ := rfl

end Cert.First

end
-- ==== Proof.First.KeepB.lean ====
/-
  The first layer's call leaves in its history block what the second layer's does, at later grid points.
-/
module

public import proofs.«01_k».proof.Proof.Gen.Kernel3Ideal.Frame
public import proofs.«01_k».proof.Proof.Ffn.KeepB

@[expose] public section

set_option maxRecDepth 16384
set_option maxHeartbeats 400000

noncomputable section

namespace Cert.First

open Idealize.ShloMosaic Idealize.ShloMosaic.TcCoe

theorem out_B17 : @Cert.Kernel3Ideal.Gen.out0_B_17 Ideal _ = @Cert.Kernel2Ideal.Gen.out0_B_17 Ideal _ := rfl

end Cert.First

end
-- ==== Proof.First.Tile.lean ====
/-
  The first layer's call steps as the second layer's does, and stores its rows where that call norms them.
-/
module

public import proofs.«01_k».proof.Proof.Gen.Kernel3Ideal.Frame
public import proofs.«01_k».proof.Proof.Ffn.TileA
public import proofs.«01_k».proof.Proof.Ffn.TileB

@[expose] public section

set_option maxRecDepth 16384
set_option maxHeartbeats 400000

noncomputable section

namespace Cert.First

open Idealize.ShloMosaic Idealize.ShloMosaic.TcCoe
open Cert.Kernel3Ideal Cert.Kernel3Ideal.Gen
open Cert.Ffn (body first hist downA downB)

/-- The rows both calls reach. -/
theorem rows_A : @Cert.Kernel3Ideal.Gen.kernelRun0_A.sl.r_74 Ideal _ = @Cert.Kernel2Ideal.Gen.kernelRun0_A.sl.r_74 Ideal _ := rfl
theorem rows_B : @Cert.Kernel3Ideal.Gen.kernelRun0_B.sl.r_74 Ideal _ = @Cert.Kernel2Ideal.Gen.kernelRun0_B.sl.r_74 Ideal _ := rfl

/-- A group's first grid point stores its rows. -/
theorem tile_A (c : Dev nD) (i : grid0.Coords) (arg3 : Memref sig .tc .vmem S512x1024 .f32) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x256 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1024x2816 .bf16) (harg9 : arg9.IsWhole) (arg10 : Memref sig .tc .vmem S1x1024x2816 .bf16) (harg10 : arg10.IsWhole) (arg11 : Memref sig .tc .vmem S1x3x2816 .f32) (harg11 : arg11.IsWhole) (arg12 : Memref sig .tc .vmem S1x3x2816 .f32) (harg12 : arg12.IsWhole) (arg13 : Memref sig .tc .vmem S1x1x2816 .f32) (harg13 : arg13.IsWhole) (arg14 : Memref sig .tc .vmem S1x1x2816 .f32) (harg14 : arg14.IsWhole) (arg15 : Memref sig .tc .vmem S1x2816x1024 .bf16) (harg15 : arg15.IsWhole) (arg16 : Memref sig .tc .vmem S1x2x2816 .f32) (harg16 : arg16.IsWhole) (arg17 : Memref sig .tc .vmem S1x2x2816 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x2x5632 .f32) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S8x1024 .f32) (harg23 : arg23.IsWhole) (arg24 : Memref sig .tc .vmem S512x2816 .bf16) (harg24 : arg24.IsWhole) (arg25 : Memref sig .tc .vmem S4x520x256 .f32) (harg25 : arg25.IsWhole) (hc0 : cond0_0 i)
    (x0 : Vec Ideal S512x1024 .f32) (x1 : Vec Ideal S512x384 .bf16) (x2 : Vec Ideal S512x384 .bf16) (x3 : Vec Ideal S512x256 .bf16) (x4 : Vec Ideal S1x1024x1024 .bf16) (x5 : Vec Ideal S1x1x1024 .f32) (x6 : Vec Ideal S1x1024x2816 .bf16) (x7 : Vec Ideal S1x1024x2816 .bf16) (x8 : Vec Ideal S1x3x2816 .f32) (x9 : Vec Ideal S1x3x2816 .f32) (x10 : Vec Ideal S1x1x2816 .f32) (x11 : Vec Ideal S1x1x2816 .f32) (x12 : Vec Ideal S1x2816x1024 .bf16) (x13 : Vec Ideal S1x2x2816 .f32) (x14 : Vec Ideal S1x2x2816 .f32) (x15 : Vec Ideal S1x1024 .f32)  (r : Fin 512) (e : Fin 1024) :
    (out0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 : S512x1024.Idx → EReal) (ix2 r e)
      = body (k0_pay3 x0 x1 x2 x3 x4) (k0_pay5 x0 x1 x2 x3 x4 x5) x6 x7 x8 x9 x10 x11 x12
          (first x13) (first x14) r e := by
  unfold out0_A_16 kernelRun0_A
  dsimp only
  obtain ⟨G, hG⟩ : ∃ G : S512x1024.Idx → EReal, ∀ r e, G (ix2 r e) = body (k0_pay3 x0 x1 x2 x3 x4) (k0_pay5 x0 x1 x2 x3 x4 x5) x6 x7 x8 x9 x10 x11 x12
          (first x13) (first x14) r e :=
    ⟨fun y => body (k0_pay3 x0 x1 x2 x3 x4) (k0_pay5 x0 x1 x2 x3 x4 x5) x6 x7 x8 x9 x10 x11 x12
          (first x13) (first x14) (y 0) (y 1), fun _ _ => rfl⟩
  rw [← hG]
  refine (View.read_writes_apply_of_pieces (Val := Elt Ideal) VO0_16 _ G _ ?_ (ix2 r e) ?_)
  case refine_2 => exact View.cover_of_tiled _ S512x1024.size rfl _
  refine List.forall_mem_singleton.2 fun y => ?_
  obtain ⟨r, e, rfl⟩ : ∃ (r : Fin 512) (e : Fin 1024), y = ix2 r e := ⟨y 0, y 1, funext fun a => match a with
    | ⟨0, _⟩ => rfl
    | ⟨1, _⟩ => rfl⟩
  have he : (Rect.unit (s := S512x1024) ![0, 0] ![512, 1024] inb_S512x1024_S512x1024_0_0).emb (ix2 r e) = ix2 r e := funext fun a => Fin.ext (match a with
    | ⟨0, _⟩ => show 0 + 1 * r.val = r.val by omega
    | ⟨1, _⟩ => show 0 + 1 * e.val = e.val by omega)
  refine Eq.trans ?_ ((congrArg G he).trans (hG r e)).symm
  rw [rows_A]
  exact downA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 r e

/-- A later grid point stores its rows. -/
theorem tile_B (c : Dev nD) (i : grid0.Coords) (arg3 : Memref sig .tc .vmem S512x1024 .f32) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x256 .bf16) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1024x2816 .bf16) (harg9 : arg9.IsWhole) (arg10 : Memref sig .tc .vmem S1x1024x2816 .bf16) (harg10 : arg10.IsWhole) (arg11 : Memref sig .tc .vmem S1x3x2816 .f32) (harg11 : arg11.IsWhole) (arg12 : Memref sig .tc .vmem S1x3x2816 .f32) (harg12 : arg12.IsWhole) (arg13 : Memref sig .tc .vmem S1x1x2816 .f32) (harg13 : arg13.IsWhole) (arg14 : Memref sig .tc .vmem S1x1x2816 .f32) (harg14 : arg14.IsWhole) (arg15 : Memref sig .tc .vmem S1x2816x1024 .bf16) (harg15 : arg15.IsWhole) (arg16 : Memref sig .tc .vmem S1x2x2816 .f32) (harg16 : arg16.IsWhole) (arg17 : Memref sig .tc .vmem S1x2x2816 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x2x5632 .f32) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S8x1024 .f32) (harg23 : arg23.IsWhole) (arg24 : Memref sig .tc .vmem S512x2816 .bf16) (harg24 : arg24.IsWhole) (arg25 : Memref sig .tc .vmem S4x520x256 .f32) (harg25 : arg25.IsWhole) (hc0 : ¬cond0_0 i)
    (x0 : Vec Ideal S512x1024 .f32) (x1 : Vec Ideal S512x384 .bf16) (x2 : Vec Ideal S512x384 .bf16) (x3 : Vec Ideal S512x256 .bf16) (x4 : Vec Ideal S1x1024x1024 .bf16) (x5 : Vec Ideal S1x1x1024 .f32) (x6 : Vec Ideal S1x1024x2816 .bf16) (x7 : Vec Ideal S1x1024x2816 .bf16) (x8 : Vec Ideal S1x3x2816 .f32) (x9 : Vec Ideal S1x3x2816 .f32) (x10 : Vec Ideal S1x1x2816 .f32) (x11 : Vec Ideal S1x1x2816 .f32) (x12 : Vec Ideal S1x2816x1024 .bf16) (x13 : Vec Ideal S1x2x2816 .f32) (x14 : Vec Ideal S1x2x2816 .f32) (x15 : Vec Ideal S1x1024 .f32) (xo17 : Vec Ideal S1x2x5632 .f32) (r : Fin 512) (e : Fin 1024) :
    (out0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xo17 : S512x1024.Idx → EReal) (ix2 r e)
      = body (k0_pay3 x0 x1 x2 x3 x4) (k0_pay5 x0 x1 x2 x3 x4 x5) x6 x7 x8 x9 x10 x11 x12
          (hist xo17 0 (by omega)) (hist xo17 2816 (by omega)) r e := by
  unfold out0_B_16 kernelRun0_B
  dsimp only
  obtain ⟨G, hG⟩ : ∃ G : S512x1024.Idx → EReal, ∀ r e, G (ix2 r e) = body (k0_pay3 x0 x1 x2 x3 x4) (k0_pay5 x0 x1 x2 x3 x4 x5) x6 x7 x8 x9 x10 x11 x12
          (hist xo17 0 (by omega)) (hist xo17 2816 (by omega)) r e :=
    ⟨fun y => body (k0_pay3 x0 x1 x2 x3 x4) (k0_pay5 x0 x1 x2 x3 x4 x5) x6 x7 x8 x9 x10 x11 x12
          (hist xo17 0 (by omega)) (hist xo17 2816 (by omega)) (y 0) (y 1), fun _ _ => rfl⟩
  rw [← hG]
  refine (View.read_writes_apply_of_pieces (Val := Elt Ideal) VO0_16 _ G _ ?_ (ix2 r e) ?_)
  case refine_2 => exact View.cover_of_tiled _ S512x1024.size rfl _
  refine List.forall_mem_singleton.2 fun y => ?_
  obtain ⟨r, e, rfl⟩ : ∃ (r : Fin 512) (e : Fin 1024), y = ix2 r e := ⟨y 0, y 1, funext fun a => match a with
    | ⟨0, _⟩ => rfl
    | ⟨1, _⟩ => rfl⟩
  have he : (Rect.unit (s := S512x1024) ![0, 0] ![512, 1024] inb_S512x1024_S512x1024_0_0).emb (ix2 r e) = ix2 r e := funext fun a => Fin.ext (match a with
    | ⟨0, _⟩ => show 0 + 1 * r.val = r.val by omega
    | ⟨1, _⟩ => show 0 + 1 * e.val = e.val by omega)
  refine Eq.trans ?_ ((congrArg G he).trans (hG r e)).symm
  rw [rows_B]
  exact downB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 xo17 r e

end Cert.First

end
-- ==== Proof.First.Final.lean ====
/-
  The two result arrays of the first layer's launch: every element is the reference's.
-/
module

public import proofs.«01_k».proof.Proof.Ffn.KeepA
public import proofs.«01_k».proof.Proof.Ffn.KeepB
public import proofs.«01_k».proof.Proof.First.Blocks
public import proofs.«01_k».proof.Proof.First.KeepA
public import proofs.«01_k».proof.Proof.First.KeepB
public import proofs.«01_k».proof.Proof.First.Tile

@[expose] public section

set_option maxRecDepth 16384

noncomputable section

namespace Cert.First

open Cert.Kernel3Ideal Cert.Kernel3Ideal.Gen
open Cert.Ffn (body keep entry token paddedM upsM body_line keep_line keep_before padded_zero outA17 outB17)
open Cert.Ffn.Ref (at_eq)
open Idealize.ShloMosaic Idealize.ShloMosaic.TcCoe Idealize.ShloMosaic.Tactic

variable (m : (ℓ : Loc nD τ Cert.Kernel3Ideal.sig) → Buf (Elt Ideal) ℓ) (c : Dev nD)

/-- The tile's rows at the launch's blocks. -/
theorem body_given (t : Fin cfg0.N) (Hg Hv : Fin 2 → Fin 2816 → EReal)
    (hg : ∀ (k : Fin 2) (d : Fin 2816), Hg k d = paddedM (given m c) (entry (tileOf t)) (512 * (t.val % 4) + k.val) ⟨d.val, by omega⟩)
    (hv : ∀ (k : Fin 2) (d : Fin 2816), Hv k d = paddedM (given m c) (entry (tileOf t)) (512 * (t.val % 4) + k.val) ⟨2816 + d.val, by omega⟩)
    (r : Fin 512) (e : Fin 1024) :
    body (k0_pay3 (iblk m c 0 t) (iblk m c 1 t) (iblk m c 2 t) (iblk m c 3 t) (iblk m c 4 t))
        (k0_pay5 (iblk m c 0 t) (iblk m c 1 t) (iblk m c 2 t) (iblk m c 3 t) (iblk m c 4 t) (iblk m c 5 t))
        (iblk m c 6 t) (iblk m c 7 t) (iblk m c 8 t) (iblk m c 9 t) (iblk m c 10 t) (iblk m c 11 t) (iblk m c 12 t) Hg Hv r e
      = Cert.Reference3Ideal.Read.val_main_v65 (a0 m c) (a1 m c) (a2 m c) (a3 m c) (a4 m c) (a5 m c) (a6 m c) (a7 m c) (a8 m c) (a9 m c)
          (ix2 (line t r) e) := by
  have h := body_line (given m c) (tileOf t) Hg Hv hg hv r e
  refine Eq.trans h ?_
  rw [v65_same]
  unfold line
  rw [Cert.Ffn.line_eq]
  exact (Cert.Ffn.Ref.v65_at _ _ _ _ _ _ _ _ _ _ (entry (tileOf t)) (token (tileOf t) r) e).symm

/-- What a tile leaves as history at the launch's blocks. -/
def keepT (t : Fin cfg0.N) (y : S1x2x5632.Idx) : EReal :=
  keep (k0_pay5 (iblk m c 0 t) (iblk m c 1 t) (iblk m c 2 t) (iblk m c 3 t) (iblk m c 4 t) (iblk m c 5 t)) (iblk m c 6 t) (iblk m c 7 t) y

/-- Every tile leaves the last two rows of its up projections. -/
theorem history (t : Fin cfg0.N) (y : S1x2x5632.Idx) : (outsAt0 m c t.val t.isLt).2 y = keepT m c t y := by
  by_cases h0 : t.val % 4 = 0
  · have h := outA17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) ((hcond0_0 t).mpr h0)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y
    have h1 := congrFun (congrArg Prod.snd (outsAt0_A m c t h0)) y
    dsimp only at h1
    rw [out_A17] at h1
    exact (h1.trans h).trans rfl
  · have h := outB17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2 y
    have h1 := congrFun (congrArg Prod.snd (outsAt0_B m c t h0)) y
    dsimp only at h1
    rw [out_B17] at h1
    exact (h1.trans h).trans rfl

/-- Every tile's output is the reference's. -/
theorem output (t : Fin cfg0.N) (r : Fin 512) (e : Fin 1024) :
    (outsAt0 m c t.val t.isLt).1 (ix2 r e)
      = Cert.Reference3Ideal.Read.val_main_v65 (a0 m c) (a1 m c) (a2 m c) (a3 m c) (a4 m c) (a5 m c) (a6 m c) (a7 m c) (a8 m c) (a9 m c)
          (ix2 (line t r) e) := by
  by_cases h0 : t.val % 4 = 0
  · have h := tile_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) ((hcond0_0 t).mpr h0)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r e
    have h1 := congrFun (congrArg Prod.fst (outsAt0_A m c t h0)) (ix2 r e)
    dsimp only at h1
    refine (h1.trans h).trans ?_
    refine body_given m c t _ _ (fun k d => ?_) (fun k d => ?_) r e
    · exact (block13 m c t _).trans (padded_zero (given m c) _ _ (by omega) _).symm
    · exact (block14 m c t _).trans (padded_zero (given m c) _ _ (by omega) _).symm
  · have h := tile_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2 r e
    have h1 := congrFun (congrArg Prod.fst (outsAt0_B m c t h0)) (ix2 r e)
    dsimp only at h1
    refine (h1.trans h).trans ?_
    have ht : t.val < 32 := t.isLt
    have hs : (⟨t.val - 1, Nat.lt_of_le_of_lt (Nat.sub_le _ _) t.isLt⟩ : Fin cfg0.N).val + 1 = t.val := by
      show t.val - 1 + 1 = t.val
      omega
    have hk : ∀ (k : Fin 2) (D : Fin 5632), (outsAt0 m c (t.val - 1) (Nat.lt_of_le_of_lt (Nat.sub_le _ _) t.isLt)).2 (ix3 0 k D)
        = paddedM (given m c) (entry (tileOf t)) (512 * (t.val % 4) + k.val) D := fun k D =>
      (history m c ⟨t.val - 1, Nat.lt_of_le_of_lt (Nat.sub_le _ _) t.isLt⟩ (ix3 0 k D)).trans
        (keep_before (given m c) (tileOf t) (tileOf ⟨t.val - 1, Nat.lt_of_le_of_lt (Nat.sub_le _ _) t.isLt⟩) hs h0 k D)
    refine body_given m c t _ _ (fun k d => ?_) (fun k d => hk k _) r e
    exact (hk k _).trans (congrArg (paddedM (given m c) _ _) (Fin.ext (Nat.zero_add _)))

theorem covers16 : (cfg0.win 16).Covers := by decide +kernel
theorem covers17 : (cfg0.win 17).Covers := by decide +kernel
theorem flush17 : ∀ t : Fin cfg0.N, (cfg0.win 17).flush t = true → t.val % 4 = 3 :=
  (by decide +kernel : ∀ t : Fin grid0.N, (cfg0.win 17).flush t = true → t.val % 4 = 3)

/-- The first result array is the reference's. -/
theorem final16 : (dats m 0 c).arrAt 16 cfg0.N = Cert.Reference3Ideal.Read.val_main_v65 (a0 m c) (a1 m c) (a2 m c) (a3 m c) (a4 m c) (a5 m c) (a6 m c)
    (a7 m c) (a8 m c) (a9 m c) := by
  refine (dats m 0 c).arrAt_eq_of_covers 16 _ covers16 fun t hf y => ?_
  blk_simp
  rw [after0_16]
  obtain ⟨r, e, rfl⟩ : ∃ (r : Fin 512) (e : Fin 1024), y = ix2 r e := ⟨y 0, y 1, at_eq fun a => match a with
    | ⟨0, _⟩ => rfl
    | ⟨1, _⟩ => rfl⟩
  have h : (win0_16.blk t).view.emb (ix2 r e) = ix2 (line t r) e := by
    refine at_eq fun a => ?_
    match a with
    | ⟨0, _⟩ => blk_simp [index_rows]; show t.val * 512 + r.val = 512 * t.val + r.val; omega
    | ⟨1, _⟩ => blk_simp [index_rows]
  refine Eq.trans ?_ (congrArg _ h.symm)
  exact output m c t r e

/-- The second result array is the reference's. -/
theorem final17 : (dats m 0 c).arrAt 17 cfg0.N = Cert.Reference3Ideal.Read.val_main_v56 (a0 m c) (a1 m c) (a2 m c) (a3 m c) (a4 m c) (a5 m c) (a6 m c) := by
  refine (dats m 0 c).arrAt_eq_of_covers 17 _ covers17 fun t hf y => ?_
  have h3 := flush17 t hf
  blk_simp
  rw [after0_17]
  obtain ⟨k, D, rfl⟩ : ∃ (k : Fin 2) (D : Fin 5632), y = ix3 0 k D := ⟨y 1, y 2, at_eq fun a => match a with
    | ⟨0, _⟩ => Nat.lt_one_iff.1 (y 0).isLt
    | ⟨1, _⟩ => rfl
    | ⟨2, _⟩ => rfl⟩
  have h : (win0_17.blk t).view.emb (ix3 0 k D) = ix3 (entry (tileOf t)) k D := by
    refine at_eq fun a => ?_
    match a with
    | ⟨0, _⟩ => blk_simp [index_rows]; rfl
    | ⟨1, _⟩ => blk_simp [index_rows]
    | ⟨2, _⟩ => blk_simp [index_rows]
  refine Eq.trans ?_ (congrArg _ h.symm)
  refine (history m c t (ix3 0 k D)).trans ((keep_line (given m c) (tileOf t) k D).trans ?_)
  rw [v56_same]
  refine Eq.trans ?_ (Cert.Ffn.Ref.v56_at _ _ _ _ _ _ _ (entry (tileOf t)) k D).symm
  rw [Cert.Ffn.line_eq]
  exact congrArg (fun s => upsM (given m c) (Cert.Ffn.Ref.tok (entry (tileOf t)) s) D) (Fin.ext (by
    show 512 * (t.val % 4) + (510 + k.val) = 2046 + k.val
    omega))

end Cert.First

end
-- ==== Proof.First.Claim.lean ====
/-
  The claims of the first layer's call: the launch and the reference end with the same two arrays.
-/
module

public import proofs.«01_k».proof.Defs
public import proofs.«01_k».proof.Proof.First.Final
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read

@[expose] public section

set_option maxRecDepth 16384

noncomputable section

namespace Cert.First

open Idealize.ShloMosaic Idealize.ShloMosaic.TcCoe Idealize.ShloMosaic.StableHlo Idealize.SL.Sem

/-- The reference runs and leaves its arguments and the counters as they were. -/
theorem frame_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- From the same arguments both end with the same two arrays. -/
theorem agree : Cert.algebraic_Kernel3Ideal_Reference3Ideal := by
  intro m ρ m' ρ' _ hargs
  refine ⟨fun c => (Cert.Kernel3Ideal.Gen.dats m 0 c).arrAt 16 Cert.Kernel3Ideal.cfg0.N, fun c => (Cert.Kernel3Ideal.Gen.dats m 0 c).arrAt 17 Cert.Kernel3Ideal.cfg0.N,
    Cert.Kernel3Ideal.Value.run_blocks m ρ, ?_⟩
  refine (θ_run Cert.Reference3Ideal.defs _ _).mono (fun r h c => ?_) (Cert.Reference3Ideal.Value.run (F := Ideal) m' ρ')
  obtain ⟨e0, e1, e2, e3, e4, e5, e6, e7, e8, e9, _⟩ := hargs c
  refine ⟨?_, ?_, (h c).2.2⟩
  · refine ((h c).1.trans (Cert.Reference3Ideal.Read.val_main_v65_eq m' c)).trans ?_
    rw [e0, e1, e2, e3, e4, e5, e6, e7, e8, e9]
    exact (final16 m c).symm
  · refine ((h c).2.1.trans (Cert.Reference3Ideal.Read.val_main_v56_eq _ _ _ _ _ _ _)).trans ?_
    rw [e0, e1, e2, e3, e4, e5, e6]
    exact (final17 m c).symm

end Cert.First

end
-- ==== Proof.lean ====
/-
  The claims of the two calls.
-/
module

public import proofs.«01_k».proof.Defs
public import proofs.«01_k».proof.Proof.Gen.Kernel
public import proofs.«01_k».proof.Proof.Plain.Frame
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Hgrn.Claim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Ffn.Claim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.First.Claim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite.Gen.facts,
    fun m ρ _ => Cert.Plain.frame m ρ, fun m ρ _ => Cert.Hgrn.frame m ρ, fun m ρ _ => Cert.Hgrn.frame m ρ,
    Cert.Hgrn.frame_reference, fun m ρ _ => Cert.Hgrn.frame_reference m ρ trivial,
    fun m ρ _ => Cert.Kernel2.Gen.frame m ρ, fun m ρ _ => Cert.Kernel2Ideal.Gen.frame m ρ, Cert.Ffn.frame_reference,
    fun m ρ _ => Cert.Kernel3.Gen.frame m ρ, fun m ρ _ => Cert.Kernel3Ideal.Gen.frame m ρ, Cert.First.frame_reference,
    trivial, Cert.Hgrn.agree, trivial, Cert.Ffn.agree, trivial, Cert.First.agree⟩

end Cert.Proof

end
